-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ok [hPre_ok : Cert.Pre_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ok [hPre_ok : Cert.Pre_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ok [hKernelIdeal : Cert.KernelIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ok [hReferenceIdeal : Cert.ReferenceIdeal.Facts] [hPre_ok : Cert.Pre_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_over_beta" .f32 0x40900000#32 ((67108864 / 14913081 : ℝ) : EReal)

def algebraic_KernelIdeal_ReferenceIdeal_pre_ok [hKernelIdeal : Cert.KernelIdeal.Facts] [hReferenceIdeal : Cert.ReferenceIdeal.Facts] [hPre_ok : Cert.Pre_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v216) = v1 c
          ∧ r.2.mem ((c.tc : Thread Cert.ReferenceIdeal.nD Cert.ReferenceIdeal.τ).loc Cert.ReferenceIdeal.main_v220) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ok : Cert.Pre_ok.Facts),
    quiescent_Kernel (hKernel := hKernel)
    ∧ quiescent_KernelIdeal (hKernelIdeal := hKernelIdeal)
    ∧ quiescent_KernelIdeal_pre_ok (hKernelIdeal := hKernelIdeal) (hPre_ok := hPre_ok)
    ∧ quiescent_ReferenceIdeal (hReferenceIdeal := hReferenceIdeal)
    ∧ quiescent_ReferenceIdeal_pre_ok (hReferenceIdeal := hReferenceIdeal) (hPre_ok := hPre_ok)
    ∧ preserves_Kernel_KernelIdeal
    ∧ algebraic_KernelIdeal_ReferenceIdeal_pre_ok (hKernelIdeal := hKernelIdeal) (hReferenceIdeal := hReferenceIdeal) (hPre_ok := hPre_ok)
-- ==== Pre_ok.lean ====
abbrev S2x20000x80 : Shape := ⟨3, ![2, 20000, 80]⟩
abbrev S2x20000x4 : Shape := ⟨3, ![2, 20000, 4]⟩
abbrev S2x32x4 : Shape := ⟨3, ![2, 32, 4]⟩
abbrev S2x32 : Shape := ⟨2, ![2, 32]⟩
abbrev S20000x4 : Shape := ⟨2, ![20000, 4]⟩
abbrev S_ : Shape := ⟨0, ![]⟩

class Facts : Prop where
  bcast_S_S2x20000x80 : S_.BroadcastsInDim S2x20000x80 (![] : Fin 0 → Fin S2x20000x80.rank)
  reducesTo_S2x20000x80_S_d0_1_2 : S2x20000x80.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn {F : FTy → Type} [FloatOps F] (main_arg0 : FVec F S2x20000x80 .f32) (main_arg1 : FVec F S2x20000x4 .f32) (main_arg2 : FVec F S2x32x4 .f32) (main_arg3 : IVec S2x32 32) (main_arg4 : FVec F S20000x4 .f32) : IVec S_ 1 :=
  let main_cst : FVec F S_ .f32 := constant S_ .f32 0xFF800000#32
  let main_v0 : FVec F S2x20000x80 .f32 := broadcastInDim S2x20000x80 ![] bcast_S_S2x20000x80 main_cst
  let main_v1 : IVec S2x20000x80 1 := cmpf .ogt main_arg0 main_v0
  let main_cst_0 : FVec F S_ .f32 := constant S_ .f32 0x7F800000#32
  let main_v2 : FVec F S2x20000x80 .f32 := broadcastInDim S2x20000x80 ![] bcast_S_S2x20000x80 main_cst_0
  let main_v3 : IVec S2x20000x80 1 := cmpf .olt main_arg0 main_v2
  let main_v4 : IVec S2x20000x80 1 := andi main_v1 main_v3
  let main_c : IVec S_ 1 := constantI S_ 1 1#1
  let main_v5 : IVec S_ 1 := (fun x v => Host.reduce IntOp.andi x v reducesTo_S2x20000x80_S_d0_1_2 h_S_) main_v4 main_c
  let main_c_1 : IVec S_ 32 := constantI S_ 32 4294967295#32
  let main_v6 : IVec S2x32 32 := broadcastInDim S2x32 ![] bcast_S_S2x32 main_c_1
  let main_v7 : IVec S2x32 1 := cmpi .sge main_arg3 main_v6
  let main_c_2 : IVec S_ 32 := constantI S_ 32 79#32
  let main_v8 : IVec S2x32 32 := broadcastInDim S2x32 ![] bcast_S_S2x32 main_c_2
  let main_v9 : IVec S2x32 1 := cmpi .slt main_arg3 main_v8
  let main_v10 : IVec S2x32 1 := andi main_v7 main_v9
  let main_c_3 : IVec S_ 1 := constantI S_ 1 1#1
  let main_v11 : IVec S_ 1 := (fun x v => Host.reduce IntOp.andi x v reducesTo_S2x32_S_d0_1 h_S_) main_v10 main_c_3
  let main_v12 : IVec S_ 1 := andi main_v5 main_v11
  main_v12
-- ==== Kernel.lean ====
abbrev S2x20000x80 : Shape := ⟨3, ![2, 20000, 80]⟩
abbrev S2x20000x4 : Shape := ⟨3, ![2, 20000, 4]⟩
abbrev S2x32x4 : Shape := ⟨3, ![2, 32, 4]⟩
abbrev S2x32 : Shape := ⟨2, ![2, 32]⟩
abbrev S20000x4 : Shape := ⟨2, ![20000, 4]⟩
abbrev S2x80x20000 : Shape := ⟨3, ![2, 80, 20000]⟩
abbrev S2x4x20000 : Shape := ⟨3, ![2, 4, 20000]⟩
abbrev S4x20000 : Shape := ⟨2, ![4, 20000]⟩
abbrev S2x32x1 : Shape := ⟨3, ![2, 32, 1]⟩
abbrev S1x1 : Shape := ⟨2, ![1, 1]⟩
abbrev S1x80x20000 : Shape := ⟨3, ![1, 80, 20000]⟩
abbrev S1x4x20000 : Shape := ⟨3, ![1, 4, 20000]⟩
abbrev S1x32x4 : Shape := ⟨3, ![1, 32, 4]⟩
abbrev S1x32x1 : Shape := ⟨3, ![1, 32, 1]⟩
abbrev S1x20000 : Shape := ⟨2, ![1, 20000]⟩
abbrev S32x4 : Shape := ⟨2, ![32, 4]⟩
abbrev S32x1 : Shape := ⟨2, ![32, 1]⟩
abbrev S32x20000 : Shape := ⟨2, ![32, 20000]⟩
abbrev S20000 : Shape := ⟨1, ![20000]⟩
abbrev S32 : Shape := ⟨1, ![32]⟩
abbrev S1x1x20000 : Shape := ⟨3, ![1, 1, 20000]⟩
abbrev S1 : Shape := ⟨1, ![1]⟩
abbrev S1x1x1 : Shape := ⟨3, ![1, 1, 1]⟩
abbrev S80x20000 : Shape := ⟨2, ![80, 20000]⟩
abbrev S80x1 : Shape := ⟨2, ![80, 1]⟩
abbrev S_ : Shape := ⟨0, ![]⟩

abbrev nBuf : Space → Nat
  | .hbm => 19
  | .vmem => 12
  | .smem => 0
  | _ => 0

abbrev bufTy : (tb : Table) → Fin (tcTables nBuf tb) → BufTy
  | .hbm, ⟨0, _⟩ => ⟨S2x20000x80, .f32⟩
  | .hbm, ⟨1, _⟩ => ⟨S2x20000x4, .f32⟩
  | .hbm, ⟨2, _⟩ => ⟨S2x32x4, .f32⟩
  | .hbm, ⟨3, _⟩ => ⟨S2x32, .i32⟩
  | .hbm, ⟨4, _⟩ => ⟨S20000x4, .f32⟩
  | .hbm, ⟨5, _⟩ => ⟨S2x80x20000, .f32⟩
  | .hbm, ⟨6, _⟩ => ⟨S2x4x20000, .f32⟩
  | .hbm, ⟨7, _⟩ => ⟨S4x20000, .f32⟩
  | .hbm, ⟨8, _⟩ => ⟨S2x32, .f32⟩
  | .hbm, ⟨9, _⟩ => ⟨S2x32x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x80x20000, .f32⟩
  | .local _ .vmem, ⟨1, _⟩ => ⟨S1x80x20000, .f32⟩
  | .local _ .vmem, ⟨2, _⟩ => ⟨S1x4x20000, .f32⟩
  | .local _ .vmem, ⟨3, _⟩ => ⟨S1x4x20000, .f32⟩
  | .local _ .vmem, ⟨4, _⟩ => ⟨S1x32x4, .f32⟩
  | .local _ .vmem, ⟨5, _⟩ => ⟨S1x32x4, .f32⟩
  | .local _ .vmem, ⟨6, _⟩ => ⟨S1x32x1, .f32⟩
  | .local _ .vmem, ⟨7, _⟩ => ⟨S1x32x1, .f32⟩
  | .local _ .vmem, ⟨8, _⟩ => ⟨S4x20000, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S2x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x80x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x20000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "half_over_beta" => some ((67108864 / 14913081 : ℝ) : EReal)
  | _ => none
-- ==== ReferenceIdeal.lean ====
abbrev S2x20000x80 : Shape := ⟨3, ![2, 20000, 80]⟩
abbrev S2x20000x4 : Shape := ⟨3, ![2, 20000, 4]⟩
abbrev S2x32x4 : Shape := ⟨3, ![2, 32, 4]⟩
abbrev S2x32 : Shape := ⟨2, ![2, 32]⟩
abbrev S20000x4 : Shape := ⟨2, ![20000, 4]⟩
abbrev S20000x2 : Shape := ⟨2, ![20000, 2]⟩
abbrev S_ : Shape := ⟨0, ![]⟩
abbrev S2 : Shape := ⟨1, ![2]⟩
abbrev S2x1 : Shape := ⟨2, ![2, 1]⟩
abbrev S1x20000x1x2 : Shape := ⟨4, ![1, 20000, 1, 2]⟩
abbrev S2x32x2 : Shape := ⟨3, ![2, 32, 2]⟩
abbrev S2x1x32x2 : Shape := ⟨4, ![2, 1, 32, 2]⟩
abbrev S2x20000x32x2 : Shape := ⟨4, ![2, 20000, 32, 2]⟩
abbrev S2x20000x32x1 : Shape := ⟨4, ![2, 20000, 32, 1]⟩
abbrev S2x20000x32 : Shape := ⟨3, ![2, 20000, 32]⟩
abbrev S20000x1 : Shape := ⟨2, ![20000, 1]⟩
abbrev S20000 : Shape := ⟨1, ![20000]⟩
abbrev S2x32x1 : Shape := ⟨3, ![2, 32, 1]⟩
abbrev S1x20000x1 : Shape := ⟨3, ![1, 20000, 1]⟩
abbrev S2x1x32 : Shape := ⟨3, ![2, 1, 32]⟩
abbrev S2x20000 : Shape := ⟨2, ![2, 20000]⟩
abbrev S2x20000x1 : Shape := ⟨3, ![2, 20000, 1]⟩
abbrev S2x20000x2 : Shape := ⟨3, ![2, 20000, 2]⟩
abbrev S1x1x80 : Shape := ⟨3, ![1, 1, 80]⟩
abbrev S1x20000x2 : Shape := ⟨3, ![1, 20000, 2]⟩

abbrev nBuf : Space → Nat
  | .hbm => 307
  | .vmem => 0
  | .smem => 0
  | _ => 0

abbrev hbmTy0_0 (i : Nat) : BufTy := match i % 128 with
  | 0 => ⟨S2x20000x80, .f32⟩
  | 1 => ⟨S2x20000x4, .f32⟩
  | 2 => ⟨S2x32x4, .f32⟩
  | 3 => ⟨S2x32, .i32⟩
  | 4 => ⟨S20000x4, .f32⟩
  | 5 => ⟨S20000x2, .f32⟩
  | 6 => ⟨S20000x2, .f32⟩
  | 7 => ⟨S_, .f32⟩
  | 8 => ⟨S20000x2, .f32⟩
  | 9 => ⟨S20000x2, .f32⟩
  | 10 => ⟨S20000x2, .f32⟩
  | 11 => ⟨S20000x2, .f32⟩
  | 12 => ⟨S20000x2, .f32⟩
  | 13 => ⟨S_, .f32⟩
  | 14 => ⟨S20000x2, .f32⟩
  | 15 => ⟨S20000x2, .f32⟩
  | 16 => ⟨S20000x2, .f32⟩
  | 17 => ⟨S20000x4, .f32⟩
  | 18 => ⟨S2, .i32⟩
  | 19 => ⟨S2x1, .i32⟩
  | 20 => ⟨S20000x2, .f32⟩
  | 21 => ⟨S1x20000x1x2, .f32⟩
  | 22 => ⟨S2x32x2, .f32⟩
  | 23 => ⟨S2x1x32x2, .f32⟩
  | 24 => ⟨S2x20000x32x2, .f32⟩
  | 25 => ⟨S2x20000x32x2, .f32⟩
  | 26 => ⟨S2x20000x32x2, .f32⟩
  | 27 => ⟨S20000x2, .f32⟩
  | 28 => ⟨S1x20000x1x2, .f32⟩
  | 29 => ⟨S2x32x2, .f32⟩
  | 30 => ⟨S2x1x32x2, .f32⟩
  | 31 => ⟨S2x20000x32x2, .f32⟩
  | 32 => ⟨S2x20000x32x2, .f32⟩
  | 33 => ⟨S2x20000x32x2, .f32⟩
  | 34 => ⟨S2x20000x32x2, .f32⟩
  | 35 => ⟨S_, .f32⟩
  | 36 => ⟨S_, .f32⟩
  | 37 => ⟨S2x20000x32x2, .f32⟩
  | 38 => ⟨S2x20000x32x2, .f32⟩
  | 39 => ⟨S2x20000x32x1, .f32⟩
  | 40 => ⟨S2x20000x32, .f32⟩
  | 41 => ⟨S2x20000x32x1, .f32⟩
  | 42 => ⟨S2x20000x32, .f32⟩
  | 43 => ⟨S2x20000x32, .f32⟩
  | 44 => ⟨S20000x1, .f32⟩
  | 45 => ⟨S20000, .f32⟩
  | 46 => ⟨S20000x1, .f32⟩
  | 47 => ⟨S20000, .f32⟩
  | 48 => ⟨S20000, .f32⟩
  | 49 => ⟨S20000x1, .f32⟩
  | 50 => ⟨S20000, .f32⟩
  | 51 => ⟨S20000x1, .f32⟩
  | 52 => ⟨S20000, .f32⟩
  | 53 => ⟨S20000, .f32⟩
  | 54 => ⟨S20000, .f32⟩
  | 55 => ⟨S2x32x1, .f32⟩
  | 56 => ⟨S2x32, .f32⟩
  | 57 => ⟨S2x32x1, .f32⟩
  | 58 => ⟨S2x32, .f32⟩
  | 59 => ⟨S2x32, .f32⟩
  | 60 => ⟨S2x32x1, .f32⟩
  | 61 => ⟨S2x32, .f32⟩
  | 62 => ⟨S2x32x1, .f32⟩
  | 63 => ⟨S2x32, .f32⟩
  | 64 => ⟨S2x32, .f32⟩
  | 65 => ⟨S2x32, .f32⟩
  | 66 => ⟨S1x20000x1, .f32⟩
  | 67 => ⟨S2x1x32, .f32⟩
  | 68 => ⟨S2x20000x32, .f32⟩
  | 69 => ⟨S2x20000x32, .f32⟩
  | 70 => ⟨S2x20000x32, .f32⟩
  | 71 => ⟨S2x20000x32, .f32⟩
  | 72 => ⟨S2x20000x32, .f32⟩
  | 73 => ⟨S_, .f32⟩
  | 74 => ⟨S2x20000, .f32⟩
  | 75 => ⟨S2x20000x32, .i32⟩
  | 76 => ⟨S_, .f32⟩
  | 77 => ⟨S_, .i32⟩
  | 78 => ⟨S2x20000, .f32⟩
  | 79 => ⟨S2x20000, .i32⟩
  | 80 => ⟨S_, .f32⟩
  | 81 => ⟨S2x20000, .f32⟩
  | 82 => ⟨S2x20000, .i1⟩
  | 83 => ⟨S_, .f32⟩
  | 84 => ⟨S2x20000, .f32⟩
  | 85 => ⟨S2x20000, .i1⟩
  | 86 => ⟨S2x20000x32, .i32⟩
  | 87 => ⟨S_, .f32⟩
  | 88 => ⟨S_, .i32⟩
  | 89 => ⟨S2x32, .f32⟩
  | 90 => ⟨S2x32, .i32⟩
  | 91 => ⟨S_, .i1⟩
  | 92 => ⟨S2x20000, .i1⟩
  | 93 => ⟨S_, .i32⟩
  | 94 => ⟨S2x1, .i32⟩
  | 95 => ⟨S2x1, .i1⟩
  | 96 => ⟨S_, .i32⟩
  | 97 => ⟨S2x1, .i32⟩
  | 98 => ⟨S2x1, .i32⟩
  | 99 => ⟨S2x1, .i32⟩
  | 100 => ⟨S_, .i32⟩
  | 101 => ⟨S2x32, .i32⟩
  | 102 => ⟨S2x32, .i1⟩
  | 103 => ⟨S_, .i32⟩
  | 104 => ⟨S2x32, .i32⟩
  | 105 => ⟨S2x32, .i32⟩
  | 106 => ⟨S2x32, .i32⟩
  | 107 => ⟨S2x32, .i32⟩
  | 108 => ⟨S2x32x1, .i32⟩
  | 109 => ⟨S2x32x1, .i32⟩
  | 110 => ⟨S2x32x2, .i32⟩
  | 111 => ⟨S_, .i1⟩
  | 112 => ⟨S2x32, .i1⟩
  | 113 => ⟨S2x20000, .i1⟩
  | 114 => ⟨S2x20000, .i32⟩
  | 115 => ⟨S_, .i32⟩
  | 116 => ⟨S2, .i32⟩
  | 117 => ⟨S2x1, .i32⟩
  | 118 => ⟨S_, .i32⟩
  | 119 => ⟨S2x1, .i32⟩
  | 120 => ⟨S2x1, .i1⟩
  | 121 => ⟨S2x20000, .i1⟩
  | 122 => ⟨S2x20000, .i1⟩
  | 123 => ⟨S_, .i32⟩
  | 124 => ⟨S2x1, .i32⟩
  | 125 => ⟨S2x1, .i1⟩
  | 126 => ⟨S_, .i32⟩
  | 127 => ⟨S2x1, .i32⟩
  | _ => ⟨S2x20000x80, .f32⟩

abbrev hbmTy0_1 (i : Nat) : BufTy := match i % 128 with
  | 0 => ⟨S2x1, .i32⟩
  | 1 => ⟨S2x1, .i32⟩
  | 2 => ⟨S_, .i32⟩
  | 3 => ⟨S2x20000, .i32⟩
  | 4 => ⟨S2x20000, .i1⟩
  | 5 => ⟨S_, .i32⟩
  | 6 => ⟨S2x20000, .i32⟩
  | 7 => ⟨S2x20000, .i32⟩
  | 8 => ⟨S2x20000, .i32⟩
  | 9 => ⟨S2x20000, .i32⟩
  | 10 => ⟨S2x20000x1, .i32⟩
  | 11 => ⟨S2x20000x1, .i32⟩
  | 12 => ⟨S2x20000x2, .i32⟩
  | 13 => ⟨S2x20000, .i32⟩
  | 14 => ⟨S_, .i32⟩
  | 15 => ⟨S2x20000, .i32⟩
  | 16 => ⟨S2x20000, .i32⟩
  | 17 => ⟨S_, .f32⟩
  | 18 => ⟨S2x20000x80, .f32⟩
  | 19 => ⟨S2x20000x80, .f32⟩
  | 20 => ⟨S2x20000x1, .i1⟩
  | 21 => ⟨S_, .f32⟩
  | 22 => ⟨S_, .f32⟩
  | 23 => ⟨S2x20000x80, .i1⟩
  | 24 => ⟨S2x20000x80, .f32⟩
  | 25 => ⟨S2x20000x80, .f32⟩
  | 26 => ⟨S2x20000x1, .i32⟩
  | 27 => ⟨S1x1x80, .i32⟩
  | 28 => ⟨S2x20000x80, .i32⟩
  | 29 => ⟨S2x20000x80, .i32⟩
  | 30 => ⟨S2x20000x80, .i1⟩
  | 31 => ⟨S2x20000x80, .f32⟩
  | 32 => ⟨S2x20000x1, .i1⟩
  | 33 => ⟨S2x20000x80, .i1⟩
  | 34 => ⟨S2x20000x80, .f32⟩
  | 35 => ⟨S_, .f32⟩
  | 36 => ⟨S2x20000, .f32⟩
  | 37 => ⟨S2x20000, .f32⟩
  | 38 => ⟨S_, .f32⟩
  | 39 => ⟨S_, .f32⟩
  | 40 => ⟨S2x20000, .f32⟩
  | 41 => ⟨S2x20000, .f32⟩
  | 42 => ⟨S_, .f32⟩
  | 43 => ⟨S_, .f32⟩
  | 44 => ⟨S2x20000, .f32⟩
  | 45 => ⟨S2x20000, .f32⟩
  | 46 => ⟨S_, .i32⟩
  | 47 => ⟨S2x1, .i32⟩
  | 48 => ⟨S2x1, .i1⟩
  | 49 => ⟨S_, .i32⟩
  | 50 => ⟨S2x1, .i32⟩
  | 51 => ⟨S2x1, .i32⟩
  | 52 => ⟨S2x1, .i32⟩
  | 53 => ⟨S_, .i32⟩
  | 54 => ⟨S2x20000, .i32⟩
  | 55 => ⟨S2x20000, .i1⟩
  | 56 => ⟨S_, .i32⟩
  | 57 => ⟨S2x20000, .i32⟩
  | 58 => ⟨S2x20000, .i32⟩
  | 59 => ⟨S2x20000, .i32⟩
  | 60 => ⟨S2x20000, .i32⟩
  | 61 => ⟨S2x20000x1, .i32⟩
  | 62 => ⟨S2x20000x1, .i32⟩
  | 63 => ⟨S2x20000x2, .i32⟩
  | 64 => ⟨S2x20000x4, .f32⟩
  | 65 => ⟨S2x20000x2, .f32⟩
  | 66 => ⟨S2x20000x2, .f32⟩
  | 67 => ⟨S2x20000x2, .f32⟩
  | 68 => ⟨S_, .f32⟩
  | 69 => ⟨S2x20000x2, .f32⟩
  | 70 => ⟨S2x20000x2, .f32⟩
  | 71 => ⟨S2x20000x2, .f32⟩
  | 72 => ⟨S2x20000x2, .f32⟩
  | 73 => ⟨S2x20000x2, .f32⟩
  | 74 => ⟨S2x20000x4, .f32⟩
  | 75 => ⟨S2x20000x2, .f32⟩
  | 76 => ⟨S20000x2, .f32⟩
  | 77 => ⟨S1x20000x2, .f32⟩
  | 78 => ⟨S2x20000x2, .f32⟩
  | 79 => ⟨S2x20000x2, .f32⟩
  | 80 => ⟨S20000x2, .f32⟩
  | 81 => ⟨S1x20000x2, .f32⟩
  | 82 => ⟨S2x20000x2, .f32⟩
  | 83 => ⟨S2x20000x2, .f32⟩
  | 84 => ⟨S2x20000x2, .f32⟩
  | 85 => ⟨S20000x2, .f32⟩
  | 86 => ⟨S1x20000x2, .f32⟩
  | 87 => ⟨S2x20000x2, .f32⟩
  | 88 => ⟨S2x20000x2, .f32⟩
  | 89 => ⟨S2x20000x2, .f32⟩
  | 90 => ⟨S2x20000x4, .f32⟩
  | 91 => ⟨S_, .f32⟩
  | 92 => ⟨S2x20000, .f32⟩
  | 93 => ⟨S2x20000, .i1⟩
  | 94 => ⟨S2x20000, .i32⟩
  | 95 => ⟨S_, .i32⟩
  | 96 => ⟨S_, .i32⟩
  | 97 => ⟨S_, .f32⟩
  | 98 => ⟨S_, .f32⟩
  | 99 => ⟨S2x20000, .f32⟩
  | 100 => ⟨S2x20000, .i1⟩
  | 101 => ⟨S2x20000x1, .i1⟩
  | 102 => ⟨S2x20000x1, .f32⟩
  | 103 => ⟨S_, .f32⟩
  | 104 => ⟨S2x20000, .f32⟩
  | 105 => ⟨S2x20000, .i1⟩
  | 106 => ⟨S2x20000x1, .i1⟩
  | 107 => ⟨S2x20000x1, .f32⟩
  | 108 => ⟨S_, .f32⟩
  | 109 => ⟨S2x20000x80, .f32⟩
  | 110 => ⟨S2x20000x80, .i1⟩
  | 111 => ⟨S_, .f32⟩
  | 112 => ⟨S_, .f32⟩
  | 113 => ⟨S2x20000x80, .f32⟩
  | 114 => ⟨S2x20000x80, .f32⟩
  | 115 => ⟨S2x20000x80, .f32⟩
  | 116 => ⟨S_, .f32⟩
  | 117 => ⟨S2x20000x80, .f32⟩
  | 118 => ⟨S2x20000x80, .i1⟩
  | 119 => ⟨S_, .f32⟩
  | 120 => ⟨S2x20000x80, .f32⟩
  | 121 => ⟨S2x20000x80, .f32⟩
  | 122 => ⟨S2x20000x80, .f32⟩
  | 123 => ⟨S2x20000x80, .f32⟩
  | 124 => ⟨S_, .f32⟩
  | 125 => ⟨S_, .f32⟩
  | 126 => ⟨S2x20000x80, .f32⟩
  | 127 => ⟨S2x20000x80, .f32⟩
  | _ => ⟨S2x20000x80, .f32⟩

abbrev hbmTy0_2 (i : Nat) : BufTy := match i % 128 with
  | 0 => ⟨S_, .f32⟩
  | 1 => ⟨S2x20000x80, .f32⟩
  | 2 => ⟨S2x20000x80, .f32⟩
  | 3 => ⟨S2x20000x80, .f32⟩
  | 4 => ⟨S_, .f32⟩
  | 5 => ⟨S_, .f32⟩
  | 6 => ⟨S2x20000x80, .f32⟩
  | 7 => ⟨S2x20000x80, .f32⟩
  | 8 => ⟨S2x20000x80, .f32⟩
  | 9 => ⟨S_, .f32⟩
  | 10 => ⟨S2x20000x80, .f32⟩
  | 11 => ⟨S2x20000x80, .f32⟩
  | 12 => ⟨S2x20000x80, .f32⟩
  | 13 => ⟨S2x20000x80, .f32⟩
  | 14 => ⟨S2x20000x80, .f32⟩
  | 15 => ⟨S_, .f32⟩
  | 16 => ⟨S2x20000x80, .f32⟩
  | 17 => ⟨S2x20000x80, .f32⟩
  | 18 => ⟨S_, .f32⟩
  | 19 => ⟨S2x20000x80, .f32⟩
  | 20 => ⟨S2x20000x80, .f32⟩
  | 21 => ⟨S2x20000x80, .f32⟩
  | 22 => ⟨S2x20000x80, .f32⟩
  | 23 => ⟨S2x20000x80, .f32⟩
  | 24 => ⟨S2x20000x4, .f32⟩
  | 25 => ⟨S2x20000x4, .f32⟩
  | 26 => ⟨S_, .f32⟩
  | 27 => ⟨S2x20000x4, .f32⟩
  | 28 => ⟨S2x20000x4, .i1⟩
  | 29 => ⟨S_, .f32⟩
  | 30 => ⟨S2x20000x4, .f32⟩
  | 31 => ⟨S2x20000x4, .f32⟩
  | 32 => ⟨S2x20000x4, .f32⟩
  | 33 => ⟨S_, .f32⟩
  | 34 => ⟨S2x20000x4, .f32⟩
  | 35 => ⟨S2x20000x4, .f32⟩
  | 36 => ⟨S_, .f32⟩
  | 37 => ⟨S2x20000x4, .f32⟩
  | 38 => ⟨S2x20000x4, .f32⟩
  | 39 => ⟨S2x20000x4, .f32⟩
  | 40 => ⟨S2x20000x80, .f32⟩
  | 41 => ⟨S2x20000x80, .f32⟩
  | 42 => ⟨S_, .f32⟩
  | 43 => ⟨S_, .f32⟩
  | 44 => ⟨S_, .f32⟩
  | 45 => ⟨S2x20000x4, .f32⟩
  | 46 => ⟨S2x20000x4, .f32⟩
  | 47 => ⟨S_, .f32⟩
  | 48 => ⟨S_, .f32⟩
  | 49 => ⟨S_, .f32⟩
  | 50 => ⟨S_, .f32⟩
  | _ => ⟨S2x20000x80, .f32⟩

abbrev hbmTy (i : Nat) : BufTy := match i / 128 with
  | 0 => hbmTy0_0 i
  | 1 => hbmTy0_1 i
  | 2 => hbmTy0_2 i
  | _ => ⟨S2x20000x80, .f32⟩

abbrev bufTy : (tb : Table) → Fin (tcTables nBuf tb) → BufTy
  | .hbm, ⟨i, _⟩ => hbmTy i
  | _, _ => ⟨S2x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_2 : Ref sig .tc := ⟨.hbm, 73, rfl⟩
abbrev main_v63 : Ref sig .tc := ⟨.hbm, 74, rfl⟩
abbrev main_call1_v0 : Ref sig .tc := ⟨.hbm, 75, rfl⟩
abbrev main_call1_cst : Ref sig .tc := ⟨.hbm, 76, rfl⟩
abbrev main_call1_c : Ref sig .tc := ⟨.hbm, 77, rfl⟩
abbrev main_call1_v1_0 : Ref sig .tc := ⟨.hbm, 78, rfl⟩
abbrev main_v64 : Ref sig .tc := ⟨.hbm, 79, rfl⟩
abbrev main_cst_3 : Ref sig .tc := ⟨.hbm, 80, rfl⟩
abbrev main_v65 : Ref sig .tc := ⟨.hbm, 81, rfl⟩
abbrev main_v66 : Ref sig .tc := ⟨.hbm, 82, rfl⟩
abbrev main_cst_4 : Ref sig .tc := ⟨.hbm, 83, rfl⟩
abbrev main_v67 : Ref sig .tc := ⟨.hbm, 84, rfl⟩
abbrev main_v68 : Ref sig .tc := ⟨.hbm, 85, rfl⟩
abbrev main_call2_v0 : Ref sig .tc := ⟨.hbm, 86, rfl⟩
abbrev main_call2_cst : Ref sig .tc := ⟨.hbm, 87, rfl⟩
abbrev main_call2_c : Ref sig .tc := ⟨.hbm, 88, rfl⟩
abbrev main_call2_v1_0 : Ref sig .tc := ⟨.hbm, 89, rfl⟩
abbrev main_v69 : Ref sig .tc := ⟨.hbm, 90, rfl⟩
abbrev main_c : Ref sig .tc := ⟨.hbm, 91, rfl⟩
abbrev main_v70 : Ref sig .tc := ⟨.hbm, 92, rfl⟩
abbrev main_c_5 : Ref sig .tc := ⟨.hbm, 93, rfl⟩
abbrev main_v71 : Ref sig .tc := ⟨.hbm, 94, rfl⟩
abbrev main_v72 : Ref sig .tc := ⟨.hbm, 95, rfl⟩
abbrev main_c_6 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_7 : Ref sig .tc := ⟨.hbm, 100, rfl⟩
abbrev main_v76 : Ref sig .tc := ⟨.hbm, 101, rfl⟩
abbrev main_v77 : Ref sig .tc := ⟨.hbm, 102, rfl⟩
abbrev main_c_8 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_9 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_10 : Ref sig .tc := ⟨.hbm, 115, rfl⟩
abbrev main_v88 : Ref sig .tc := ⟨.hbm, 116, rfl⟩
abbrev main_v89 : Ref sig .tc := ⟨.hbm, 117, rfl⟩
abbrev main_c_11 : Ref sig .tc := ⟨.hbm, 118, rfl⟩
abbrev main_v90 : Ref sig .tc := ⟨.hbm, 119, rfl⟩
abbrev main_v91 : Ref sig .tc := ⟨.hbm, 120, rfl⟩
abbrev main_call3_v0 : Ref sig .tc := ⟨.hbm, 121, rfl⟩
abbrev main_v92 : Ref sig .tc := ⟨.hbm, 122, rfl⟩
abbrev main_c_12 : Ref sig .tc := ⟨.hbm, 123, rfl⟩
abbrev main_v93 : Ref sig .tc := ⟨.hbm, 124, rfl⟩
abbrev main_v94 : Ref sig .tc := ⟨.hbm, 125, rfl⟩
abbrev main_c_13 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_14 : Ref sig .tc := ⟨.hbm, 130, rfl⟩
abbrev main_v98 : Ref sig .tc := ⟨.hbm, 131, rfl⟩
abbrev main_v99 : Ref sig .tc := ⟨.hbm, 132, rfl⟩
abbrev main_c_15 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_16 : Ref sig .tc := ⟨.hbm, 142, rfl⟩
abbrev main_v108 : Ref sig .tc := ⟨.hbm, 143, rfl⟩
abbrev main_v109 : Ref sig .tc := ⟨.hbm, 144, rfl⟩
abbrev main_cst_17 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_18 : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_v113 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_v114 : Ref sig .tc := ⟨.hbm, 159, rfl⟩
abbrev main_v115 : Ref sig .tc := ⟨.hbm, 160, rfl⟩
abbrev main_call6_v0 : Ref sig .tc := ⟨.hbm, 161, rfl⟩
abbrev main_v116 : Ref sig .tc := ⟨.hbm, 162, rfl⟩
abbrev main_cst_19 : Ref sig .tc := ⟨.hbm, 163, rfl⟩
abbrev main_v117 : Ref sig .tc := ⟨.hbm, 164, rfl⟩
abbrev main_v118 : Ref sig .tc := ⟨.hbm, 165, rfl⟩
abbrev main_cst_20 : Ref sig .tc := ⟨.hbm, 166, rfl⟩
abbrev main_call7_v0 : Ref sig .tc := ⟨.hbm, 167, rfl⟩
abbrev main_call7_v1 : Ref sig .tc := ⟨.hbm, 168, rfl⟩
abbrev main_v119 : Ref sig .tc := ⟨.hbm, 169, rfl⟩
abbrev main_cst_21 : Ref sig .tc := ⟨.hbm, 170, rfl⟩
abbrev main_call8_v0 : Ref sig .tc := ⟨.hbm, 171, rfl⟩
abbrev main_call8_v1 : Ref sig .tc := ⟨.hbm, 172, rfl⟩
abbrev main_v120 : Ref sig .tc := ⟨.hbm, 173, rfl⟩
abbrev main_c_22 : Ref sig .tc := ⟨.hbm, 174, rfl⟩
abbrev main_v121 : Ref sig .tc := ⟨.hbm, 175, rfl⟩
abbrev main_v122 : Ref sig .tc := ⟨.hbm, 176, rfl⟩
abbrev main_c_23 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_c_24 : Ref sig .tc := ⟨.hbm, 181, rfl⟩
abbrev main_v126 : Ref sig .tc := ⟨.hbm, 182, rfl⟩
abbrev main_v127 : Ref sig .tc := ⟨.hbm, 183, rfl⟩
abbrev main_c_25 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_26 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_27 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_c_28 : Ref sig .tc := ⟨.hbm, 223, rfl⟩
abbrev main_v164 : Ref sig .tc := ⟨.hbm, 224, rfl⟩
abbrev main_v165 : Ref sig .tc := ⟨.hbm, 225, rfl⟩
abbrev main_cst_29 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_cst_30 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_31 : Ref sig .tc := ⟨.hbm, 236, rfl⟩
abbrev main_v174 : Ref sig .tc := ⟨.hbm, 237, rfl⟩
abbrev main_v175 : Ref sig .tc := ⟨.hbm, 238, rfl⟩
abbrev main_cst_32 : Ref sig .tc := ⟨.hbm, 239, rfl⟩
abbrev main_cst_33 : Ref sig .tc := ⟨.hbm, 240, rfl⟩
abbrev main_call9_v0 : Ref sig .tc := ⟨.hbm, 241, rfl⟩
abbrev main_call9_v1 : Ref sig .tc := ⟨.hbm, 242, rfl⟩
abbrev main_v176 : Ref sig .tc := ⟨.hbm, 243, rfl⟩
abbrev main_cst_34 : Ref sig .tc := ⟨.hbm, 244, rfl⟩
abbrev main_v177 : Ref sig .tc := ⟨.hbm, 245, rfl⟩
abbrev main_v178 : Ref sig .tc := ⟨.hbm, 246, rfl⟩
abbrev main_cst_35 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_36 : Ref sig .tc := ⟨.hbm, 252, rfl⟩
abbrev main_call11_v0 : Ref sig .tc := ⟨.hbm, 253, rfl⟩
abbrev main_call11_v1 : Ref sig .tc := ⟨.hbm, 254, rfl⟩
abbrev main_v183 : Ref sig .tc := ⟨.hbm, 255, rfl⟩
abbrev main_cst_37 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_cst_38 : Ref sig .tc := ⟨.hbm, 260, rfl⟩
abbrev main_call12_v0 : Ref sig .tc := ⟨.hbm, 261, rfl⟩
abbrev main_call12_v1 : Ref sig .tc := ⟨.hbm, 262, rfl⟩
abbrev main_v187 : Ref sig .tc := ⟨.hbm, 263, rfl⟩
abbrev main_v188 : Ref sig .tc := ⟨.hbm, 264, rfl⟩
abbrev main_cst_39 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_cst_40 : Ref sig .tc := ⟨.hbm, 271, rfl⟩
abbrev main_v194 : Ref sig .tc := ⟨.hbm, 272, rfl⟩
abbrev main_v195 : Ref sig .tc := ⟨.hbm, 273, rfl⟩
abbrev main_cst_41 : Ref sig .tc := ⟨.hbm, 274, rfl⟩
abbrev main_v196 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_cst_42 : Ref sig .tc := ⟨.hbm, 282, rfl⟩
abbrev main_v203 : Ref sig .tc := ⟨.hbm, 283, rfl⟩
abbrev main_v204 : Ref sig .tc := ⟨.hbm, 284, rfl⟩
abbrev main_cst_43 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_cst_44 : Ref sig .tc := ⟨.hbm, 289, rfl⟩
abbrev main_v208 : Ref sig .tc := ⟨.hbm, 290, rfl⟩
abbrev main_v209 : Ref sig .tc := ⟨.hbm, 291, rfl⟩
abbrev main_cst_45 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_cst_46 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_cst_47 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩

abbrev nD : Nat := 1
abbrev τ : Topo := Topo.v7x

variable {F : FTy → Type} [FloatOps F]

def κ : String → Option EReal := fun
  | "half_over_beta" => some ((67108864 / 14913081 : ℝ) : EReal)
  | _ => none
-- ==== Proof.Ref.Ops.lean ====
/- The reference's host operations in order, and how a buffer is read after all of them: every buffer is written once and read only
   after that, so after the whole line each buffer holds its operation's function of what its operands hold. -/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Pipeline.Frame

@[expose] public section

noncomputable section

namespace Cert.RefEqs

open Cert.ReferenceIdeal Cert.ReferenceIdeal.Gen Idealize.ShloMosaic Idealize.ShloMosaic.TcCoe Idealize.SL.Sem Idealize.ShloMosaic.StableHlo

variable {F : FTy → Type} [FloatOps F]

section Line

variable {τ : Topo} {sig : RefSig} {Val : EltTy → Type} {ops : List (HloOp τ sig Val)} {Wr : List (Ref sig .tc)}

/-- A buffer not written from position `i` on holds after `i` operations what it holds after all. -/
theorem upto_same (hW : ops.map HloOp.writes = Wr.map fun w => {Proc.devRef (τ := τ) .tc w}) (i : ℕ) {r : Ref sig .tc}
    (hr : r ∉ Wr.drop i) (V : Valuation τ sig Val) :
    upto ops V i (Proc.devRef .tc r) = after ops V (Proc.devRef .tc r) := by
  have h : after ops V = after (ops.drop i) (upto ops V i) := by
    rw [upto, ← after_append, List.take_append_drop]
  rw [h, after_unwritten (Wr.drop i) (by rw [List.map_drop, hW, List.map_drop]) hr]

/-- A buffer written last by the operation at position `i`. -/
theorem read_last (hW : ops.map HloOp.writes = Wr.map fun w => {Proc.devRef (τ := τ) .tc w}) {i : ℕ} {op : HloOp τ sig Val}
    {rest : List (HloOp τ sig Val)} (hseg : ops.drop i = op :: rest) {r : Ref sig .tc} (hr : r ∉ Wr.drop (i + 1))
    (V : Valuation τ sig Val) :
    after ops V (Proc.devRef .tc r) = op.result (upto ops V i) (Proc.devRef .tc r) := by
  refine after_last_write (Wr.drop (i + 1)) hseg ?_ hr V
  have : rest = ops.drop (i + 1) := by rw [← List.drop_drop, hseg]; rfl
  rw [this, List.map_drop, hW, List.map_drop]

variable {a b c e y : Ref sig .tc} {i : ℕ} {rest : List (HloOp τ sig Val)}

theorem nullary_eq (hW : ops.map HloOp.writes = Wr.map fun w => {Proc.devRef (τ := τ) .tc w}) {v : y.ty.Contents Val} {hy}
    (hseg : ops.drop i = nullary y v hy :: rest) (h0 : y ∉ Wr.drop (i + 1)) (V : Valuation τ sig Val) :
    after ops V (Proc.devRef .tc y) = v := by
  rw [read_last hW hseg h0 V, nullary_result']

theorem unary_eq (hW : ops.map HloOp.writes = Wr.map fun w => {Proc.devRef (τ := τ) .tc w}) {f : a.ty.Contents Val → y.ty.Contents Val} {ha hy}
    (hseg : ops.drop i = unary a y f ha hy :: rest) (h0 : y ∉ Wr.drop (i + 1)) (h1 : a ∉ Wr.drop i) (V : Valuation τ sig Val) :
    after ops V (Proc.devRef .tc y) = f (after ops V (Proc.devRef .tc a)) := by
  rw [read_last hW hseg h0 V, unary_result', upto_same hW i h1]

theorem reshape_eq (hW : ops.map HloOp.writes = Wr.map fun w => {Proc.devRef (τ := τ) .tc w}) {he hn ha hy}
    (hseg : ops.drop i = reshape a y he hn ha hy :: rest) (h0 : y ∉ Wr.drop (i + 1)) (h1 : a ∉ Wr.drop i) (V : Valuation τ sig Val) :
    after ops V (Proc.devRef .tc y) = fun j => he ▸ shapeCast y.ty.shape (after ops V (Proc.devRef .tc a)) hn j := by
  rw [read_last hW hseg h0 V, reshape_result', upto_same hW i h1]

theorem binary_eq (hW : ops.map HloOp.writes = Wr.map fun w => {Proc.devRef (τ := τ) .tc w})
    {f : a.ty.Contents Val → b.ty.Contents Val → y.ty.Contents Val} {ha hb hy}
    (hseg : ops.drop i = binary a b y f ha hb hy :: rest) (h0 : y ∉ Wr.drop (i + 1)) (h1 : a ∉ Wr.drop i) (h2 : b ∉ Wr.drop i)
    (V : Valuation τ sig Val) :
    after ops V (Proc.devRef .tc y) = f (after ops V (Proc.devRef .tc a)) (after ops V (Proc.devRef .tc b)) := by
  rw [read_last hW hseg h0 V, binary_result', upto_same hW i h1, upto_same hW i h2]

theorem ternary_eq (hW : ops.map HloOp.writes = Wr.map fun w => {Proc.devRef (τ := τ) .tc w})
    {f : a.ty.Contents Val → b.ty.Contents Val → c.ty.Contents Val → y.ty.Contents Val} {ha hb hc hy}
    (hseg : ops.drop i = ternary a b c y f ha hb hc hy :: rest) (h0 : y ∉ Wr.drop (i + 1)) (h1 : a ∉ Wr.drop i) (h2 : b ∉ Wr.drop i)
    (h3 : c ∉ Wr.drop i) (V : Valuation τ sig Val) :
    after ops V (Proc.devRef .tc y)
      = f (after ops V (Proc.devRef .tc a)) (after ops V (Proc.devRef .tc b)) (after ops V (Proc.devRef .tc c)) := by
  rw [read_last hW hseg h0 V, ternary_result', upto_same hW i h1, upto_same hW i h2, upto_same hW i h3]

theorem quaternary_eq (hW : ops.map HloOp.writes = Wr.map fun w => {Proc.devRef (τ := τ) .tc w})
    {f : a.ty.Contents Val → b.ty.Contents Val → c.ty.Contents Val → e.ty.Contents Val → y.ty.Contents Val} {ha hb hc he hy}
    (hseg : ops.drop i = quaternary a b c e y f ha hb hc he hy :: rest) (h0 : y ∉ Wr.drop (i + 1)) (h1 : a ∉ Wr.drop i)
    (h2 : b ∉ Wr.drop i) (h3 : c ∉ Wr.drop i) (h4 : e ∉ Wr.drop i) (V : Valuation τ sig Val) :
    after ops V (Proc.devRef .tc y)
      = f (after ops V (Proc.devRef .tc a)) (after ops V (Proc.devRef .tc b)) (after ops V (Proc.devRef .tc c))
          (after ops V (Proc.devRef .tc e)) := by
  rw [read_last hW hseg h0 V, quaternary_result', upto_same hW i h1, upto_same hW i h2, upto_same hW i h3, upto_same hW i h4]

end Line

/-- The operations from number 0 on. -/
abbrev line0_0 : List (HloOp τ sig (Elt F)) :=
  [ unary main_arg4 main_v0 ((extractStridedSlice S20000x2 ![0, 0] · slices_S20000x4_S20000x2_0_0) : (⟨S20000x4, .f32⟩ : BufTy).Contents (Elt F) → (⟨S20000x2, .f32⟩ : BufTy).Contents (Elt F)),
    unary main_arg4 main_v1 ((extractStridedSlice S20000x2 ![0, 2] · slices_S20000x4_S20000x2_0_2) : (⟨S20000x4, .f32⟩ : BufTy).Contents (Elt F) → (⟨S20000x2, .f32⟩ : BufTy).Contents (Elt F)),
    nullary main_cst (constant S_ .f32 0x40000000#32),
    unary main_cst main_v2 (broadcastInDim S20000x2 ![] bcast_S_S20000x2 : (⟨S_, .f32⟩ : BufTy).Contents (Elt F) → (⟨S20000x2, .f32⟩ : BufTy).Contents (Elt F)),
    binary main_v1 main_v2 main_v3 (Host.divf : (⟨S20000x2, .f32⟩ : BufTy).Contents (Elt F) → (⟨S20000x2, .f32⟩ : BufTy).Contents (Elt F) → (⟨S20000x2, .f32⟩ : BufTy).Contents (Elt F)),
    binary main_v0 main_v3 main_v4 (subf : (⟨S20000x2, .f32⟩ : BufTy).Contents (Elt F) → (⟨S20000x2, .f32⟩ : BufTy).Contents (Elt F) → (⟨S20000x2, .f32⟩ : BufTy).Contents (Elt F)),
    unary main_arg4 main_v5 ((extractStridedSlice S20000x2 ![0, 0] · slices_S20000x4_S20000x2_0_0) : (⟨S20000x4, .f32⟩ : BufTy).Contents (Elt F) → (⟨S20000x2, .f32⟩ : BufTy).Contents (Elt F)),
    unary main_arg4 main_v6 ((extractStridedSlice S20000x2 ![0, 2] · slices_S20000x4_S20000x2_0_2) : (⟨S20000x4, .f32⟩ : BufTy).Contents (Elt F) → (⟨S20000x2, .f32⟩ : BufTy).Contents (Elt F)),
    nullary main_cst_0 (constant S_ .f32 0x40000000#32),
    unary main_cst_0 main_v7 (broadcastInDim S20000x2 ![] bcast_S_S20000x2 : (⟨S_, .f32⟩ : BufTy).Contents (Elt F) → (⟨S20000x2, .f32⟩ : BufTy).Contents (Elt F)),
    binary main_v6 main_v7 main_v8 (Host.divf : (⟨S20000x2, .f32⟩ : BufTy).Contents (Elt F) → (⟨S20000x2, .f32⟩ : BufTy).Contents (Elt F) → (⟨S20000x2, .f32⟩ : BufTy).Contents (Elt F)),
    binary main_v5 main_v8 main_v9 (addf : (⟨S20000x2, .f32⟩ : BufTy).Contents (Elt F) → (⟨S20000x2, .f32⟩ : BufTy).Contents (Elt F) → (⟨S20000x2, .f32⟩ : BufTy).Contents (Elt F)),
    binary main_v4 main_v9 main_v10 ((fun a b => concatenate S20000x4 1 [⟨S20000x2, a⟩, ⟨S20000x2, b⟩] concatenates_S20000x2_S20000x2_S20000x4_d1) : (⟨S20000x2, .f32⟩ : BufTy).Contents (Elt F) → (⟨S20000x2, .f32⟩ : BufTy).Contents (Elt F) → (⟨S20000x4, .f32⟩ : BufTy).Contents (Elt F)),
    nullary main_v11 (iotaInDim S2 32 0),
    unary main_v11 main_v12 (broadcastInDim S2x1 ![0] bcast_S2_S2x1_0 : (⟨S2, .i32⟩ : BufTy).Contents (Elt F) → (⟨S2x1, .i32⟩ : BufTy).Contents (Elt F)),
    unary main_v10 main_v13 ((extractStridedSlice S20000x2 ![0, 0] · slices_S20000x4_S20000x2_0_0) : (⟨S20000x4, .f32⟩ : BufTy).Contents (Elt F) → (⟨S20000x2, .f32⟩ : BufTy).Contents (Elt F)),
    unary main_v13 main_v14 (broadcastInDim S1x20000x1x2 ![1, 3] bcast_S20000x2_S1x20000x1x2_1_3 : (⟨S20000x2, .f32⟩ : BufTy).Contents (Elt F) → (⟨S1x20000x1x2, .f32⟩ : BufTy).Contents (Elt F)),
    unary main_arg2 main_v15 ((extractStridedSlice S2x32x2 ![0, 0, 0] · slices_S2x32x4_S2x32x2_0_0_0) : (⟨S2x32x4, .f32⟩ : BufTy).Contents (Elt F) → (⟨S2x32x2, .f32⟩ : BufTy).Contents (Elt F)),
    unary main_v15 main_v16 (broadcastInDim S2x1x32x2 ![0, 2, 3] bcast_S2x32x2_S2x1x32x2_0_2_3 : (⟨S2x32x2, .f32⟩ : BufTy).Contents (Elt F) → (⟨S2x1x32x2, .f32⟩ : BufTy).Contents (Elt F)),
    unary main_v14 main_v17 (broadcastInDim S2x20000x32x2 ![0, 1, 2, 3] bcast_S1x20000x1x2_S2x20000x32x2_0_1_2_3 : (⟨S1x20000x1x2, .f32⟩ : BufTy).Contents (Elt F) → (⟨S2x20000x32x2, .f32⟩ : BufTy).Contents (Elt F)),
    unary main_v16 main_v18 (broadcastInDim S2x20000x32x2 ![0, 1, 2, 3] bcast_S2x1x32x2_S2x20000x32x2_0_1_2_3 : (⟨S2x1x32x2, .f32⟩ : BufTy).Contents (Elt F) → (⟨S2x20000x32x2, .f32⟩ : BufTy).Contents (Elt F)),
    binary main_v17 main_v18 main_v19 (maximumf : (⟨S2x20000x32x2, .f32⟩ : BufTy).Contents (Elt F) → (⟨S2x20000x32x2, .f32⟩ : BufTy).Contents (Elt F) → (⟨S2x20000x32x2, .f32⟩ : BufTy).Contents (Elt F)),
    unary main_v10 main_v20 ((extractStridedSlice S20000x2 ![0, 2] · slices_S20000x4_S20000x2_0_2) : (⟨S20000x4, .f32⟩ : BufTy).Contents (Elt F) → (⟨S20000x2, .f32⟩ : BufTy).Contents (Elt F)),
    unary main_v20 main_v21 (broadcastInDim S1x20000x1x2 ![1, 3] bcast_S20000x2_S1x20000x1x2_1_3 : (⟨S20000x2, .f32⟩ : BufTy).Contents (Elt F) → (⟨S1x20000x1x2, .f32⟩ : BufTy).Contents (Elt F)),
    unary main_arg2 main_v22 ((extractStridedSlice S2x32x2 ![0, 0, 2] · slices_S2x32x4_S2x32x2_0_0_2) : (⟨S2x32x4, .f32⟩ : BufTy).Contents (Elt F) → (⟨S2x32x2, .f32⟩ : BufTy).Contents (Elt F)),
    unary main_v22 main_v23 (broadcastInDim S2x1x32x2 ![0, 2, 3] bcast_S2x32x2_S2x1x32x2_0_2_3 : (⟨S2x32x2, .f32⟩ : BufTy).Contents (Elt F) → (⟨S2x1x32x2, .f32⟩ : BufTy).Contents (Elt F)),
    unary main_v21 main_v24 (broadcastInDim S2x20000x32x2 ![0, 1, 2, 3] bcast_S1x20000x1x2_S2x20000x32x2_0_1_2_3 : (⟨S1x20000x1x2, .f32⟩ : BufTy).Contents (Elt F) → (⟨S2x20000x32x2, .f32⟩ : BufTy).Contents (Elt F)),
    unary main_v23 main_v25 (broadcastInDim S2x20000x32x2 ![0, 1, 2, 3] bcast_S2x1x32x2_S2x20000x32x2_0_1_2_3 : (⟨S2x1x32x2, .f32⟩ : BufTy).Contents (Elt F) → (⟨S2x20000x32x2, .f32⟩ : BufTy).Contents (Elt F)),
    binary main_v24 main_v25 main_v26 (minimumf : (⟨S2x20000x32x2, .f32⟩ : BufTy).Contents (Elt F) → (⟨S2x20000x32x2, .f32⟩ : BufTy).Contents (Elt F) → (⟨S2x20000x32x2, .f32⟩ : BufTy).Contents (Elt F)),
    binary main_v26 main_v19 main_v27 (subf : (⟨S2x20000x32x2, .f32⟩ : BufTy).Contents (Elt F) → (⟨S2x20000x32x2, .f32⟩ : BufTy).Contents (Elt F) → (⟨S2x20000x32x2, .f32⟩ : BufTy).Contents (Elt F)) ]

/-- The operations from number 30 on. -/
abbrev line0_1 : List (HloOp τ sig (Elt F)) :=
  [ nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S2x20000x32x2, .f32⟩) main_call0_v1) (broadcastInDim S2x20000x32x2 ![] bcast_S_S2x20000x32x2),
    TRef.binary (TRef.of (T := ⟨S2x20000x32x2, .f32⟩) main_call0_v1) (TRef.of (T := ⟨S2x20000x32x2, .f32⟩) main_v27) (TRef.of (T := ⟨S2x20000x32x2, .f32⟩) main_v28) maximumf,
    unary main_v28 main_v29 ((extractStridedSlice S2x20000x32x1 ![0, 0, 0, 0] · slices_S2x20000x32x2_S2x20000x32x1_0_0_0_0) : (⟨S2x20000x32x2, .f32⟩ : BufTy).Contents (Elt F) → (⟨S2x20000x32x1, .f32⟩ : BufTy).Contents (Elt F)),
    reshape main_v29 main_v30 (rfl : (.f32 : EltTy) = .f32) shapeCasts_S2x20000x32x1_S2x20000x32,
    unary main_v28 main_v31 ((extractStridedSlice S2x20000x32x1 ![0, 0, 0, 1] · slices_S2x20000x32x2_S2x20000x32x1_0_0_0_1) : (⟨S2x20000x32x2, .f32⟩ : BufTy).Contents (Elt F) → (⟨S2x20000x32x1, .f32⟩ : BufTy).Contents (Elt F)),
    reshape main_v31 main_v32 (rfl : (.f32 : EltTy) = .f32) shapeCasts_S2x20000x32x1_S2x20000x32,
    binary main_v30 main_v32 main_v33 (mulf : (⟨S2x20000x32, .f32⟩ : BufTy).Contents (Elt F) → (⟨S2x20000x32, .f32⟩ : BufTy).Contents (Elt F) → (⟨S2x20000x32, .f32⟩ : BufTy).Contents (Elt F)),
    unary main_v10 main_v34 ((extractStridedSlice S20000x1 ![0, 2] · slices_S20000x4_S20000x1_0_2) : (⟨S20000x4, .f32⟩ : BufTy).Contents (Elt F) → (⟨S20000x1, .f32⟩ : BufTy).Contents (Elt F)),
    reshape main_v34 main_v35 (rfl : (.f32 : EltTy) = .f32) shapeCasts_S20000x1_S20000,
    unary main_v10 main_v36 ((extractStridedSlice S20000x1 ![0, 0] · slices_S20000x4_S20000x1_0_0) : (⟨S20000x4, .f32⟩ : BufTy).Contents (Elt F) → (⟨S20000x1, .f32⟩ : BufTy).Contents (Elt F)),
    reshape main_v36 main_v37 (rfl : (.f32 : EltTy) = .f32) shapeCasts_S20000x1_S20000,
    binary main_v35 main_v37 main_v38 (subf : (⟨S20000, .f32⟩ : BufTy).Contents (Elt F) → (⟨S20000, .f32⟩ : BufTy).Contents (Elt F) → (⟨S20000, .f32⟩ : BufTy).Contents (Elt F)),
    unary main_v10 main_v39 ((extractStridedSlice S20000x1 ![0, 3] · slices_S20000x4_S20000x1_0_3) : (⟨S20000x4, .f32⟩ : BufTy).Contents (Elt F) → (⟨S20000x1, .f32⟩ : BufTy).Contents (Elt F)),
    reshape main_v39 main_v40 (rfl : (.f32 : EltTy) = .f32) shapeCasts_S20000x1_S20000,
    unary main_v10 main_v41 ((extractStridedSlice S20000x1 ![0, 1] · slices_S20000x4_S20000x1_0_1) : (⟨S20000x4, .f32⟩ : BufTy).Contents (Elt F) → (⟨S20000x1, .f32⟩ : BufTy).Contents (Elt F)),
    reshape main_v41 main_v42 (rfl : (.f32 : EltTy) = .f32) shapeCasts_S20000x1_S20000,
    binary main_v40 main_v42 main_v43 (subf : (⟨S20000, .f32⟩ : BufTy).Contents (Elt F) → (⟨S20000, .f32⟩ : BufTy).Contents (Elt F) → (⟨S20000, .f32⟩ : BufTy).Contents (Elt F)),
    binary main_v38 main_v43 main_v44 (mulf : (⟨S20000, .f32⟩ : BufTy).Contents (Elt F) → (⟨S20000, .f32⟩ : BufTy).Contents (Elt F) → (⟨S20000, .f32⟩ : BufTy).Contents (Elt F)),
    unary main_arg2 main_v45 ((extractStridedSlice S2x32x1 ![0, 0, 2] · slices_S2x32x4_S2x32x1_0_0_2) : (⟨S2x32x4, .f32⟩ : BufTy).Contents (Elt F) → (⟨S2x32x1, .f32⟩ : BufTy).Contents (Elt F)),
    reshape main_v45 main_v46 (rfl : (.f32 : EltTy) = .f32) shapeCasts_S2x32x1_S2x32,
    unary main_arg2 main_v47 ((extractStridedSlice S2x32x1 ![0, 0, 0] · slices_S2x32x4_S2x32x1_0_0_0) : (⟨S2x32x4, .f32⟩ : BufTy).Contents (Elt F) → (⟨S2x32x1, .f32⟩ : BufTy).Contents (Elt F)),
    reshape main_v47 main_v48 (rfl : (.f32 : EltTy) = .f32) shapeCasts_S2x32x1_S2x32,
    binary main_v46 main_v48 main_v49 (subf : (⟨S2x32, .f32⟩ : BufTy).Contents (Elt F) → (⟨S2x32, .f32⟩ : BufTy).Contents (Elt F) → (⟨S2x32, .f32⟩ : BufTy).Contents (Elt F)),
    unary main_arg2 main_v50 ((extractStridedSlice S2x32x1 ![0, 0, 3] · slices_S2x32x4_S2x32x1_0_0_3) : (⟨S2x32x4, .f32⟩ : BufTy).Contents (Elt F) → (⟨S2x32x1, .f32⟩ : BufTy).Contents (Elt F)),
    reshape main_v50 main_v51 (rfl : (.f32 : EltTy) = .f32) shapeCasts_S2x32x1_S2x32,
    unary main_arg2 main_v52 ((extractStridedSlice S2x32x1 ![0, 0, 1] · slices_S2x32x4_S2x32x1_0_0_1) : (⟨S2x32x4, .f32⟩ : BufTy).Contents (Elt F) → (⟨S2x32x1, .f32⟩ : BufTy).Contents (Elt F)),
    reshape main_v52 main_v53 (rfl : (.f32 : EltTy) = .f32) shapeCasts_S2x32x1_S2x32,
    binary main_v51 main_v53 main_v54 (subf : (⟨S2x32, .f32⟩ : BufTy).Contents (Elt F) → (⟨S2x32, .f32⟩ : BufTy).Contents (Elt F) → (⟨S2x32, .f32⟩ : BufTy).Contents (Elt F)) ]

/-- The operations from number 60 on. -/
abbrev line0_2 : List (HloOp τ sig (Elt F)) :=
  [ binary main_v49 main_v54 main_v55 (mulf : (⟨S2x32, .f32⟩ : BufTy).Contents (Elt F) → (⟨S2x32, .f32⟩ : BufTy).Contents (Elt F) → (⟨S2x32, .f32⟩ : BufTy).Contents (Elt F)),
    unary main_v44 main_v56 (broadcastInDim S1x20000x1 ![1] bcast_S20000_S1x20000x1_1 : (⟨S20000, .f32⟩ : BufTy).Contents (Elt F) → (⟨S1x20000x1, .f32⟩ : BufTy).Contents (Elt F)) ]

/-- The operations of window 0 of the program. -/
def line0 : List (HloOp τ sig (Elt F)) := line0_0 ++ (line0_1 ++ (line0_2))

/-- The operations from number 62 on. -/
abbrev line1_0 : List (HloOp τ sig (Elt F)) :=
  [ unary main_v55 main_v57 (broadcastInDim S2x1x32 ![0, 2] bcast_S2x32_S2x1x32_0_2 : (⟨S2x32, .f32⟩ : BufTy).Contents (Elt F) → (⟨S2x1x32, .f32⟩ : BufTy).Contents (Elt F)),
    unary main_v56 main_v58 (broadcastInDim S2x20000x32 ![0, 1, 2] bcast_S1x20000x1_S2x20000x32_0_1_2 : (⟨S1x20000x1, .f32⟩ : BufTy).Contents (Elt F) → (⟨S2x20000x32, .f32⟩ : BufTy).Contents (Elt F)),
    unary main_v57 main_v59 (broadcastInDim S2x20000x32 ![0, 1, 2] bcast_S2x1x32_S2x20000x32_0_1_2 : (⟨S2x1x32, .f32⟩ : BufTy).Contents (Elt F) → (⟨S2x20000x32, .f32⟩ : BufTy).Contents (Elt F)),
    binary main_v58 main_v59 main_v60 (addf : (⟨S2x20000x32, .f32⟩ : BufTy).Contents (Elt F) → (⟨S2x20000x32, .f32⟩ : BufTy).Contents (Elt F) → (⟨S2x20000x32, .f32⟩ : BufTy).Contents (Elt F)),
    binary main_v60 main_v33 main_v61 (subf : (⟨S2x20000x32, .f32⟩ : BufTy).Contents (Elt F) → (⟨S2x20000x32, .f32⟩ : BufTy).Contents (Elt F) → (⟨S2x20000x32, .f32⟩ : BufTy).Contents (Elt F)),
    binary main_v33 main_v61 main_v62 (Host.divf : (⟨S2x20000x32, .f32⟩ : BufTy).Contents (Elt F) → (⟨S2x20000x32, .f32⟩ : BufTy).Contents (Elt F) → (⟨S2x20000x32, .f32⟩ : BufTy).Contents (Elt F)),
    nullary main_cst_2 (constant S_ .f32 0xFF800000#32),
    binary main_v62 main_cst_2 main_v63 ((fun x v => Host.reduce FloatOps.maximumf x v reducesTo_S2x20000x32_S2x20000_d2 h_S_) : (⟨S2x20000x32, .f32⟩ : BufTy).Contents (Elt F) → (⟨S_, .f32⟩ : BufTy).Contents (Elt F) → (⟨S2x20000, .f32⟩ : BufTy).Contents (Elt F)),
    TRef.nullary (TRef.of (T := ⟨S2x20000x32, .i32⟩) main_call1_v0) (iotaInDim S2x20000x32 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S2x20000x32, .f32⟩) main_v62) (TRef.of (T := ⟨S2x20000x32, .i32⟩) main_call1_v0) (TRef.of (T := ⟨S_, .f32⟩) main_call1_cst) (TRef.of (T := ⟨S_, .i32⟩) main_call1_c) (TRef.of (T := ⟨S2x20000, .f32⟩) main_call1_v1_0) (fun x y u v j => (Host.argReduce reducer_argmax_f32_i32 x y u v reducesTo_S2x20000x32_S2x20000_d2 h_S_ j).1),
    TRef.quaternary (TRef.of (T := ⟨S2x20000x32, .f32⟩) main_v62) (TRef.of (T := ⟨S2x20000x32, .i32⟩) main_call1_v0) (TRef.of (T := ⟨S_, .f32⟩) main_call1_cst) (TRef.of (T := ⟨S_, .i32⟩) main_call1_c) (TRef.of (T := ⟨S2x20000, .i32⟩) main_v64) (fun x y u v j => (Host.argReduce reducer_argmax_f32_i32 x y u v reducesTo_S2x20000x32_S2x20000_d2 h_S_ j).2),
    nullary main_cst_3 (constant S_ .f32 0x3ECCCCCD#32),
    unary main_cst_3 main_v65 (broadcastInDim S2x20000 ![] bcast_S_S2x20000 : (⟨S_, .f32⟩ : BufTy).Contents (Elt F) → (⟨S2x20000, .f32⟩ : BufTy).Contents (Elt F)),
    binary main_v63 main_v65 main_v66 (cmpf .olt : (⟨S2x20000, .f32⟩ : BufTy).Contents (Elt F) → (⟨S2x20000, .f32⟩ : BufTy).Contents (Elt F) → (⟨S2x20000, .i1⟩ : BufTy).Contents (Elt F)),
    nullary main_cst_4 (constant S_ .f32 0x3F000000#32),
    unary main_cst_4 main_v67 (broadcastInDim S2x20000 ![] bcast_S_S2x20000 : (⟨S_, .f32⟩ : BufTy).Contents (Elt F) → (⟨S2x20000, .f32⟩ : BufTy).Contents (Elt F)),
    binary main_v63 main_v67 main_v68 (cmpf .oge : (⟨S2x20000, .f32⟩ : BufTy).Contents (Elt F) → (⟨S2x20000, .f32⟩ : BufTy).Contents (Elt F) → (⟨S2x20000, .i1⟩ : BufTy).Contents (Elt F)),
    TRef.nullary (TRef.of (T := ⟨S2x20000x32, .i32⟩) main_call2_v0) (iotaInDim S2x20000x32 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S2x20000x32, .f32⟩) main_v62) (TRef.of (T := ⟨S2x20000x32, .i32⟩) main_call2_v0) (TRef.of (T := ⟨S_, .f32⟩) main_call2_cst) (TRef.of (T := ⟨S_, .i32⟩) main_call2_c) (TRef.of (T := ⟨S2x32, .f32⟩) main_call2_v1_0) (fun x y u v j => (Host.argReduce reducer_argmax_f32_i32 x y u v reducesTo_S2x20000x32_S2x32_d1 h_S_ j).1),
    TRef.quaternary (TRef.of (T := ⟨S2x20000x32, .f32⟩) main_v62) (TRef.of (T := ⟨S2x20000x32, .i32⟩) main_call2_v0) (TRef.of (T := ⟨S_, .f32⟩) main_call2_cst) (TRef.of (T := ⟨S_, .i32⟩) main_call2_c) (TRef.of (T := ⟨S2x32, .i32⟩) main_v69) (fun x y u v j => (Host.argReduce reducer_argmax_f32_i32 x y u v reducesTo_S2x20000x32_S2x32_d1 h_S_ j).2),
    nullary main_c (constantI S_ 1 0#1),
    unary main_c main_v70 (broadcastInDim S2x20000 ![] bcast_S_S2x20000 : (⟨S_, .i1⟩ : BufTy).Contents (Elt F) → (⟨S2x20000, .i1⟩ : BufTy).Contents (Elt F)),
    nullary main_c_5 (constantI S_ 32 0#32),
    unary main_c_5 main_v71 (broadcastInDim S2x1 ![] bcast_S_S2x1 : (⟨S_, .i32⟩ : BufTy).Contents (Elt F) → (⟨S2x1, .i32⟩ : BufTy).Contents (Elt F)),
    binary main_v12 main_v71 main_v72 (cmpi .slt : (⟨S2x1, .i32⟩ : BufTy).Contents (Elt F) → (⟨S2x1, .i32⟩ : BufTy).Contents (Elt F) → (⟨S2x1, .i1⟩ : BufTy).Contents (Elt F)),
    nullary main_c_6 (constantI S_ 32 2#32) ]

/-- The operations from number 92 on. -/
abbrev line1_1 : List (HloOp τ sig (Elt F)) :=
  [ unary main_c_6 main_v73 (broadcastInDim S2x1 ![] bcast_S_S2x1 : (⟨S_, .i32⟩ : BufTy).Contents (Elt F) → (⟨S2x1, .i32⟩ : BufTy).Contents (Elt F)),
    binary main_v12 main_v73 main_v74 (addi : (⟨S2x1, .i32⟩ : BufTy).Contents (Elt F) → (⟨S2x1, .i32⟩ : BufTy).Contents (Elt F) → (⟨S2x1, .i32⟩ : BufTy).Contents (Elt F)),
    ternary main_v72 main_v74 main_v12 main_v75 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    nullary main_c_7 (constantI S_ 32 0#32),
    unary main_c_7 main_v76 (broadcastInDim S2x32 ![] bcast_S_S2x32 : (⟨S_, .i32⟩ : BufTy).Contents (Elt F) → (⟨S2x32, .i32⟩ : BufTy).Contents (Elt F)),
    binary main_v69 main_v76 main_v77 (cmpi .slt : (⟨S2x32, .i32⟩ : BufTy).Contents (Elt F) → (⟨S2x32, .i32⟩ : BufTy).Contents (Elt F) → (⟨S2x32, .i1⟩ : BufTy).Contents (Elt F)),
    nullary main_c_8 (constantI S_ 32 20000#32),
    unary main_c_8 main_v78 (broadcastInDim S2x32 ![] bcast_S_S2x32 : (⟨S_, .i32⟩ : BufTy).Contents (Elt F) → (⟨S2x32, .i32⟩ : BufTy).Contents (Elt F)),
    binary main_v69 main_v78 main_v79 (addi : (⟨S2x32, .i32⟩ : BufTy).Contents (Elt F) → (⟨S2x32, .i32⟩ : BufTy).Contents (Elt F) → (⟨S2x32, .i32⟩ : BufTy).Contents (Elt F)),
    ternary main_v77 main_v79 main_v69 main_v80 (select : (⟨S2x32, .i1⟩ : BufTy).Contents (Elt F) → (⟨S2x32, .i32⟩ : BufTy).Contents (Elt F) → (⟨S2x32, .i32⟩ : BufTy).Contents (Elt F) → (⟨S2x32, .i32⟩ : BufTy).Contents (Elt F)),
    unary main_v75 main_v81 (broadcastInDim S2x32 ![0, 1] bcast_S2x1_S2x32_0_1 : (⟨S2x1, .i32⟩ : BufTy).Contents (Elt F) → (⟨S2x32, .i32⟩ : BufTy).Contents (Elt F)),
    unary main_v81 main_v82 (broadcastInDim S2x32x1 ![0, 1] bcast_S2x32_S2x32x1_0_1 : (⟨S2x32, .i32⟩ : BufTy).Contents (Elt F) → (⟨S2x32x1, .i32⟩ : BufTy).Contents (Elt F)),
    unary main_v80 main_v83 (broadcastInDim S2x32x1 ![0, 1] bcast_S2x32_S2x32x1_0_1 : (⟨S2x32, .i32⟩ : BufTy).Contents (Elt F) → (⟨S2x32x1, .i32⟩ : BufTy).Contents (Elt F)),
    binary main_v82 main_v83 main_v84 ((fun a b => concatenate S2x32x2 2 [⟨S2x32x1, a⟩, ⟨S2x32x1, b⟩] concatenates_S2x32x1_S2x32x1_S2x32x2_d2) : (⟨S2x32x1, .i32⟩ : BufTy).Contents (Elt F) → (⟨S2x32x1, .i32⟩ : BufTy).Contents (Elt F) → (⟨S2x32x2, .i32⟩ : BufTy).Contents (Elt F)),
    nullary main_c_9 (constantI S_ 1 1#1),
    unary main_c_9 main_v85 (broadcastInDim S2x32 ![] bcast_S_S2x32 : (⟨S_, .i1⟩ : BufTy).Contents (Elt F) → (⟨S2x32, .i1⟩ : BufTy).Contents (Elt F)),
    ternary main_v70 main_v84 main_v85 main_v86 ((fun x i u => Host.scatter scatter_S2x20000_S2x32x2_S2x32_n_01_01_2 (fun _ b => b) x i u) : (⟨S2x20000, .i1⟩ : BufTy).Contents (Elt F) → (⟨S2x32x2, .i32⟩ : BufTy).Contents (Elt F) → (⟨S2x32, .i1⟩ : BufTy).Contents (Elt F) → (⟨S2x20000, .i1⟩ : BufTy).Contents (Elt F)),
    unary main_v68 main_v87 ((extui 32 · natLt_1_32) : (⟨S2x20000, .i1⟩ : BufTy).Contents (Elt F) → (⟨S2x20000, .i32⟩ : BufTy).Contents (Elt F)),
    nullary main_c_10 (constantI S_ 32 0#32),
    binary main_v87 main_c_10 main_v88 ((fun x v => Host.reduce IntOp.addi x v reducesTo_S2x20000_S2_d1 h_S_) : (⟨S2x20000, .i32⟩ : BufTy).Contents (Elt F) → (⟨S_, .i32⟩ : BufTy).Contents (Elt F) → (⟨S2, .i32⟩ : BufTy).Contents (Elt F)),
    unary main_v88 main_v89 (broadcastInDim S2x1 ![0] bcast_S2_S2x1_0 : (⟨S2, .i32⟩ : BufTy).Contents (Elt F) → (⟨S2x1, .i32⟩ : BufTy).Contents (Elt F)),
    nullary main_c_11 (constantI S_ 32 0#32),
    unary main_c_11 main_v90 (broadcastInDim S2x1 ![] bcast_S_S2x1 : (⟨S_, .i32⟩ : BufTy).Contents (Elt F) → (⟨S2x1, .i32⟩ : BufTy).Contents (Elt F)),
    binary main_v89 main_v90 main_v91 (cmpi .eq : (⟨S2x1, .i32⟩ : BufTy).Contents (Elt F) → (⟨S2x1, .i32⟩ : BufTy).Contents (Elt F) → (⟨S2x1, .i1⟩ : BufTy).Contents (Elt F)),
    TRef.unary (TRef.of (T := ⟨S2x1, .i1⟩) main_v91) (TRef.of (T := ⟨S2x20000, .i1⟩) main_call3_v0) (broadcastInDim S2x20000 ![0, 1] bcast_S2x1_S2x20000_0_1),
    TRef.ternary (TRef.of (T := ⟨S2x20000, .i1⟩) main_call3_v0) (TRef.of (T := ⟨S2x20000, .i1⟩) main_v86) (TRef.of (T := ⟨S2x20000, .i1⟩) main_v68) (TRef.of (T := ⟨S2x20000, .i1⟩) main_v92) select,
    nullary main_c_12 (constantI S_ 32 0#32),
    unary main_c_12 main_v93 (broadcastInDim S2x1 ![] bcast_S_S2x1 : (⟨S_, .i32⟩ : BufTy).Contents (Elt F) → (⟨S2x1, .i32⟩ : BufTy).Contents (Elt F)),
    binary main_v12 main_v93 main_v94 (cmpi .slt : (⟨S2x1, .i32⟩ : BufTy).Contents (Elt F) → (⟨S2x1, .i32⟩ : BufTy).Contents (Elt F) → (⟨S2x1, .i1⟩ : BufTy).Contents (Elt F)),
    nullary main_c_13 (constantI S_ 32 2#32) ]

/-- The operations from number 122 on. -/
abbrev line1_2 : List (HloOp τ sig (Elt F)) :=
  [ unary main_c_13 main_v95 (broadcastInDim S2x1 ![] bcast_S_S2x1 : (⟨S_, .i32⟩ : BufTy).Contents (Elt F) → (⟨S2x1, .i32⟩ : BufTy).Contents (Elt F)),
    binary main_v12 main_v95 main_v96 (addi : (⟨S2x1, .i32⟩ : BufTy).Contents (Elt F) → (⟨S2x1, .i32⟩ : BufTy).Contents (Elt F) → (⟨S2x1, .i32⟩ : BufTy).Contents (Elt F)),
    ternary main_v94 main_v96 main_v12 main_v97 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    nullary main_c_14 (constantI S_ 32 0#32),
    unary main_c_14 main_v98 (broadcastInDim S2x20000 ![] bcast_S_S2x20000 : (⟨S_, .i32⟩ : BufTy).Contents (Elt F) → (⟨S2x20000, .i32⟩ : BufTy).Contents (Elt F)),
    binary main_v64 main_v98 main_v99 (cmpi .slt : (⟨S2x20000, .i32⟩ : BufTy).Contents (Elt F) → (⟨S2x20000, .i32⟩ : BufTy).Contents (Elt F) → (⟨S2x20000, .i1⟩ : BufTy).Contents (Elt F)),
    nullary main_c_15 (constantI S_ 32 32#32),
    unary main_c_15 main_v100 (broadcastInDim S2x20000 ![] bcast_S_S2x20000 : (⟨S_, .i32⟩ : BufTy).Contents (Elt F) → (⟨S2x20000, .i32⟩ : BufTy).Contents (Elt F)),
    binary main_v64 main_v100 main_v101 (addi : (⟨S2x20000, .i32⟩ : BufTy).Contents (Elt F) → (⟨S2x20000, .i32⟩ : BufTy).Contents (Elt F) → (⟨S2x20000, .i32⟩ : BufTy).Contents (Elt F)) ]

/-- The operations of window 1 of the program. -/
def line1 : List (HloOp τ sig (Elt F)) := line1_0 ++ (line1_1 ++ (line1_2))

/-- The operations from number 131 on. -/
abbrev line2_0 : List (HloOp τ sig (Elt F)) :=
  [ ternary main_v99 main_v101 main_v64 main_v102 (select : (⟨S2x20000, .i1⟩ : BufTy).Contents (Elt F) → (⟨S2x20000, .i32⟩ : BufTy).Contents (Elt F) → (⟨S2x20000, .i32⟩ : BufTy).Contents (Elt F) → (⟨S2x20000, .i32⟩ : BufTy).Contents (Elt F)),
    unary main_v97 main_v103 (broadcastInDim S2x20000 ![0, 1] bcast_S2x1_S2x20000_0_1 : (⟨S2x1, .i32⟩ : BufTy).Contents (Elt F) → (⟨S2x20000, .i32⟩ : BufTy).Contents (Elt F)),
    unary main_v103 main_v104 (broadcastInDim S2x20000x1 ![0, 1] bcast_S2x20000_S2x20000x1_0_1 : (⟨S2x20000, .i32⟩ : BufTy).Contents (Elt F) → (⟨S2x20000x1, .i32⟩ : BufTy).Contents (Elt F)),
    unary main_v102 main_v105 (broadcastInDim S2x20000x1 ![0, 1] bcast_S2x20000_S2x20000x1_0_1 : (⟨S2x20000, .i32⟩ : BufTy).Contents (Elt F) → (⟨S2x20000x1, .i32⟩ : BufTy).Contents (Elt F)),
    binary main_v104 main_v105 main_v106 ((fun a b => concatenate S2x20000x2 2 [⟨S2x20000x1, a⟩, ⟨S2x20000x1, b⟩] concatenates_S2x20000x1_S2x20000x1_S2x20000x2_d2) : (⟨S2x20000x1, .i32⟩ : BufTy).Contents (Elt F) → (⟨S2x20000x1, .i32⟩ : BufTy).Contents (Elt F) → (⟨S2x20000x2, .i32⟩ : BufTy).Contents (Elt F)),
    binary main_arg3 main_v106 main_v107 ((fun x i => Host.gather gather_S2x32_S2x20000x2_S2x20000_n_01_n_n_01_2_11 x i) : (⟨S2x32, .i32⟩ : BufTy).Contents (Elt F) → (⟨S2x20000x2, .i32⟩ : BufTy).Contents (Elt F) → (⟨S2x20000, .i32⟩ : BufTy).Contents (Elt F)),
    nullary main_c_16 (constantI S_ 32 1#32),
    unary main_c_16 main_v108 (broadcastInDim S2x20000 ![] bcast_S_S2x20000 : (⟨S_, .i32⟩ : BufTy).Contents (Elt F) → (⟨S2x20000, .i32⟩ : BufTy).Contents (Elt F)),
    binary main_v107 main_v108 main_v109 (addi : (⟨S2x20000, .i32⟩ : BufTy).Contents (Elt F) → (⟨S2x20000, .i32⟩ : BufTy).Contents (Elt F) → (⟨S2x20000, .i32⟩ : BufTy).Contents (Elt F)),
    nullary main_cst_17 (constant S_ .f32 0x3F800000#32),
    unary main_cst_17 main_v110 (broadcastInDim S2x20000x80 ![] bcast_S_S2x20000x80 : (⟨S_, .f32⟩ : BufTy).Contents (Elt F) → (⟨S2x20000x80, .f32⟩ : BufTy).Contents (Elt F)),
    unary main_v110 main_v111 (Host.negf : (⟨S2x20000x80, .f32⟩ : BufTy).Contents (Elt F) → (⟨S2x20000x80, .f32⟩ : BufTy).Contents (Elt F)),
    unary main_v66 main_v112 (broadcastInDim S2x20000x1 ![0, 1] bcast_S2x20000_S2x20000x1_0_1 : (⟨S2x20000, .i1⟩ : BufTy).Contents (Elt F) → (⟨S2x20000x1, .i1⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S2x20000x1, .i1⟩) main_v112) (TRef.of (T := ⟨S2x20000x80, .i1⟩) main_call4_v1) (broadcastInDim S2x20000x80 ![0, 1, 2] bcast_S2x20000x1_S2x20000x80_0_1_2),
    TRef.unary (TRef.of (T := ⟨S_, .f32⟩) main_call4_v0) (TRef.of (T := ⟨S2x20000x80, .f32⟩) main_call4_v2) (broadcastInDim S2x20000x80 ![] bcast_S_S2x20000x80),
    TRef.ternary (TRef.of (T := ⟨S2x20000x80, .i1⟩) main_call4_v1) (TRef.of (T := ⟨S2x20000x80, .f32⟩) main_call4_v2) (TRef.of (T := ⟨S2x20000x80, .f32⟩) main_v111) (TRef.of (T := ⟨S2x20000x80, .f32⟩) main_v113) select,
    TRef.unary (TRef.of (T := ⟨S2x20000, .i32⟩) main_v109) (TRef.of (T := ⟨S2x20000x1, .i32⟩) main_call5_v0) (broadcastInDim S2x20000x1 ![0, 1] bcast_S2x20000_S2x20000x1_0_1),
    TRef.nullary (TRef.of (T := ⟨S1x1x80, .i32⟩) main_call5_v1) (iotaInDim S1x1x80 32 2),
    TRef.unary (TRef.of (T := ⟨S2x20000x1, .i32⟩) main_call5_v0) (TRef.of (T := ⟨S2x20000x80, .i32⟩) main_call5_v2) (broadcastInDim S2x20000x80 ![0, 1, 2] bcast_S2x20000x1_S2x20000x80_0_1_2),
    TRef.unary (TRef.of (T := ⟨S1x1x80, .i32⟩) main_call5_v1) (TRef.of (T := ⟨S2x20000x80, .i32⟩) main_call5_v3) (broadcastInDim S2x20000x80 ![0, 1, 2] bcast_S1x1x80_S2x20000x80_0_1_2),
    TRef.binary (TRef.of (T := ⟨S2x20000x80, .i32⟩) main_call5_v2) (TRef.of (T := ⟨S2x20000x80, .i32⟩) main_call5_v3) (TRef.of (T := ⟨S2x20000x80, .i1⟩) main_call5_v4) (cmpi .eq),
    TRef.unary (TRef.of (T := ⟨S2x20000x80, .i1⟩) main_call5_v4) (TRef.of (T := ⟨S2x20000x80, .f32⟩) main_v114) (uitofp .f32),
    unary main_v92 main_v115 (broadcastInDim S2x20000x1 ![0, 1] bcast_S2x20000_S2x20000x1_0_1 : (⟨S2x20000, .i1⟩ : BufTy).Contents (Elt F) → (⟨S2x20000x1, .i1⟩ : BufTy).Contents (Elt F)),
    TRef.unary (TRef.of (T := ⟨S2x20000x1, .i1⟩) main_v115) (TRef.of (T := ⟨S2x20000x80, .i1⟩) main_call6_v0) (broadcastInDim S2x20000x80 ![0, 1, 2] bcast_S2x20000x1_S2x20000x80_0_1_2),
    TRef.ternary (TRef.of (T := ⟨S2x20000x80, .i1⟩) main_call6_v0) (TRef.of (T := ⟨S2x20000x80, .f32⟩) main_v114) (TRef.of (T := ⟨S2x20000x80, .f32⟩) main_v113) (TRef.of (T := ⟨S2x20000x80, .f32⟩) main_v116) select,
    nullary main_cst_19 (constant S_ .f32 0x3F800000#32),
    unary main_cst_19 main_v117 (broadcastInDim S2x20000 ![] bcast_S_S2x20000 : (⟨S_, .f32⟩ : BufTy).Contents (Elt F) → (⟨S2x20000, .f32⟩ : BufTy).Contents (Elt F)),
    unary main_v117 main_v118 (Host.negf : (⟨S2x20000, .f32⟩ : BufTy).Contents (Elt F) → (⟨S2x20000, .f32⟩ : BufTy).Contents (Elt F)) ]

/-- The operations from number 161 on. -/
abbrev line2_1 : List (HloOp τ sig (Elt F)) :=
  [ nullary main_cst_20 (constant S_ .f32 0x00000000#32),
    TRef.unary (TRef.of (T := ⟨S_, .f32⟩) main_cst_20) (TRef.of (T := ⟨S_, .f32⟩) main_call7_v0) id,
    TRef.unary (TRef.of (T := ⟨S_, .f32⟩) main_call7_v0) (TRef.of (T := ⟨S2x20000, .f32⟩) main_call7_v1) (broadcastInDim S2x20000 ![] bcast_S_S2x20000),
    TRef.ternary (TRef.of (T := ⟨S2x20000, .i1⟩) main_v66) (TRef.of (T := ⟨S2x20000, .f32⟩) main_call7_v1) (TRef.of (T := ⟨S2x20000, .f32⟩) main_v118) (TRef.of (T := ⟨S2x20000, .f32⟩) main_v119) select,
    nullary main_cst_21 (constant S_ .f32 0x3F800000#32),
    TRef.unary (TRef.of (T := ⟨S_, .f32⟩) main_cst_21) (TRef.of (T := ⟨S_, .f32⟩) main_call8_v0) id,
    TRef.unary (TRef.of (T := ⟨S_, .f32⟩) main_call8_v0) (TRef.of (T := ⟨S2x20000, .f32⟩) main_call8_v1) (broadcastInDim S2x20000 ![] bcast_S_S2x20000),
    TRef.ternary (TRef.of (T := ⟨S2x20000, .i1⟩) main_v92) (TRef.of (T := ⟨S2x20000, .f32⟩) main_call8_v1) (TRef.of (T := ⟨S2x20000, .f32⟩) main_v119) (TRef.of (T := ⟨S2x20000, .f32⟩) main_v120) select,
    nullary main_c_22 (constantI S_ 32 0#32),
    unary main_c_22 main_v121 (broadcastInDim S2x1 ![] bcast_S_S2x1 : (⟨S_, .i32⟩ : BufTy).Contents (Elt F) → (⟨S2x1, .i32⟩ : BufTy).Contents (Elt F)),
    binary main_v12 main_v121 main_v122 (cmpi .slt : (⟨S2x1, .i32⟩ : BufTy).Contents (Elt F) → (⟨S2x1, .i32⟩ : BufTy).Contents (Elt F) → (⟨S2x1, .i1⟩ : BufTy).Contents (Elt F)),
    nullary main_c_23 (constantI S_ 32 2#32),
    unary main_c_23 main_v123 (broadcastInDim S2x1 ![] bcast_S_S2x1 : (⟨S_, .i32⟩ : BufTy).Contents (Elt F) → (⟨S2x1, .i32⟩ : BufTy).Contents (Elt F)),
    binary main_v12 main_v123 main_v124 (addi : (⟨S2x1, .i32⟩ : BufTy).Contents (Elt F) → (⟨S2x1, .i32⟩ : BufTy).Contents (Elt F) → (⟨S2x1, .i32⟩ : BufTy).Contents (Elt F)),
    ternary main_v122 main_v124 main_v12 main_v125 (select : (⟨S2x1, .i1⟩ : BufTy).Contents (Elt F) → (⟨S2x1, .i32⟩ : BufTy).Contents (Elt F) → (⟨S2x1, .i32⟩ : BufTy).Contents (Elt F) → (⟨S2x1, .i32⟩ : BufTy).Contents (Elt F)),
    nullary main_c_24 (constantI S_ 32 0#32),
    unary main_c_24 main_v126 (broadcastInDim S2x20000 ![] bcast_S_S2x20000 : (⟨S_, .i32⟩ : BufTy).Contents (Elt F) → (⟨S2x20000, .i32⟩ : BufTy).Contents (Elt F)),
    binary main_v64 main_v126 main_v127 (cmpi .slt : (⟨S2x20000, .i32⟩ : BufTy).Contents (Elt F) → (⟨S2x20000, .i32⟩ : BufTy).Contents (Elt F) → (⟨S2x20000, .i1⟩ : BufTy).Contents (Elt F)),
    nullary main_c_25 (constantI S_ 32 32#32),
    unary main_c_25 main_v128 (broadcastInDim S2x20000 ![] bcast_S_S2x20000 : (⟨S_, .i32⟩ : BufTy).Contents (Elt F) → (⟨S2x20000, .i32⟩ : BufTy).Contents (Elt F)),
    binary main_v64 main_v128 main_v129 (addi : (⟨S2x20000, .i32⟩ : BufTy).Contents (Elt F) → (⟨S2x20000, .i32⟩ : BufTy).Contents (Elt F) → (⟨S2x20000, .i32⟩ : BufTy).Contents (Elt F)),
    ternary main_v127 main_v129 main_v64 main_v130 (select : (⟨S2x20000, .i1⟩ : BufTy).Contents (Elt F) → (⟨S2x20000, .i32⟩ : BufTy).Contents (Elt F) → (⟨S2x20000, .i32⟩ : BufTy).Contents (Elt F) → (⟨S2x20000, .i32⟩ : BufTy).Contents (Elt F)),
    unary main_v125 main_v131 (broadcastInDim S2x20000 ![0, 1] bcast_S2x1_S2x20000_0_1 : (⟨S2x1, .i32⟩ : BufTy).Contents (Elt F) → (⟨S2x20000, .i32⟩ : BufTy).Contents (Elt F)),
    unary main_v131 main_v132 (broadcastInDim S2x20000x1 ![0, 1] bcast_S2x20000_S2x20000x1_0_1 : (⟨S2x20000, .i32⟩ : BufTy).Contents (Elt F) → (⟨S2x20000x1, .i32⟩ : BufTy).Contents (Elt F)),
    unary main_v130 main_v133 (broadcastInDim S2x20000x1 ![0, 1] bcast_S2x20000_S2x20000x1_0_1 : (⟨S2x20000, .i32⟩ : BufTy).Contents (Elt F) → (⟨S2x20000x1, .i32⟩ : BufTy).Contents (Elt F)),
    binary main_v132 main_v133 main_v134 ((fun a b => concatenate S2x20000x2 2 [⟨S2x20000x1, a⟩, ⟨S2x20000x1, b⟩] concatenates_S2x20000x1_S2x20000x1_S2x20000x2_d2) : (⟨S2x20000x1, .i32⟩ : BufTy).Contents (Elt F) → (⟨S2x20000x1, .i32⟩ : BufTy).Contents (Elt F) → (⟨S2x20000x2, .i32⟩ : BufTy).Contents (Elt F)),
    binary main_arg2 main_v134 main_v135 ((fun x i => Host.gather gather_S2x32x4_S2x20000x2_S2x20000x4_2_01_n_n_01_2_114 x i) : (⟨S2x32x4, .f32⟩ : BufTy).Contents (Elt F) → (⟨S2x20000x2, .i32⟩ : BufTy).Contents (Elt F) → (⟨S2x20000x4, .f32⟩ : BufTy).Contents (Elt F)),
    unary main_v135 main_v136 ((extractStridedSlice S2x20000x2 ![0, 0, 0] · slices_S2x20000x4_S2x20000x2_0_0_0) : (⟨S2x20000x4, .f32⟩ : BufTy).Contents (Elt F) → (⟨S2x20000x2, .f32⟩ : BufTy).Contents (Elt F)),
    unary main_v135 main_v137 ((extractStridedSlice S2x20000x2 ![0, 0, 2] · slices_S2x20000x4_S2x20000x2_0_0_2) : (⟨S2x20000x4, .f32⟩ : BufTy).Contents (Elt F) → (⟨S2x20000x2, .f32⟩ : BufTy).Contents (Elt F)),
    binary main_v136 main_v137 main_v138 (addf : (⟨S2x20000x2, .f32⟩ : BufTy).Contents (Elt F) → (⟨S2x20000x2, .f32⟩ : BufTy).Contents (Elt F) → (⟨S2x20000x2, .f32⟩ : BufTy).Contents (Elt F)) ]

/-- The operations from number 191 on. -/
abbrev line2_2 : List (HloOp τ sig (Elt F)) :=
  [ nullary main_cst_26 (constant S_ .f32 0x40000000#32),
    unary main_cst_26 main_v139 (broadcastInDim S2x20000x2 ![] bcast_S_S2x20000x2 : (⟨S_, .f32⟩ : BufTy).Contents (Elt F) → (⟨S2x20000x2, .f32⟩ : BufTy).Contents (Elt F)),
    binary main_v138 main_v139 main_v140 (Host.divf : (⟨S2x20000x2, .f32⟩ : BufTy).Contents (Elt F) → (⟨S2x20000x2, .f32⟩ : BufTy).Contents (Elt F) → (⟨S2x20000x2, .f32⟩ : BufTy).Contents (Elt F)),
    unary main_v135 main_v141 ((extractStridedSlice S2x20000x2 ![0, 0, 2] · slices_S2x20000x4_S2x20000x2_0_0_2) : (⟨S2x20000x4, .f32⟩ : BufTy).Contents (Elt F) → (⟨S2x20000x2, .f32⟩ : BufTy).Contents (Elt F)),
    unary main_v135 main_v142 ((extractStridedSlice S2x20000x2 ![0, 0, 0] · slices_S2x20000x4_S2x20000x2_0_0_0) : (⟨S2x20000x4, .f32⟩ : BufTy).Contents (Elt F) → (⟨S2x20000x2, .f32⟩ : BufTy).Contents (Elt F)),
    binary main_v141 main_v142 main_v143 (subf : (⟨S2x20000x2, .f32⟩ : BufTy).Contents (Elt F) → (⟨S2x20000x2, .f32⟩ : BufTy).Contents (Elt F) → (⟨S2x20000x2, .f32⟩ : BufTy).Contents (Elt F)),
    binary main_v140 main_v143 main_v144 ((fun a b => concatenate S2x20000x4 2 [⟨S2x20000x2, a⟩, ⟨S2x20000x2, b⟩] concatenates_S2x20000x2_S2x20000x2_S2x20000x4_d2) : (⟨S2x20000x2, .f32⟩ : BufTy).Contents (Elt F) → (⟨S2x20000x2, .f32⟩ : BufTy).Contents (Elt F) → (⟨S2x20000x4, .f32⟩ : BufTy).Contents (Elt F)),
    unary main_v144 main_v145 ((extractStridedSlice S2x20000x2 ![0, 0, 0] · slices_S2x20000x4_S2x20000x2_0_0_0) : (⟨S2x20000x4, .f32⟩ : BufTy).Contents (Elt F) → (⟨S2x20000x2, .f32⟩ : BufTy).Contents (Elt F)),
    unary main_arg4 main_v146 ((extractStridedSlice S20000x2 ![0, 0] · slices_S20000x4_S20000x2_0_0) : (⟨S20000x4, .f32⟩ : BufTy).Contents (Elt F) → (⟨S20000x2, .f32⟩ : BufTy).Contents (Elt F)),
    unary main_v146 main_v147 (broadcastInDim S1x20000x2 ![1, 2] bcast_S20000x2_S1x20000x2_1_2 : (⟨S20000x2, .f32⟩ : BufTy).Contents (Elt F) → (⟨S1x20000x2, .f32⟩ : BufTy).Contents (Elt F)),
    unary main_v147 main_v148 (broadcastInDim S2x20000x2 ![0, 1, 2] bcast_S1x20000x2_S2x20000x2_0_1_2 : (⟨S1x20000x2, .f32⟩ : BufTy).Contents (Elt F) → (⟨S2x20000x2, .f32⟩ : BufTy).Contents (Elt F)),
    binary main_v145 main_v148 main_v149 (subf : (⟨S2x20000x2, .f32⟩ : BufTy).Contents (Elt F) → (⟨S2x20000x2, .f32⟩ : BufTy).Contents (Elt F) → (⟨S2x20000x2, .f32⟩ : BufTy).Contents (Elt F)),
    unary main_arg4 main_v150 ((extractStridedSlice S20000x2 ![0, 2] · slices_S20000x4_S20000x2_0_2) : (⟨S20000x4, .f32⟩ : BufTy).Contents (Elt F) → (⟨S20000x2, .f32⟩ : BufTy).Contents (Elt F)) ]

/-- The operations of window 2 of the program. -/
def line2 : List (HloOp τ sig (Elt F)) := line2_0 ++ (line2_1 ++ (line2_2))

/-- The operations from number 204 on. -/
abbrev line3_0 : List (HloOp τ sig (Elt F)) :=
  [ unary main_v150 main_v151 (broadcastInDim S1x20000x2 ![1, 2] bcast_S20000x2_S1x20000x2_1_2 : (⟨S20000x2, .f32⟩ : BufTy).Contents (Elt F) → (⟨S1x20000x2, .f32⟩ : BufTy).Contents (Elt F)),
    unary main_v151 main_v152 (broadcastInDim S2x20000x2 ![0, 1, 2] bcast_S1x20000x2_S2x20000x2_0_1_2 : (⟨S1x20000x2, .f32⟩ : BufTy).Contents (Elt F) → (⟨S2x20000x2, .f32⟩ : BufTy).Contents (Elt F)),
    binary main_v149 main_v152 main_v153 (Host.divf : (⟨S2x20000x2, .f32⟩ : BufTy).Contents (Elt F) → (⟨S2x20000x2, .f32⟩ : BufTy).Contents (Elt F) → (⟨S2x20000x2, .f32⟩ : BufTy).Contents (Elt F)),
    unary main_v144 main_v154 ((extractStridedSlice S2x20000x2 ![0, 0, 2] · slices_S2x20000x4_S2x20000x2_0_0_2) : (⟨S2x20000x4, .f32⟩ : BufTy).Contents (Elt F) → (⟨S2x20000x2, .f32⟩ : BufTy).Contents (Elt F)),
    unary main_arg4 main_v155 ((extractStridedSlice S20000x2 ![0, 2] · slices_S20000x4_S20000x2_0_2) : (⟨S20000x4, .f32⟩ : BufTy).Contents (Elt F) → (⟨S20000x2, .f32⟩ : BufTy).Contents (Elt F)),
    unary main_v155 main_v156 (broadcastInDim S1x20000x2 ![1, 2] bcast_S20000x2_S1x20000x2_1_2 : (⟨S20000x2, .f32⟩ : BufTy).Contents (Elt F) → (⟨S1x20000x2, .f32⟩ : BufTy).Contents (Elt F)),
    unary main_v156 main_v157 (broadcastInDim S2x20000x2 ![0, 1, 2] bcast_S1x20000x2_S2x20000x2_0_1_2 : (⟨S1x20000x2, .f32⟩ : BufTy).Contents (Elt F) → (⟨S2x20000x2, .f32⟩ : BufTy).Contents (Elt F)),
    binary main_v154 main_v157 main_v158 (Host.divf : (⟨S2x20000x2, .f32⟩ : BufTy).Contents (Elt F) → (⟨S2x20000x2, .f32⟩ : BufTy).Contents (Elt F) → (⟨S2x20000x2, .f32⟩ : BufTy).Contents (Elt F)),
    unary main_v158 main_v159 (Host.log : (⟨S2x20000x2, .f32⟩ : BufTy).Contents (Elt F) → (⟨S2x20000x2, .f32⟩ : BufTy).Contents (Elt F)),
    binary main_v153 main_v159 main_v160 ((fun a b => concatenate S2x20000x4 2 [⟨S2x20000x2, a⟩, ⟨S2x20000x2, b⟩] concatenates_S2x20000x2_S2x20000x2_S2x20000x4_d2) : (⟨S2x20000x2, .f32⟩ : BufTy).Contents (Elt F) → (⟨S2x20000x2, .f32⟩ : BufTy).Contents (Elt F) → (⟨S2x20000x4, .f32⟩ : BufTy).Contents (Elt F)),
    nullary main_cst_27 (constant S_ .f32 0x00000000#32),
    unary main_cst_27 main_v161 (broadcastInDim S2x20000 ![] bcast_S_S2x20000 : (⟨S_, .f32⟩ : BufTy).Contents (Elt F) → (⟨S2x20000, .f32⟩ : BufTy).Contents (Elt F)),
    binary main_v120 main_v161 main_v162 (cmpf .ogt : (⟨S2x20000, .f32⟩ : BufTy).Contents (Elt F) → (⟨S2x20000, .f32⟩ : BufTy).Contents (Elt F) → (⟨S2x20000, .i1⟩ : BufTy).Contents (Elt F)),
    unary main_v162 main_v163 ((extui 32 · natLt_1_32) : (⟨S2x20000, .i1⟩ : BufTy).Contents (Elt F) → (⟨S2x20000, .i32⟩ : BufTy).Contents (Elt F)),
    nullary main_c_28 (constantI S_ 32 0#32),
    binary main_v163 main_c_28 main_v164 ((fun x v => Host.reduce IntOp.addi x v reducesTo_S2x20000_S_d0_1 h_S_) : (⟨S2x20000, .i32⟩ : BufTy).Contents (Elt F) → (⟨S_, .i32⟩ : BufTy).Contents (Elt F) → (⟨S_, .i32⟩ : BufTy).Contents (Elt F)),
    unary main_v164 main_v165 (sitofp .f32 : (⟨S_, .i32⟩ : BufTy).Contents (Elt F) → (⟨S_, .f32⟩ : BufTy).Contents (Elt F)),
    nullary main_cst_29 (constant S_ .f32 0x00000000#32),
    unary main_cst_29 main_v166 (broadcastInDim S2x20000 ![] bcast_S_S2x20000 : (⟨S_, .f32⟩ : BufTy).Contents (Elt F) → (⟨S2x20000, .f32⟩ : BufTy).Contents (Elt F)),
    binary main_v120 main_v166 main_v167 (cmpf .oge : (⟨S2x20000, .f32⟩ : BufTy).Contents (Elt F) → (⟨S2x20000, .f32⟩ : BufTy).Contents (Elt F) → (⟨S2x20000, .i1⟩ : BufTy).Contents (Elt F)),
    unary main_v167 main_v168 (broadcastInDim S2x20000x1 ![0, 1] bcast_S2x20000_S2x20000x1_0_1 : (⟨S2x20000, .i1⟩ : BufTy).Contents (Elt F) → (⟨S2x20000x1, .i1⟩ : BufTy).Contents (Elt F)),
    unary main_v168 main_v169 (uitofp .f32 : (⟨S2x20000x1, .i1⟩ : BufTy).Contents (Elt F) → (⟨S2x20000x1, .f32⟩ : BufTy).Contents (Elt F)),
    nullary main_cst_30 (constant S_ .f32 0x00000000#32),
    unary main_cst_30 main_v170 (broadcastInDim S2x20000 ![] bcast_S_S2x20000 : (⟨S_, .f32⟩ : BufTy).Contents (Elt F) → (⟨S2x20000, .f32⟩ : BufTy).Contents (Elt F)),
    binary main_v120 main_v170 main_v171 (cmpf .ogt : (⟨S2x20000, .f32⟩ : BufTy).Contents (Elt F) → (⟨S2x20000, .f32⟩ : BufTy).Contents (Elt F) → (⟨S2x20000, .i1⟩ : BufTy).Contents (Elt F)),
    unary main_v171 main_v172 (broadcastInDim S2x20000x1 ![0, 1] bcast_S2x20000_S2x20000x1_0_1 : (⟨S2x20000, .i1⟩ : BufTy).Contents (Elt F) → (⟨S2x20000x1, .i1⟩ : BufTy).Contents (Elt F)),
    unary main_v172 main_v173 (uitofp .f32 : (⟨S2x20000x1, .i1⟩ : BufTy).Contents (Elt F) → (⟨S2x20000x1, .f32⟩ : BufTy).Contents (Elt F)),
    nullary main_cst_31 (constant S_ .f32 0x3F800000#32),
    unary main_cst_31 main_v174 (broadcastInDim S2x20000x80 ![] bcast_S_S2x20000x80 : (⟨S_, .f32⟩ : BufTy).Contents (Elt F) → (⟨S2x20000x80, .f32⟩ : BufTy).Contents (Elt F)),
    binary main_v116 main_v174 main_v175 (cmpf .oeq : (⟨S2x20000x80, .f32⟩ : BufTy).Contents (Elt F) → (⟨S2x20000x80, .f32⟩ : BufTy).Contents (Elt F) → (⟨S2x20000x80, .i1⟩ : BufTy).Contents (Elt F)) ]

/-- The operations from number 234 on. -/
abbrev line3_1 : List (HloOp τ sig (Elt F)) :=
  [ nullary main_cst_32 (constant S_ .f32 0x3E800000#32),
    nullary main_cst_33 (constant S_ .f32 0x3F400000#32),
    TRef.unary (TRef.of (T := ⟨S_, .f32⟩) main_cst_32) (TRef.of (T := ⟨S2x20000x80, .f32⟩) main_call9_v0) (broadcastInDim S2x20000x80 ![] bcast_S_S2x20000x80),
    TRef.unary (TRef.of (T := ⟨S_, .f32⟩) main_cst_33) (TRef.of (T := ⟨S2x20000x80, .f32⟩) main_call9_v1) (broadcastInDim S2x20000x80 ![] bcast_S_S2x20000x80),
    TRef.ternary (TRef.of (T := ⟨S2x20000x80, .i1⟩) main_v175) (TRef.of (T := ⟨S2x20000x80, .f32⟩) main_call9_v0) (TRef.of (T := ⟨S2x20000x80, .f32⟩) main_call9_v1) (TRef.of (T := ⟨S2x20000x80, .f32⟩) main_v176) select,
    nullary main_cst_34 (constant S_ .f32 0x3F800000#32),
    unary main_cst_34 main_v177 (broadcastInDim S2x20000x80 ![] bcast_S_S2x20000x80 : (⟨S_, .f32⟩ : BufTy).Contents (Elt F) → (⟨S2x20000x80, .f32⟩ : BufTy).Contents (Elt F)),
    binary main_v116 main_v177 main_v178 (cmpf .oeq : (⟨S2x20000x80, .f32⟩ : BufTy).Contents (Elt F) → (⟨S2x20000x80, .f32⟩ : BufTy).Contents (Elt F) → (⟨S2x20000x80, .i1⟩ : BufTy).Contents (Elt F)),
    nullary main_cst_35 (constant S_ .f32 0x3F800000#32),
    unary main_cst_35 main_v179 (broadcastInDim S2x20000x80 ![] bcast_S_S2x20000x80 : (⟨S_, .f32⟩ : BufTy).Contents (Elt F) → (⟨S2x20000x80, .f32⟩ : BufTy).Contents (Elt F)),
    binary main_v179 main_arg0 main_v180 (subf : (⟨S2x20000x80, .f32⟩ : BufTy).Contents (Elt F) → (⟨S2x20000x80, .f32⟩ : BufTy).Contents (Elt F) → (⟨S2x20000x80, .f32⟩ : BufTy).Contents (Elt F)),
    TRef.ternary (TRef.of (T := ⟨S2x20000x80, .i1⟩) main_v178) (TRef.of (T := ⟨S2x20000x80, .f32⟩) main_arg0) (TRef.of (T := ⟨S2x20000x80, .f32⟩) main_v180) (TRef.of (T := ⟨S2x20000x80, .f32⟩) main_v181) select,
    unary main_arg0 main_v182 (Host.log : (⟨S2x20000x80, .f32⟩ : BufTy).Contents (Elt F) → (⟨S2x20000x80, .f32⟩ : BufTy).Contents (Elt F)),
    nullary main_cst_36 (constant S_ .f32 0xC2C80000#32),
    TRef.unary (TRef.of (T := ⟨S_, .f32⟩) main_cst_36) (TRef.of (T := ⟨S_, .f32⟩) main_call11_v0) id,
    TRef.unary (TRef.of (T := ⟨S_, .f32⟩) main_call11_v0) (TRef.of (T := ⟨S2x20000x80, .f32⟩) main_call11_v1) (broadcastInDim S2x20000x80 ![] bcast_S_S2x20000x80),
    TRef.binary (TRef.of (T := ⟨S2x20000x80, .f32⟩) main_call11_v1) (TRef.of (T := ⟨S2x20000x80, .f32⟩) main_v182) (TRef.of (T := ⟨S2x20000x80, .f32⟩) main_v183) maximumf,
    nullary main_cst_37 (constant S_ .f32 0x3F800000#32),
    unary main_cst_37 main_v184 (broadcastInDim S2x20000x80 ![] bcast_S_S2x20000x80 : (⟨S_, .f32⟩ : BufTy).Contents (Elt F) → (⟨S2x20000x80, .f32⟩ : BufTy).Contents (Elt F)),
    binary main_v184 main_arg0 main_v185 (subf : (⟨S2x20000x80, .f32⟩ : BufTy).Contents (Elt F) → (⟨S2x20000x80, .f32⟩ : BufTy).Contents (Elt F) → (⟨S2x20000x80, .f32⟩ : BufTy).Contents (Elt F)),
    unary main_v185 main_v186 (Host.log : (⟨S2x20000x80, .f32⟩ : BufTy).Contents (Elt F) → (⟨S2x20000x80, .f32⟩ : BufTy).Contents (Elt F)),
    nullary main_cst_38 (constant S_ .f32 0xC2C80000#32),
    TRef.unary (TRef.of (T := ⟨S_, .f32⟩) main_cst_38) (TRef.of (T := ⟨S_, .f32⟩) main_call12_v0) id,
    TRef.unary (TRef.of (T := ⟨S_, .f32⟩) main_call12_v0) (TRef.of (T := ⟨S2x20000x80, .f32⟩) main_call12_v1) (broadcastInDim S2x20000x80 ![] bcast_S_S2x20000x80),
    TRef.binary (TRef.of (T := ⟨S2x20000x80, .f32⟩) main_call12_v1) (TRef.of (T := ⟨S2x20000x80, .f32⟩) main_v186) (TRef.of (T := ⟨S2x20000x80, .f32⟩) main_v187) maximumf,
    binary main_v116 main_v183 main_v188 (mulf : (⟨S2x20000x80, .f32⟩ : BufTy).Contents (Elt F) → (⟨S2x20000x80, .f32⟩ : BufTy).Contents (Elt F) → (⟨S2x20000x80, .f32⟩ : BufTy).Contents (Elt F)),
    nullary main_cst_39 (constant S_ .f32 0x3F800000#32),
    unary main_cst_39 main_v189 (broadcastInDim S2x20000x80 ![] bcast_S_S2x20000x80 : (⟨S_, .f32⟩ : BufTy).Contents (Elt F) → (⟨S2x20000x80, .f32⟩ : BufTy).Contents (Elt F)),
    binary main_v189 main_v116 main_v190 (subf : (⟨S2x20000x80, .f32⟩ : BufTy).Contents (Elt F) → (⟨S2x20000x80, .f32⟩ : BufTy).Contents (Elt F) → (⟨S2x20000x80, .f32⟩ : BufTy).Contents (Elt F)),
    binary main_v190 main_v187 main_v191 (mulf : (⟨S2x20000x80, .f32⟩ : BufTy).Contents (Elt F) → (⟨S2x20000x80, .f32⟩ : BufTy).Contents (Elt F) → (⟨S2x20000x80, .f32⟩ : BufTy).Contents (Elt F)) ]

/-- The operations from number 264 on. -/
abbrev line3_2 : List (HloOp τ sig (Elt F)) :=
  [ binary main_v188 main_v191 main_v192 (addf : (⟨S2x20000x80, .f32⟩ : BufTy).Contents (Elt F) → (⟨S2x20000x80, .f32⟩ : BufTy).Contents (Elt F) → (⟨S2x20000x80, .f32⟩ : BufTy).Contents (Elt F)),
    unary main_v192 main_v193 (Host.negf : (⟨S2x20000x80, .f32⟩ : BufTy).Contents (Elt F) → (⟨S2x20000x80, .f32⟩ : BufTy).Contents (Elt F)),
    nullary main_cst_40 (constant S_ .f32 0x3F800000#32),
    unary main_cst_40 main_v194 (broadcastInDim S2x20000x80 ![] bcast_S_S2x20000x80 : (⟨S_, .f32⟩ : BufTy).Contents (Elt F) → (⟨S2x20000x80, .f32⟩ : BufTy).Contents (Elt F)),
    binary main_v194 main_v181 main_v195 (subf : (⟨S2x20000x80, .f32⟩ : BufTy).Contents (Elt F) → (⟨S2x20000x80, .f32⟩ : BufTy).Contents (Elt F) → (⟨S2x20000x80, .f32⟩ : BufTy).Contents (Elt F)),
    nullary main_cst_41 (constant S_ .f32 0x40000000#32) ]

/-- The operations of window 3 of the program. -/
def line3 : List (HloOp τ sig (Elt F)) := line3_0 ++ (line3_1 ++ (line3_2))

/-- The operations from number 270 on. -/
abbrev line4_0 : List (HloOp τ sig (Elt F)) :=
  [ unary main_cst_41 main_v196 (broadcastInDim S2x20000x80 ![] bcast_S_S2x20000x80 : (⟨S_, .f32⟩ : BufTy).Contents (Elt F) → (⟨S2x20000x80, .f32⟩ : BufTy).Contents (Elt F)),
    binary main_v195 main_v196 main_v197 (Host.powf : (⟨S2x20000x80, .f32⟩ : BufTy).Contents (Elt F) → (⟨S2x20000x80, .f32⟩ : BufTy).Contents (Elt F) → (⟨S2x20000x80, .f32⟩ : BufTy).Contents (Elt F)),
    unary main_v176 main_v198 (id : (⟨S2x20000x80, .f32⟩ : BufTy).Contents (Elt F) → (⟨S2x20000x80, .f32⟩ : BufTy).Contents (Elt F)),
    binary main_v198 main_v197 main_v199 (mulf : (⟨S2x20000x80, .f32⟩ : BufTy).Contents (Elt F) → (⟨S2x20000x80, .f32⟩ : BufTy).Contents (Elt F) → (⟨S2x20000x80, .f32⟩ : BufTy).Contents (Elt F)),
    binary main_v199 main_v193 main_v200 (mulf : (⟨S2x20000x80, .f32⟩ : BufTy).Contents (Elt F) → (⟨S2x20000x80, .f32⟩ : BufTy).Contents (Elt F) → (⟨S2x20000x80, .f32⟩ : BufTy).Contents (Elt F)),
    binary main_arg1 main_v160 main_v201 (subf : (⟨S2x20000x4, .f32⟩ : BufTy).Contents (Elt F) → (⟨S2x20000x4, .f32⟩ : BufTy).Contents (Elt F) → (⟨S2x20000x4, .f32⟩ : BufTy).Contents (Elt F)),
    unary main_v201 main_v202 (Host.absf : (⟨S2x20000x4, .f32⟩ : BufTy).Contents (Elt F) → (⟨S2x20000x4, .f32⟩ : BufTy).Contents (Elt F)),
    nullary main_cst_42 (constant S_ .f32 0x3DE38E39#32),
    unary main_cst_42 main_v203 (broadcastInDim S2x20000x4 ![] bcast_S_S2x20000x4 : (⟨S_, .f32⟩ : BufTy).Contents (Elt F) → (⟨S2x20000x4, .f32⟩ : BufTy).Contents (Elt F)),
    binary main_v202 main_v203 main_v204 (cmpf .oge : (⟨S2x20000x4, .f32⟩ : BufTy).Contents (Elt F) → (⟨S2x20000x4, .f32⟩ : BufTy).Contents (Elt F) → (⟨S2x20000x4, .i1⟩ : BufTy).Contents (Elt F)),
    nullary main_cst_43 (constant S_ .f32 0x3D638E39#32),
    unary main_cst_43 main_v205 (broadcastInDim S2x20000x4 ![] bcast_S_S2x20000x4 : (⟨S_, .f32⟩ : BufTy).Contents (Elt F) → (⟨S2x20000x4, .f32⟩ : BufTy).Contents (Elt F)),
    binary main_v202 main_v205 main_v206 (subf : (⟨S2x20000x4, .f32⟩ : BufTy).Contents (Elt F) → (⟨S2x20000x4, .f32⟩ : BufTy).Contents (Elt F) → (⟨S2x20000x4, .f32⟩ : BufTy).Contents (Elt F)),
    binary main_v202 main_v202 main_v207 (mulf : (⟨S2x20000x4, .f32⟩ : BufTy).Contents (Elt F) → (⟨S2x20000x4, .f32⟩ : BufTy).Contents (Elt F) → (⟨S2x20000x4, .f32⟩ : BufTy).Contents (Elt F)),
    nullary main_cst_44 (constant S_ .f32 0x3F000000#32),
    unary main_cst_44 main_v208 (broadcastInDim S2x20000x4 ![] bcast_S_S2x20000x4 : (⟨S_, .f32⟩ : BufTy).Contents (Elt F) → (⟨S2x20000x4, .f32⟩ : BufTy).Contents (Elt F)),
    binary main_v208 main_v207 main_v209 (mulf : (⟨S2x20000x4, .f32⟩ : BufTy).Contents (Elt F) → (⟨S2x20000x4, .f32⟩ : BufTy).Contents (Elt F) → (⟨S2x20000x4, .f32⟩ : BufTy).Contents (Elt F)),
    nullary main_cst_45 (constant S_ .f32 0x3DE38E39#32),
    unary main_cst_45 main_v210 (broadcastInDim S2x20000x4 ![] bcast_S_S2x20000x4 : (⟨S_, .f32⟩ : BufTy).Contents (Elt F) → (⟨S2x20000x4, .f32⟩ : BufTy).Contents (Elt F)),
    binary main_v209 main_v210 main_v211 (Host.divf : (⟨S2x20000x4, .f32⟩ : BufTy).Contents (Elt F) → (⟨S2x20000x4, .f32⟩ : BufTy).Contents (Elt F) → (⟨S2x20000x4, .f32⟩ : BufTy).Contents (Elt F)),
    TRef.ternary (TRef.of (T := ⟨S2x20000x4, .i1⟩) main_v204) (TRef.of (T := ⟨S2x20000x4, .f32⟩) main_v206) (TRef.of (T := ⟨S2x20000x4, .f32⟩) main_v211) (TRef.of (T := ⟨S2x20000x4, .f32⟩) main_v212) select,
    unary main_v169 main_v213 (broadcastInDim S2x20000x80 ![0, 1, 2] bcast_S2x20000x1_S2x20000x80_0_1_2 : (⟨S2x20000x1, .f32⟩ : BufTy).Contents (Elt F) → (⟨S2x20000x80, .f32⟩ : BufTy).Contents (Elt F)),
    binary main_v200 main_v213 main_v214 (mulf : (⟨S2x20000x80, .f32⟩ : BufTy).Contents (Elt F) → (⟨S2x20000x80, .f32⟩ : BufTy).Contents (Elt F) → (⟨S2x20000x80, .f32⟩ : BufTy).Contents (Elt F)),
    nullary main_cst_46 (constant S_ .f32 0x00000000#32),
    binary main_v214 main_cst_46 main_v215 ((fun x v => Host.reduceAdd x v reducesTo_S2x20000x80_S_d0_1_2 h_S_) : (⟨S2x20000x80, .f32⟩ : BufTy).Contents (Elt F) → (⟨S_, .f32⟩ : BufTy).Contents (Elt F) → (⟨S_, .f32⟩ : BufTy).Contents (Elt F)),
    binary main_v215 main_v165 main_v216 (Host.divf : (⟨S_, .f32⟩ : BufTy).Contents (Elt F) → (⟨S_, .f32⟩ : BufTy).Contents (Elt F) → (⟨S_, .f32⟩ : BufTy).Contents (Elt F)),
    unary main_v173 main_v217 (broadcastInDim S2x20000x4 ![0, 1, 2] bcast_S2x20000x1_S2x20000x4_0_1_2 : (⟨S2x20000x1, .f32⟩ : BufTy).Contents (Elt F) → (⟨S2x20000x4, .f32⟩ : BufTy).Contents (Elt F)),
    binary main_v212 main_v217 main_v218 (mulf : (⟨S2x20000x4, .f32⟩ : BufTy).Contents (Elt F) → (⟨S2x20000x4, .f32⟩ : BufTy).Contents (Elt F) → (⟨S2x20000x4, .f32⟩ : BufTy).Contents (Elt F)),
    nullary main_cst_47 (constant S_ .f32 0x00000000#32),
    binary main_v218 main_cst_47 main_v219 ((fun x v => Host.reduceAdd x v reducesTo_S2x20000x4_S_d0_1_2 h_S_) : (⟨S2x20000x4, .f32⟩ : BufTy).Contents (Elt F) → (⟨S_, .f32⟩ : BufTy).Contents (Elt F) → (⟨S_, .f32⟩ : BufTy).Contents (Elt F)) ]

/-- The operations from number 300 on. -/
abbrev line4_1 : List (HloOp τ sig (Elt F)) :=
  [ binary main_v219 main_v165 main_v220 (Host.divf : (⟨S_, .f32⟩ : BufTy).Contents (Elt F) → (⟨S_, .f32⟩ : BufTy).Contents (Elt F) → (⟨S_, .f32⟩ : BufTy).Contents (Elt F)),
    binary main_v216 main_v220 main_v221 (addf : (⟨S_, .f32⟩ : BufTy).Contents (Elt F) → (⟨S_, .f32⟩ : BufTy).Contents (Elt F) → (⟨S_, .f32⟩ : BufTy).Contents (Elt F)) ]

/-- The operations of window 4 of the program. -/
def line4 : List (HloOp τ sig (Elt F)) := line4_0 ++ (line4_1)

/-- All operations of the reference. -/
abbrev ops : List (HloOp τ sig (Elt F)) := line0 ++ (line1 ++ (line2 ++ (line3 ++ line4)))

set_option maxRecDepth 8192 in
set_option maxHeartbeats 4000000 in
theorem part0_eq (c : Dev nD) : main_part0 (F := F) c = seq line0 := rfl

set_option maxRecDepth 8192 in
set_option maxHeartbeats 4000000 in
theorem part1_eq (c : Dev nD) : main_part1 (F := F) c = seq line1 := rfl

set_option maxRecDepth 8192 in
set_option maxHeartbeats 4000000 in
theorem part2_eq (c : Dev nD) : main_part2 (F := F) c = seq line2 := rfl

set_option maxRecDepth 8192 in
set_option maxHeartbeats 4000000 in
theorem part3_eq (c : Dev nD) : main_part3 (F := F) c = seq line3 := rfl

set_option maxRecDepth 8192 in
set_option maxHeartbeats 4000000 in
theorem part4_eq (c : Dev nD) : main_part4 (F := F) c = seq line4 := rfl

set_option maxRecDepth 8192 in
theorem main_eq (c : Dev nD) : main (F := F) c = seq ops := by
  simp only [ops, seq_append, ← part0_eq c, ← part1_eq c, ← part2_eq c, ← part3_eq c, ← part4_eq c]
  rfl

set_option maxRecDepth 8192 in
theorem line0_0_sub : (line0_0 : List (HloOp τ sig (Elt F))).Forall fun op => op.bufs ⊆ tcRefs τ sig :=
  ⟨unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., nullary_bufs_sub .., unary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub ..⟩

set_option maxRecDepth 8192 in
theorem line0_0_fresh : (line0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line0_1_sub : (line0_1 : List (HloOp τ sig (Elt F))).Forall fun op => op.bufs ⊆ tcRefs τ sig :=
  ⟨nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩

set_option maxRecDepth 8192 in
theorem line0_1_fresh : (line0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line0_2_sub : (line0_2 : List (HloOp τ sig (Elt F))).Forall fun op => op.bufs ⊆ tcRefs τ sig :=
  ⟨binary_bufs_sub .., unary_bufs_sub ..⟩

set_option maxRecDepth 8192 in
theorem line0_2_fresh : (line0_2 : List (HloOp τ sig (Elt F))).Forall fun op => op.fresh = ∅ :=
  ⟨rfl, rfl⟩

set_option maxRecDepth 8192 in
theorem line1_0_sub : (line1_0 : List (HloOp τ sig (Elt F))).Forall fun op => op.bufs ⊆ tcRefs τ sig :=
  ⟨unary_bufs_sub .., unary_bufs_sub .., unary_bufs_sub .., binary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., nullary_bufs_sub ..⟩

set_option maxRecDepth 8192 in
theorem line1_0_fresh : (line1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line1_1_sub : (line1_1 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., unary_bufs_sub .., nullary_bufs_sub .., binary_bufs_sub .., unary_bufs_sub .., nullary_bufs_sub .., unary_bufs_sub .., binary_bufs_sub .., unary_bufs_sub .., ternary_bufs_sub .., nullary_bufs_sub .., unary_bufs_sub .., binary_bufs_sub .., nullary_bufs_sub ..⟩

set_option maxRecDepth 8192 in
theorem line1_1_fresh : (line1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line1_2_sub : (line1_2 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub ..⟩

set_option maxRecDepth 8192 in
theorem line1_2_fresh : (line1_2 : List (HloOp τ sig (Elt F))).Forall fun op => op.fresh = ∅ :=
  ⟨rfl, rfl, rfl, rfl, rfl, rfl, rfl, rfl, rfl⟩

set_option maxRecDepth 8192 in
theorem line2_0_sub : (line2_0 : List (HloOp τ sig (Elt F))).Forall fun op => op.bufs ⊆ tcRefs τ sig :=
  ⟨ternary_bufs_sub .., unary_bufs_sub .., unary_bufs_sub .., unary_bufs_sub .., binary_bufs_sub .., binary_bufs_sub .., nullary_bufs_sub .., unary_bufs_sub .., binary_bufs_sub .., nullary_bufs_sub .., unary_bufs_sub .., unary_bufs_sub .., unary_bufs_sub .., nullary_bufs_sub .., unary_bufs_sub .., unary_bufs_sub .., unary_bufs_sub .., ternary_bufs_sub .., unary_bufs_sub .., nullary_bufs_sub .., unary_bufs_sub .., unary_bufs_sub .., binary_bufs_sub .., unary_bufs_sub .., unary_bufs_sub .., unary_bufs_sub .., ternary_bufs_sub .., nullary_bufs_sub .., unary_bufs_sub .., unary_bufs_sub ..⟩

set_option maxRecDepth 8192 in
theorem line2_0_fresh : (line2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line2_1_sub : (line2_1 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., unary_bufs_sub .., binary_bufs_sub ..⟩

set_option maxRecDepth 8192 in
theorem line2_1_fresh : (line2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line2_2_sub : (line2_2 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., unary_bufs_sub .., unary_bufs_sub .., unary_bufs_sub .., unary_bufs_sub .., binary_bufs_sub .., unary_bufs_sub ..⟩

set_option maxRecDepth 8192 in
theorem line2_2_fresh : (line2_2 : List (HloOp τ sig (Elt F))).Forall fun op => op.fresh = ∅ :=
  ⟨rfl, rfl, rfl, rfl, rfl, rfl, rfl, rfl, rfl, rfl, rfl, rfl, rfl⟩

set_option maxRecDepth 8192 in
theorem line3_0_sub : (line3_0 : List (HloOp τ sig (Elt F))).Forall fun op => op.bufs ⊆ tcRefs τ sig :=
  ⟨unary_bufs_sub .., unary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub ..⟩

set_option maxRecDepth 8192 in
theorem line3_0_fresh : (line3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line3_1_sub : (line3_1 : List (HloOp τ sig (Elt F))).Forall fun op => op.bufs ⊆ tcRefs τ sig :=
  ⟨nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., unary_bufs_sub .., unary_bufs_sub .., binary_bufs_sub .., nullary_bufs_sub .., unary_bufs_sub .., binary_bufs_sub .., unary_bufs_sub .., nullary_bufs_sub .., unary_bufs_sub .., unary_bufs_sub .., binary_bufs_sub .., binary_bufs_sub .., nullary_bufs_sub .., unary_bufs_sub .., binary_bufs_sub .., binary_bufs_sub ..⟩

set_option maxRecDepth 8192 in
theorem line3_1_fresh : (line3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line3_2_sub : (line3_2 : List (HloOp τ sig (Elt F))).Forall fun op => op.bufs ⊆ tcRefs τ sig :=
  ⟨binary_bufs_sub .., unary_bufs_sub .., nullary_bufs_sub .., unary_bufs_sub .., binary_bufs_sub .., nullary_bufs_sub ..⟩

set_option maxRecDepth 8192 in
theorem line3_2_fresh : (line3_2 : List (HloOp τ sig (Elt F))).Forall fun op => op.fresh = ∅ :=
  ⟨rfl, rfl, rfl, rfl, rfl, rfl⟩

set_option maxRecDepth 8192 in
theorem line4_0_sub : (line4_0 : List (HloOp τ sig (Elt F))).Forall fun op => op.bufs ⊆ tcRefs τ sig :=
  ⟨unary_bufs_sub .., binary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., binary_bufs_sub .., unary_bufs_sub .., binary_bufs_sub .., nullary_bufs_sub .., binary_bufs_sub ..⟩

set_option maxRecDepth 8192 in
theorem line4_0_fresh : (line4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem line4_1_sub : (line4_1 : List (HloOp τ sig (Elt F))).Forall fun op => op.bufs ⊆ tcRefs τ sig :=
  ⟨binary_bufs_sub .., binary_bufs_sub ..⟩

set_option maxRecDepth 8192 in
theorem line4_1_fresh : (line4_1 : List (HloOp τ sig (Elt F))).Forall fun op => op.fresh = ∅ :=
  ⟨rfl, rfl⟩

theorem ops_sub : ∀ op ∈ (ops : List (HloOp τ sig (Elt F))), op.bufs ⊆ tcRefs τ sig := fun op h => by
  simp only [ops, line0, line1, line2, line3, line4, List.mem_append, or_assoc] at h
  rcases h with h | h | h | h | h | h | h | h | h | h | h | h | h | h
  exacts [List.forall_iff_forall_mem.mp line0_0_sub op h, List.forall_iff_forall_mem.mp line0_1_sub op h, List.forall_iff_forall_mem.mp line0_2_sub op h, List.forall_iff_forall_mem.mp line1_0_sub op h, List.forall_iff_forall_mem.mp line1_1_sub op h, List.forall_iff_forall_mem.mp line1_2_sub op h, List.forall_iff_forall_mem.mp line2_0_sub op h, List.forall_iff_forall_mem.mp line2_1_sub op h, List.forall_iff_forall_mem.mp line2_2_sub op h, List.forall_iff_forall_mem.mp line3_0_sub op h, List.forall_iff_forall_mem.mp line3_1_sub op h, List.forall_iff_forall_mem.mp line3_2_sub op h, List.forall_iff_forall_mem.mp line4_0_sub op h, List.forall_iff_forall_mem.mp line4_1_sub op h]

theorem ops_fresh : ∀ op ∈ (ops : List (HloOp τ sig (Elt F))), op.fresh = ∅ := fun op h => by
  simp only [ops, line0, line1, line2, line3, line4, List.mem_append, or_assoc] at h
  rcases h with h | h | h | h | h | h | h | h | h | h | h | h | h | h
  exacts [List.forall_iff_forall_mem.mp line0_0_fresh op h, List.forall_iff_forall_mem.mp line0_1_fresh op h, List.forall_iff_forall_mem.mp line0_2_fresh op h, List.forall_iff_forall_mem.mp line1_0_fresh op h, List.forall_iff_forall_mem.mp line1_1_fresh op h, List.forall_iff_forall_mem.mp line1_2_fresh op h, List.forall_iff_forall_mem.mp line2_0_fresh op h, List.forall_iff_forall_mem.mp line2_1_fresh op h, List.forall_iff_forall_mem.mp line2_2_fresh op h, List.forall_iff_forall_mem.mp line3_0_fresh op h, List.forall_iff_forall_mem.mp line3_1_fresh op h, List.forall_iff_forall_mem.mp line3_2_fresh op h, List.forall_iff_forall_mem.mp line4_0_fresh op h, List.forall_iff_forall_mem.mp line4_1_fresh op h]

/-- What the operations write, in order. -/
abbrev written : List (Ref sig .tc) :=
  [main_v0, main_v1, main_cst, main_v2, main_v3, main_v4, main_v5, main_v6, main_cst_0, main_v7, main_v8, main_v9, main_v10, main_v11, main_v12, main_v13, main_v14, main_v15, main_v16, main_v17, main_v18, main_v19, main_v20, main_v21, main_v22, main_v23, main_v24, main_v25, main_v26, main_v27, main_cst_1, main_call0_v0, main_call0_v1, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_cst_2, main_v63, main_call1_v0, main_call1_cst, main_call1_c, main_call1_v1_0, main_v64, main_cst_3, main_v65, main_v66, main_cst_4, main_v67, main_v68, main_call2_v0, main_call2_cst, main_call2_c, main_call2_v1_0, main_v69, main_c, main_v70, main_c_5, main_v71, main_v72, main_c_6, main_v73, main_v74, main_v75, main_c_7, main_v76, main_v77, main_c_8, main_v78, main_v79, main_v80, main_v81, main_v82, main_v83, main_v84, main_c_9, main_v85, main_v86, main_v87, main_c_10, main_v88, main_v89, main_c_11, main_v90, main_v91, main_call3_v0, main_v92, main_c_12, main_v93, main_v94, main_c_13, main_v95, main_v96, main_v97, main_c_14, main_v98, main_v99, main_c_15, main_v100, main_v101, main_v102, main_v103, main_v104, main_v105, main_v106, main_v107, main_c_16, main_v108, main_v109, main_cst_17, main_v110, main_v111, main_v112, main_cst_18, main_call4_v0, main_call4_v1, main_call4_v2, main_v113, main_call5_v0, main_call5_v1, main_call5_v2, main_call5_v3, main_call5_v4, main_v114, main_v115, main_call6_v0, main_v116, main_cst_19, main_v117, main_v118, main_cst_20, main_call7_v0, main_call7_v1, main_v119, main_cst_21, main_call8_v0, main_call8_v1, main_v120, main_c_22, main_v121, main_v122, main_c_23, main_v123, main_v124, main_v125, main_c_24, main_v126, main_v127, main_c_25, main_v128, main_v129, main_v130, main_v131, main_v132, main_v133, main_v134, main_v135, main_v136, main_v137, main_v138, main_cst_26, main_v139, main_v140, main_v141, main_v142, main_v143, main_v144, main_v145, main_v146, main_v147, main_v148, main_v149, main_v150, main_v151, main_v152, main_v153, main_v154, main_v155, main_v156, main_v157, main_v158, main_v159, main_v160, main_cst_27, main_v161, main_v162, main_v163, main_c_28, main_v164, main_v165, main_cst_29, main_v166, main_v167, main_v168, main_v169, main_cst_30, main_v170, main_v171, main_v172, main_v173, main_cst_31, main_v174, main_v175, main_cst_32, main_cst_33, main_call9_v0, main_call9_v1, main_v176, main_cst_34, main_v177, main_v178, main_cst_35, main_v179, main_v180, main_v181, main_v182, main_cst_36, main_call11_v0, main_call11_v1, main_v183, main_cst_37, main_v184, main_v185, main_v186, main_cst_38, main_call12_v0, main_call12_v1, main_v187, main_v188, main_cst_39, main_v189, main_v190, main_v191, main_v192, main_v193, main_cst_40, main_v194, main_v195, main_cst_41, main_v196, main_v197, main_v198, main_v199, main_v200, main_v201, main_v202, main_cst_42, main_v203, main_v204, main_cst_43, main_v205, main_v206, main_v207, main_cst_44, main_v208, main_v209, main_cst_45, main_v210, main_v211, main_v212, main_v213, main_v214, main_cst_46, main_v215, main_v216, main_v217, main_v218, main_cst_47, main_v219, main_v220, main_v221]

set_option maxRecDepth 16384 in
theorem writes_eq : (ops : List (HloOp τ sig (Elt F))).map HloOp.writes = written.map fun w => {Proc.devRef (τ := τ) .tc w} := rfl

/-- What the buffer `r` holds after the reference, run from the contents `V`. -/
def W (V : Valuation τ sig (Elt F)) (r : Ref sig .tc) : (Proc.devRef .tc r : DevRef τ sig).ty.Contents (Elt F) :=
  after ops V (Proc.devRef .tc r)

set_option maxRecDepth 16384 in
/-- An argument is never written. -/
theorem W_arg (V : Valuation τ sig (Elt F)) (r : Ref sig .tc) (h : r ∉ written) : W V r = V (Proc.devRef .tc r) :=
  after_unwritten written writes_eq h V

/-- The reference runs to its end and leaves in each buffer what `W` says. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = W (launchContents m d) b :=
  run_seq (by decide) (by decide) defs main (fun _ => ops) main_eq (fun _ => List.forall_iff_forall_mem.mpr ops_sub) m ρ
    fun _ => ops_fresh

end Cert.RefEqs

end
-- ==== Proof.Frames.lean ====
/- The claims other than the value claim: the three programs run and leave their arguments unchanged, and the kernel's
   named constant is what its name stands for. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_ok
public import proofs.«01_k».proof.Proof.Ref.Ops

@[expose] public section

noncomputable section

namespace Cert.Proof.Frames

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_ok : Cert.quiescent_KernelIdeal_pre_ok := fun m ρ _ => Cert.KernelIdeal.Gen.frame m ρ

set_option maxRecDepth 16384 in
/-- The reference writes none of its arguments and has no semaphore. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c =>
      ⟨(h c _).trans (Cert.RefEqs.W_arg _ _ (by decide)), (h c _).trans (Cert.RefEqs.W_arg _ _ (by decide)),
        (h c _).trans (Cert.RefEqs.W_arg _ _ (by decide)), (h c _).trans (Cert.RefEqs.W_arg _ _ (by decide)),
        (h c _).trans (Cert.RefEqs.W_arg _ _ (by decide))⟩,
      sem_eq_zero_of_no_sems (by decide) r.2⟩) (Cert.RefEqs.run (F := Ideal) m ρ)

theorem frame_ri : Cert.quiescent_ReferenceIdeal := fun m ρ _ => frame_r m ρ

theorem frame_ri_ok : Cert.quiescent_ReferenceIdeal_pre_ok := fun m ρ _ => frame_r m ρ

/-- The name stands for the exact reciprocal of twice the f32 number next to 1/9; the f32 word 4.5 is next to it. -/
theorem preserves : Cert.preserves_Kernel_KernelIdeal :=
  IdealRules.named_const.statement Cert.KernelIdeal.κ "half_over_beta" .f32 0x40900000#32 ((67108864 / 14913081 : ℝ) : EReal) rfl

end Cert.Proof.Frames

end
-- ==== Proof.Kernel.Block.lean ====
/- What the kernel's body leaves in its three accumulators at a grid point, as functions of the blocks it reads: the
   payloads of the generated skeleton composed, stage by stage. -/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen

variable {F : FTy → Type} [FloatOps F] [Named F]

/-- The overlap of every box with every anchor. -/
def iou (x2 : Vec F S1x32x4 .f32) (x4 : Vec F S4x20000 .f32) : FVec F S32x20000 .f32 :=
  k0_pay22 (k0_pay11 x4) (k0_pay12 x4) (k0_pay13 x4) (k0_pay14 x4) (k0_pay16 x2) (k0_pay17 x2) (k0_pay18 x2) (k0_pay19 x2) (k0_pay20 x4 x2) (k0_pay21 x4 x2)
/-- Each anchor's largest overlap. -/
def rmax (x2 : Vec F S1x32x4 .f32) (x4 : Vec F S4x20000 .f32) : FVec F S1x20000 .f32 :=
  k0_pay23 (k0_pay11 x4) (k0_pay12 x4) (k0_pay13 x4) (k0_pay14 x4) (k0_pay16 x2) (k0_pay17 x2) (k0_pay18 x2) (k0_pay19 x2) (k0_pay20 x4 x2) (k0_pay21 x4 x2)
/-- The one-hot of the first box of largest overlap. -/
def sel (x2 : Vec F S1x32x4 .f32) (x4 : Vec F S4x20000 .f32) : FVec F S32x20000 .f32 :=
  k0_pay24 (k0_pay11 x4) (k0_pay12 x4) (k0_pay13 x4) (k0_pay14 x4) (k0_pay16 x2) (k0_pay17 x2) (k0_pay18 x2) (k0_pay19 x2) (k0_pay20 x4 x2) (k0_pay21 x4 x2)
/-- The matched label plus one. -/
def cstar (x2 : Vec F S1x32x4 .f32) (x3 : Vec F S1x32x1 .f32) (x4 : Vec F S4x20000 .f32) : FVec F S1x20000 .f32 :=
  k0_pay25 (k0_pay11 x4) (k0_pay12 x4) (k0_pay13 x4) (k0_pay14 x4) (k0_pay16 x2) (k0_pay17 x2) (k0_pay18 x2) (k0_pay19 x2) (k0_pay20 x4 x2) (k0_pay21 x4 x2) x3
/-- The matched box's first coordinate. -/
def gx1 (x2 : Vec F S1x32x4 .f32) (x4 : Vec F S4x20000 .f32) : FVec F S1x20000 .f32 :=
  k0_pay26 (k0_pay11 x4) (k0_pay12 x4) (k0_pay13 x4) (k0_pay14 x4) (k0_pay16 x2) (k0_pay17 x2) (k0_pay18 x2) (k0_pay19 x2) (k0_pay20 x4 x2) (k0_pay21 x4 x2)
/-- The matched box's second coordinate. -/
def gy1 (x2 : Vec F S1x32x4 .f32) (x4 : Vec F S4x20000 .f32) : FVec F S1x20000 .f32 :=
  k0_pay27 (k0_pay11 x4) (k0_pay12 x4) (k0_pay13 x4) (k0_pay14 x4) (k0_pay16 x2) (k0_pay17 x2) (k0_pay18 x2) (k0_pay19 x2) (k0_pay20 x4 x2) (k0_pay21 x4 x2)
/-- The matched box's third coordinate. -/
def gx2 (x2 : Vec F S1x32x4 .f32) (x4 : Vec F S4x20000 .f32) : FVec F S1x20000 .f32 :=
  k0_pay28 (k0_pay11 x4) (k0_pay12 x4) (k0_pay13 x4) (k0_pay14 x4) (k0_pay16 x2) (k0_pay17 x2) (k0_pay18 x2) (k0_pay19 x2) (k0_pay20 x4 x2) (k0_pay21 x4 x2)
/-- The matched box's fourth coordinate. -/
def gy2 (x2 : Vec F S1x32x4 .f32) (x4 : Vec F S4x20000 .f32) : FVec F S20000 .f32 :=
  k0_pay29 (k0_pay11 x4) (k0_pay12 x4) (k0_pay13 x4) (k0_pay14 x4) (k0_pay16 x2) (k0_pay17 x2) (k0_pay18 x2) (k0_pay19 x2) (k0_pay20 x4 x2) (k0_pay21 x4 x2)
/-- The regression target. -/
def gtLoc (x2 : Vec F S1x32x4 .f32) (x4 : Vec F S4x20000 .f32) : FVec F S4x20000 .f32 :=
  k0_pay30 (k0_pay7 x4) (k0_pay8 x4) (k0_pay9 x4) (k0_pay10 x4) (gx1 x2 x4) (gy1 x2 x4) (gx2 x2 x4) (gy2 x2 x4)
/-- 1 at the positive anchors, 0 elsewhere. -/
def posf (x2 : Vec F S1x32x4 .f32) (x4 : Vec F S4x20000 .f32) : FVec F S1x20000 .f32 := k0_pay31 (iou x2 x4) (rmax x2 x4)
/-- The positive anchors. -/
def pos (x2 : Vec F S1x32x4 .f32) (x4 : Vec F S4x20000 .f32) : IVec S1x20000 1 := k0_pay32 (iou x2 x4) (rmax x2 x4)
/-- The negative anchors. -/
def neg (x2 : Vec F S1x32x4 .f32) (x4 : Vec F S4x20000 .f32) : IVec S1x20000 1 := k0_pay34 (pos x2 x4) (k0_pay33 (rmax x2 x4))
/-- The classification accumulator after the point. -/
def clsOut (x0 : Vec F S1x80x20000 .f32) (x2 : Vec F S1x32x4 .f32) (x3 : Vec F S1x32x1 .f32) (x4 : Vec F S4x20000 .f32)
    (xo : Vec F S1x1 .f32) : FVec F S1x1 .f32 :=
  k0_pay42 (pos x2 x4) (neg x2 x4) (k0_pay36 x0) (k0_pay37 (cstar x2 x3 x4) x0) (k0_pay38 (cstar x2 x3 x4) x0)
    (k0_pay39 (cstar x2 x3 x4) x0) (k0_pay40 (cstar x2 x3 x4) x0) k0_pay41 xo
/-- The regression accumulator after the point. -/
def locOut (x1 : Vec F S1x4x20000 .f32) (x2 : Vec F S1x32x4 .f32) (x4 : Vec F S4x20000 .f32) (xo : Vec F S1x1 .f32) :
    FVec F S1x1 .f32 :=
  k0_pay1 (k0_pay43 xo) (k0_pay44 (gtLoc x2 x4) (posf x2 x4) x1)
/-- The count of positive anchors after the point. -/
def nposOut (x2 : Vec F S1x32x4 .f32) (x4 : Vec F S4x20000 .f32) (xo : Vec F S1x1 .f32) : FVec F S1x1 .f32 :=
  k0_pay2 (posf x2 x4) xo
/-- The zero block the first point stores. -/
def zero : FVec F S1x1 .f32 := k0_pay3

theorem off2 : (![0, 0] : Fin 2 → Nat) = fun _ => 0 := funext fun a => by fin_cases a <;> rfl
theorem off3 : (![0, 0, 0] : Fin 3 → Nat) = fun _ => 0 := funext fun a => by fin_cases a <;> rfl

/-- At the second point the body adds to what output 5 held. -/
theorem out_B_5 (c : Dev nD) (i : grid0.Coords) (a1 : Memref sig .tc .vmem S1x80x20000 .f32) (h1 : a1.IsWhole) (a2 : Memref sig .tc .vmem S1x4x20000 .f32) (h2 : a2.IsWhole) (a3 : Memref sig .tc .vmem S1x32x4 .f32) (h3 : a3.IsWhole) (a4 : Memref sig .tc .vmem S1x32x1 .f32) (h4 : a4.IsWhole) (a5 : Memref sig .tc .vmem S4x20000 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 : Vec F S1x80x20000 .f32) (x1 : Vec F S1x4x20000 .f32) (x2 : Vec F S1x32x4 .f32) (x3 : Vec F S1x32x1 .f32)
    (x4 : Vec F S4x20000 .f32) (o5 o6 o7 : Vec F S1x1 .f32) :
    out0_B_5 c i a1 h1 a2 h2 a3 h3 a4 h4 a5 h5 a6 h6 a7 h7 a8 h8 hc x0 x1 x2 x3 x4 o5 o6 o7 = clsOut x0 x2 x3 x4 o5 := by
  unfold out0_B_5
  rw [View.read_writes_eq_canon _ _ _ (cover0_B_5 c i a1 h1 a2 h2 a3 h3 a4 h4 a5 h5 a6 h6 a7 h7 a8 h8 hc x0 x1 x2 x3 x4 o5 o6 o7)]
  unfold kernelRun0_B
  dsimp only
  sl_unfold_words
  rw [View.canon_unit_zero off2]
  simp only [View.readAt_eq_ld, h1.read_unread, h2.read_unread, h3.read_unread, h4.read_unread, h5.read_unread,
    h6.read_unread, h7.read_unread, h8.read_unread, View.ld_unit_zero (S := S1x1) off2, View.ld_unit_zero (S := S4x20000) off2,
    View.ld_unit_zero (S := S1x80x20000) off3, View.ld_unit_zero (S := S1x4x20000) off3, View.ld_unit_zero (S := S1x32x4) off3,
    View.ld_unit_zero (S := S1x32x1) off3]
  rfl

/-- At the first point the body stores zero into output 5 and adds to that. -/
theorem out_A_5 (c : Dev nD) (i : grid0.Coords) (a1 : Memref sig .tc .vmem S1x80x20000 .f32) (h1 : a1.IsWhole) (a2 : Memref sig .tc .vmem S1x4x20000 .f32) (h2 : a2.IsWhole) (a3 : Memref sig .tc .vmem S1x32x4 .f32) (h3 : a3.IsWhole) (a4 : Memref sig .tc .vmem S1x32x1 .f32) (h4 : a4.IsWhole) (a5 : Memref sig .tc .vmem S4x20000 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 : Vec F S1x80x20000 .f32) (x1 : Vec F S1x4x20000 .f32) (x2 : Vec F S1x32x4 .f32) (x3 : Vec F S1x32x1 .f32)
    (x4 : Vec F S4x20000 .f32) :
    out0_A_5 c i a1 h1 a2 h2 a3 h3 a4 h4 a5 h5 a6 h6 a7 h7 a8 h8 hc x0 x1 x2 x3 x4 = clsOut x0 x2 x3 x4 zero := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_cons_unit_zero (S := S1x1) off2]
  simp only [View.readCov_unit_zero (S := S1x1) _ off2, View.readAt_eq_ld, h1.read_unread, h2.read_unread, h3.read_unread,
    h4.read_unread, h5.read_unread, View.ld_unit_zero (S := S4x20000) off2,
    View.ld_unit_zero (S := S1x80x20000) off3, View.ld_unit_zero (S := S1x4x20000) off3, View.ld_unit_zero (S := S1x32x4) off3,
    View.ld_unit_zero (S := S1x32x1) off3]
  rfl

/-- At the second point the body adds to what output 6 held. -/
theorem out_B_6 (c : Dev nD) (i : grid0.Coords) (a1 : Memref sig .tc .vmem S1x80x20000 .f32) (h1 : a1.IsWhole) (a2 : Memref sig .tc .vmem S1x4x20000 .f32) (h2 : a2.IsWhole) (a3 : Memref sig .tc .vmem S1x32x4 .f32) (h3 : a3.IsWhole) (a4 : Memref sig .tc .vmem S1x32x1 .f32) (h4 : a4.IsWhole) (a5 : Memref sig .tc .vmem S4x20000 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 : Vec F S1x80x20000 .f32) (x1 : Vec F S1x4x20000 .f32) (x2 : Vec F S1x32x4 .f32) (x3 : Vec F S1x32x1 .f32)
    (x4 : Vec F S4x20000 .f32) (o5 o6 o7 : Vec F S1x1 .f32) :
    out0_B_6 c i a1 h1 a2 h2 a3 h3 a4 h4 a5 h5 a6 h6 a7 h7 a8 h8 hc x0 x1 x2 x3 x4 o5 o6 o7 = locOut x1 x2 x4 o6 := by
  unfold out0_B_6
  rw [View.read_writes_eq_canon _ _ _ (cover0_B_6 c i a1 h1 a2 h2 a3 h3 a4 h4 a5 h5 a6 h6 a7 h7 a8 h8 hc x0 x1 x2 x3 x4 o5 o6 o7)]
  unfold kernelRun0_B
  dsimp only
  sl_unfold_words
  rw [View.canon_unit_zero off2]
  simp only [View.readAt_eq_ld, h1.read_unread, h2.read_unread, h3.read_unread, h4.read_unread, h5.read_unread,
    h6.read_unread, h7.read_unread, h8.read_unread, View.ld_unit_zero (S := S1x1) off2, View.ld_unit_zero (S := S4x20000) off2,
    View.ld_unit_zero (S := S1x80x20000) off3, View.ld_unit_zero (S := S1x4x20000) off3, View.ld_unit_zero (S := S1x32x4) off3,
    View.ld_unit_zero (S := S1x32x1) off3]
  rfl

/-- At the first point the body stores zero into output 6 and adds to that. -/
theorem out_A_6 (c : Dev nD) (i : grid0.Coords) (a1 : Memref sig .tc .vmem S1x80x20000 .f32) (h1 : a1.IsWhole) (a2 : Memref sig .tc .vmem S1x4x20000 .f32) (h2 : a2.IsWhole) (a3 : Memref sig .tc .vmem S1x32x4 .f32) (h3 : a3.IsWhole) (a4 : Memref sig .tc .vmem S1x32x1 .f32) (h4 : a4.IsWhole) (a5 : Memref sig .tc .vmem S4x20000 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 : Vec F S1x80x20000 .f32) (x1 : Vec F S1x4x20000 .f32) (x2 : Vec F S1x32x4 .f32) (x3 : Vec F S1x32x1 .f32)
    (x4 : Vec F S4x20000 .f32) :
    out0_A_6 c i a1 h1 a2 h2 a3 h3 a4 h4 a5 h5 a6 h6 a7 h7 a8 h8 hc x0 x1 x2 x3 x4 = locOut x1 x2 x4 zero := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x1) off2]
  simp only [View.readCov_unit_zero (S := S1x1) _ off2, View.readAt_eq_ld, h1.read_unread, h2.read_unread, h3.read_unread,
    h4.read_unread, h5.read_unread, View.ld_unit_zero (S := S4x20000) off2,
    View.ld_unit_zero (S := S1x80x20000) off3, View.ld_unit_zero (S := S1x4x20000) off3, View.ld_unit_zero (S := S1x32x4) off3,
    View.ld_unit_zero (S := S1x32x1) off3]
  rfl

/-- At the second point the body adds to what output 7 held. -/
theorem out_B_7 (c : Dev nD) (i : grid0.Coords) (a1 : Memref sig .tc .vmem S1x80x20000 .f32) (h1 : a1.IsWhole) (a2 : Memref sig .tc .vmem S1x4x20000 .f32) (h2 : a2.IsWhole) (a3 : Memref sig .tc .vmem S1x32x4 .f32) (h3 : a3.IsWhole) (a4 : Memref sig .tc .vmem S1x32x1 .f32) (h4 : a4.IsWhole) (a5 : Memref sig .tc .vmem S4x20000 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : ¬cond0_0 i)
    (x0 : Vec F S1x80x20000 .f32) (x1 : Vec F S1x4x20000 .f32) (x2 : Vec F S1x32x4 .f32) (x3 : Vec F S1x32x1 .f32)
    (x4 : Vec F S4x20000 .f32) (o5 o6 o7 : Vec F S1x1 .f32) :
    out0_B_7 c i a1 h1 a2 h2 a3 h3 a4 h4 a5 h5 a6 h6 a7 h7 a8 h8 hc x0 x1 x2 x3 x4 o5 o6 o7 = nposOut x2 x4 o7 := by
  unfold out0_B_7
  rw [View.read_writes_eq_canon _ _ _ (cover0_B_7 c i a1 h1 a2 h2 a3 h3 a4 h4 a5 h5 a6 h6 a7 h7 a8 h8 hc x0 x1 x2 x3 x4 o5 o6 o7)]
  unfold kernelRun0_B
  dsimp only
  sl_unfold_words
  rw [View.canon_unit_zero off2]
  simp only [View.readAt_eq_ld, h1.read_unread, h2.read_unread, h3.read_unread, h4.read_unread, h5.read_unread,
    h6.read_unread, h7.read_unread, h8.read_unread, View.ld_unit_zero (S := S1x1) off2, View.ld_unit_zero (S := S4x20000) off2,
    View.ld_unit_zero (S := S1x80x20000) off3, View.ld_unit_zero (S := S1x4x20000) off3, View.ld_unit_zero (S := S1x32x4) off3,
    View.ld_unit_zero (S := S1x32x1) off3]
  rfl

/-- At the first point the body stores zero into output 7 and adds to that. -/
theorem out_A_7 (c : Dev nD) (i : grid0.Coords) (a1 : Memref sig .tc .vmem S1x80x20000 .f32) (h1 : a1.IsWhole) (a2 : Memref sig .tc .vmem S1x4x20000 .f32) (h2 : a2.IsWhole) (a3 : Memref sig .tc .vmem S1x32x4 .f32) (h3 : a3.IsWhole) (a4 : Memref sig .tc .vmem S1x32x1 .f32) (h4 : a4.IsWhole) (a5 : Memref sig .tc .vmem S4x20000 .f32) (h5 : a5.IsWhole) (a6 : Memref sig .tc .vmem S1x1 .f32) (h6 : a6.IsWhole) (a7 : Memref sig .tc .vmem S1x1 .f32) (h7 : a7.IsWhole) (a8 : Memref sig .tc .vmem S1x1 .f32) (h8 : a8.IsWhole) (hc : cond0_0 i)
    (x0 : Vec F S1x80x20000 .f32) (x1 : Vec F S1x4x20000 .f32) (x2 : Vec F S1x32x4 .f32) (x3 : Vec F S1x32x1 .f32)
    (x4 : Vec F S4x20000 .f32) :
    out0_A_7 c i a1 h1 a2 h2 a3 h3 a4 h4 a5 h5 a6 h6 a7 h7 a8 h8 hc x0 x1 x2 x3 x4 = nposOut x2 x4 zero := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1) off2]
  simp only [View.readCov_unit_zero (S := S1x1) _ off2, View.readAt_eq_ld, h1.read_unread, h2.read_unread, h3.read_unread,
    h4.read_unread, h5.read_unread, View.ld_unit_zero (S := S4x20000) off2,
    View.ld_unit_zero (S := S1x80x20000) off3, View.ld_unit_zero (S := S1x4x20000) off3, View.ld_unit_zero (S := S1x32x4) off3,
    View.ld_unit_zero (S := S1x32x1) off3]
  rfl

end Cert.KernelIdeal.Value

end
-- ==== Proof.Spec.lean ====
/- The loss of one image as plain mathematics over the extended reals: overlaps, matching, targets and the three sums. -/
module

public import Idealize.ShloMosaic.PureOps.Ideal
public import Idealize.ShloMosaic.PureOps.Ideal.Laws
public import Idealize.ShloMosaic.PureOps.Reduce

@[expose] public section

noncomputable section

namespace Cert.Spec

open Idealize.ShloMosaic
open scoped Classical

/-- 1/2, 1/4, 3/4 and −100 as extended reals. -/
def half : EReal := ((1 / 2 : ℝ) : EReal)
def quarter : EReal := ((1 / 4 : ℝ) : EReal)
def threeQuarters : EReal := ((3 / 4 : ℝ) : EReal)
def m100 : EReal := ((-100 : ℝ) : EReal)
/-- The f32 nearest 1/9, its half, and the reciprocal of its double. -/
def ninth : EReal := Ideal.ofBits .f32 0x3DE38E39#32
def eighteenth : EReal := Ideal.ofBits .f32 0x3D638E39#32
def fourHalf : EReal := ((67108864 / 14913081 : ℝ) : EReal)
/-- The f32 nearest 0.4. -/
def c04 : EReal := Ideal.ofBits .f32 0x3ECCCCCD#32

/-! ## The first largest -/

section First

variable {k : ℕ} [NeZero k]

theorem top_nonempty (f : Fin k → EReal) : (Finset.univ.filter fun i => f i = Finset.univ.sup f).Nonempty := by
  obtain ⟨i, _, h⟩ := Finset.exists_mem_eq_sup (Finset.univ : Finset (Fin k)) ⟨0, Finset.mem_univ _⟩ f
  exact ⟨i, Finset.mem_filter.mpr ⟨Finset.mem_univ _, h.symm⟩⟩

/-- The least index at which `f` is largest. -/
def first (f : Fin k → EReal) : Fin k := (Finset.univ.filter fun i => f i = Finset.univ.sup f).min' (top_nonempty f)

theorem first_eq (f : Fin k → EReal) : f (first f) = Finset.univ.sup f :=
  (Finset.mem_filter.mp (Finset.min'_mem _ (top_nonempty f))).2

theorem first_le (f : Fin k → EReal) {i : Fin k} (h : f i = Finset.univ.sup f) : first f ≤ i :=
  Finset.min'_le (Finset.univ.filter fun i => f i = Finset.univ.sup f) i (Finset.mem_filter.mpr ⟨Finset.mem_univ _, h⟩)

theorem first_unique (f : Fin k → EReal) {i : Fin k} (h : ∀ j, f j ≤ f i) (h' : ∀ j, j < i → f j < f i) : first f = i := by
  have e : f i = Finset.univ.sup f := le_antisymm (Finset.le_sup (Finset.mem_univ i)) (Finset.sup_le fun j _ => h j)
  refine le_antisymm (first_le f e) (not_lt.mp fun hlt => ?_)
  exact absurd (first_eq f) (ne_of_lt (e ▸ h' _ hlt))

end First

/-! ## One image -/

section Image

variable (a : Fin 20000 → Fin 4 → EReal) (b : Fin 32 → Fin 4 → EReal)

/-- An anchor's corners. -/
def ax1 (n : Fin 20000) : EReal := a n 0 - a n 2 * half
def ay1 (n : Fin 20000) : EReal := a n 1 - a n 3 * half
def ax2 (n : Fin 20000) : EReal := a n 0 + a n 2 * half
def ay2 (n : Fin 20000) : EReal := a n 1 + a n 3 * half

/-- The area an anchor and a box share. -/
def inter (n : Fin 20000) (j : Fin 32) : EReal :=
  max (min (ax2 a n) (b j 2) - max (ax1 a n) (b j 0)) 0 * max (min (ay2 a n) (b j 3) - max (ay1 a n) (b j 1)) 0

/-- The overlap: shared area over the area of the union. -/
def iou (n : Fin 20000) (j : Fin 32) : EReal :=
  Ideal.div (inter a b n j)
    ((ax2 a n - ax1 a n) * (ay2 a n - ay1 a n) + (b j 2 - b j 0) * (b j 3 - b j 1) - inter a b n j)

/-- An anchor's largest overlap and the first box that has it. -/
def rmax (n : Fin 20000) : EReal := Finset.univ.sup fun j => iou a b n j
def rarg (n : Fin 20000) : Fin 32 := first fun j => iou a b n j
/-- The first anchor of a box's largest overlap. -/
def carg (j : Fin 32) : Fin 20000 := first fun n => iou a b n j

/-- The anchor is some box's best. -/
def fb (n : Fin 20000) : Prop := ∃ j, carg a b j = n
def pos0 (n : Fin 20000) : Prop := half ≤ rmax a b n
/-- The positive anchors: those that overlap enough, or, if there is none in the image, the boxes' best. -/
def pos (n : Fin 20000) : Prop := if ∃ n', pos0 a b n' then pos0 a b n else fb a b n
def neg (n : Fin 20000) : Prop := rmax a b n < c04 ∧ ¬ pos a b n

/-- The regression target of an anchor. -/
def gt (n : Fin 20000) (k : Fin 4) : EReal :=
  match k with
  | 0 => Ideal.div ((b (rarg a b n) 0 + b (rarg a b n) 2) * half - a n 0) (a n 2)
  | 1 => Ideal.div ((b (rarg a b n) 1 + b (rarg a b n) 3) * half - a n 1) (a n 3)
  | 2 => Ideal.log (Ideal.div (b (rarg a b n) 2 - b (rarg a b n) 0) (a n 2))
  | 3 => Ideal.log (Ideal.div (b (rarg a b n) 3 - b (rarg a b n) 1) (a n 3))

def posf (n : Fin 20000) : EReal := if pos a b n then 1 else 0

/-- The number of positive anchors. -/
def npos : EReal := ∑ n, posf a b n

/-- The smooth distance. -/
def sl1 (x : EReal) : EReal := if ninth ≤ x then x - eighteenth else fourHalf * (x * x)

/-- The regression sum. -/
def loc (x : Fin 20000 → Fin 4 → EReal) : EReal :=
  ∑ n, ∑ k, sl1 (max (x n k - gt a b n k) (-(x n k - gt a b n k))) * posf a b n

/-- The focal terms of a class that is not the target, and of the one that is. -/
def fneg (p : EReal) : EReal := threeQuarters * (p * p) * (0 - max (Ideal.log (1 - p)) m100)
def fpos (p : EReal) : EReal := quarter * (1 - p) * (1 - p) * (0 - max (Ideal.log p) m100)

/-- One anchor's classification term, where `l` is the target class of each box. -/
def clsRow (p : Fin 20000 → Fin 80 → EReal) (l : Fin 32 → ℕ) (n : Fin 20000) : EReal :=
  if pos a b n then ∑ c : Fin 80, if (c : ℕ) = l (rarg a b n) then fpos (p n c) else fneg (p n c)
  else if neg a b n then ∑ c : Fin 80, fneg (p n c) else 0

/-- The classification sum. -/
def cls (p : Fin 20000 → Fin 80 → EReal) (l : Fin 32 → ℕ) : EReal := ∑ n, clsRow a b p l n

end Image

/-! ## Constants -/

theorem ofBits_half : Ideal.ofBits .f32 0x3F000000#32 = half := by
  simp [Ideal.ofBits, Ideal.ieee, half, -EReal.coe_mul]; norm_num
theorem ofBits_quarter : Ideal.ofBits .f32 0x3E800000#32 = quarter := by
  simp [Ideal.ofBits, Ideal.ieee, quarter, -EReal.coe_mul]; norm_num
theorem ofBits_threeQuarters : Ideal.ofBits .f32 0x3F400000#32 = threeQuarters := by
  simp [Ideal.ofBits, Ideal.ieee, threeQuarters, -EReal.coe_mul]; norm_num
theorem ofBits_m100 : Ideal.ofBits .f32 0xC2C80000#32 = m100 := by
  simp [Ideal.ofBits, Ideal.ieee, m100, -EReal.coe_mul]; norm_num
theorem ninth_eq : ninth = ((14913081 / 134217728 : ℝ) : EReal) := by
  simp [ninth, Ideal.ofBits, Ideal.ieee, -EReal.coe_mul]; norm_num
theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_negInf : Ideal.ofBits .f32 0xFF800000#32 = ⊥ := by
  simp [Ideal.ofBits, Ideal.ieee]

/-! ## Sums over the extended reals -/

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem sum_pos_iff {ι : Type} [Fintype ι] (p : ι → Prop) [DecidablePred p] : 0 < (∑ i, if p i then (1 : EReal) else 0) ↔ ∃ i, p i := by
  have h : (∑ i, if p i then (1 : EReal) else 0) = ((∑ i, if p i then (1 : ℝ) else 0 : ℝ) : EReal) := by
    rw [coe_sum]; exact Finset.sum_congr rfl fun i _ => by split_ifs <;> simp
  rw [h, EReal.coe_pos, Finset.sum_boole, Nat.cast_pos, Finset.card_pos]
  constructor
  · rintro ⟨i, hi⟩; exact ⟨i, (Finset.mem_filter.mp hi).2⟩
  · rintro ⟨i, hi⟩; exact ⟨i, Finset.mem_filter.mpr ⟨Finset.mem_univ _, hi⟩⟩

theorem sum_onehot {ι : Type} [Fintype ι] [DecidableEq ι] (i : ι) (f : ι → EReal) : (∑ j, (if j = i then (1 : EReal) else 0) * f j) = f i := by
  rw [Finset.sum_eq_single i]
  · simp
  · intro j _ hj; simp [hj]
  · intro h; exact absurd (Finset.mem_univ i) h

/-- A maximum of indicators, from −∞. -/
theorem sup_indicator {ι : Type} [Fintype ι] [Nonempty ι] (p : ι → Prop) [DecidablePred p] :
    (Finset.univ.sup fun i => if p i then (1 : EReal) else 0) = if ∃ i, p i then 1 else 0 := by
  by_cases h : ∃ i, p i
  · rw [if_pos h]
    obtain ⟨i, hi⟩ := h
    refine le_antisymm (Finset.sup_le fun j _ => ?_) ?_
    · split_ifs <;> simp
    · have := Finset.le_sup (f := fun i => if p i then (1 : EReal) else 0) (Finset.mem_univ i)
      simpa [hi] using this
  · rw [if_neg h]
    have h' : ∀ i, ¬ p i := fun i hi => h ⟨i, hi⟩
    obtain ⟨i⟩ := ‹Nonempty ι›
    refine le_antisymm (Finset.sup_le fun j _ => by simp [h' j]) ?_
    have := Finset.le_sup (f := fun i => if p i then (1 : EReal) else 0) (Finset.mem_univ i)
    simpa [h' i] using this

theorem fold_sup {ι : Type} [Fintype ι] (f : ι → EReal) : Finset.univ.fold max ⊥ f = Finset.univ.sup f := rfl

/-! ## The focal terms are finite -/

theorem log_clip (r : ℝ) : ∃ u : ℝ, max (Ideal.log (r : EReal)) m100 = (u : EReal) := by
  by_cases h : r ≤ 0
  · refine ⟨-100, ?_⟩
    have : Ideal.log (r : EReal) = ⊥ := by show (if r ≤ 0 then (⊥ : EReal) else _) = ⊥; rw [if_pos h]
    rw [this]; exact max_eq_right bot_le
  · refine ⟨max (Real.log r) (-100), ?_⟩
    have : Ideal.log (r : EReal) = ((Real.log r : ℝ) : EReal) := by
      show (if r ≤ 0 then (⊥ : EReal) else _) = _; rw [if_neg h]
    rw [this, m100]; exact (EReal.coe_strictMono.monotone.map_max).symm

theorem log_clip' (r : ℝ) : ∃ u : ℝ, max (Ideal.log (1 - (r : EReal))) m100 = (u : EReal) := by
  have : (1 : EReal) - (r : EReal) = ((1 - r : ℝ) : EReal) := by rw [EReal.coe_sub, EReal.coe_one]
  rw [this]; exact log_clip _

theorem fneg_real (r : ℝ) : ∃ u : ℝ, fneg (r : EReal) = (u : EReal) := by
  obtain ⟨u, hu⟩ := log_clip' r
  refine ⟨3 / 4 * (r * r) * (0 - u), ?_⟩
  rw [fneg, hu, threeQuarters]; norm_cast

theorem fpos_real (r : ℝ) : ∃ u : ℝ, fpos (r : EReal) = (u : EReal) := by
  obtain ⟨u, hu⟩ := log_clip r
  refine ⟨1 / 4 * (1 - r) * (1 - r) * (0 - u), ?_⟩
  rw [fpos, hu, quarter]; norm_cast

/-- A row of the negative terms with one of them exchanged. -/
theorem row_exchange (p : Fin 80 → ℝ) (s : Fin 80) :
    (∑ c, fneg (p c : EReal)) - fneg (p s : EReal) + fpos (p s : EReal)
      = ∑ c : Fin 80, if c = s then fpos (p c : EReal) else fneg (p c : EReal) := by
  choose u hu using fun c => fneg_real (p c)
  choose v hv using fun c => fpos_real (p c)
  simp only [hu, hv]
  have h : ∀ c : Fin 80, (if c = s then (v c : EReal) else (u c : EReal)) = ((if c = s then v c else u c : ℝ) : EReal) :=
    fun c => by split_ifs <;> rfl
  simp only [h, ← coe_sum, ← EReal.coe_sub, ← EReal.coe_add]
  congr 1
  have e : ∀ c, (if c = s then v c else u c) = u c + if c = s then v c - u c else 0 := fun c => by split_ifs <;> ring
  simp only [e, Finset.sum_add_distrib, Finset.sum_ite_eq', Finset.mem_univ, if_true]
  ring

/-- The sum that selects one entry. -/
theorem sum_select (p : Fin 80 → EReal) (s : Fin 80) : (∑ c, if c = s then p c else 0) = p s := by
  rw [Finset.sum_ite_eq' Finset.univ s p, if_pos (Finset.mem_univ _)]

/-! ## The first largest as a signed minimum of words -/

theorem minsi_ofNat {m n : ℕ} (hm : m < 2 ^ 31) (hn : n < 2 ^ 31) :
    IntOp.minsi (BitVec.ofNat 32 m) (BitVec.ofNat 32 n) = BitVec.ofNat 32 (min m n) := by
  have e : ∀ {k : ℕ}, k < 2 ^ 31 → (BitVec.ofNat 32 k).toInt = k := fun {k} h => by
    rw [BitVec.toInt_eq_toNat_of_lt (by rw [BitVec.toNat_ofNat]; omega), BitVec.toNat_ofNat]; omega
  unfold IntOp.minsi
  simp only [BitVec.slt, BitVec.sle, e hm, e hn]
  rcases le_total m n with h | h
  · rw [min_eq_left h]; split_ifs <;> first | rfl | (congr 1; simp at *; omega)
  · rw [min_eq_right h]; split_ifs <;> first | rfl | (congr 1; simp at *; omega)

theorem fold_min_lt {ι : Type} (c : ℕ) (g : ι → ℕ) (hc : c < 2 ^ 31) (S : Finset ι) : S.fold min c g < 2 ^ 31 :=
  lt_of_le_of_lt ((Finset.fold_min_le (s := S) (f := g) (b := c) c).mpr (Or.inl le_rfl)) hc

theorem fold_minsi {ι : Type} (c : ℕ) (g : ι → ℕ) (hc : c < 2 ^ 31) (hg : ∀ i, g i < 2 ^ 31) (S : Finset ι) :
    S.fold IntOp.minsi (BitVec.ofNat 32 c) (fun i => BitVec.ofNat 32 (g i)) = BitVec.ofNat 32 (S.fold min c g) := by
  classical
  induction S using Finset.induction_on with
  | empty => rfl
  | insert i S hi ih => rw [Finset.fold_insert hi, Finset.fold_insert hi, ih, minsi_ofNat (hg i) (fold_min_lt c g hc S)]

theorem fold_first {k : ℕ} [NeZero k] (hk : k ≤ 2 ^ 30) (f : Fin k → EReal) (M : EReal) (hM : M = Finset.univ.sup f)
    [∀ i, Decidable (f i = M)] (w : Fin k → BitVec 32) (hw : ∀ i, w i = if f i = M then BitVec.ofNat 32 i else 1073741824#32) :
    Finset.univ.fold IntOp.minsi (2147483647#32) w = BitVec.ofNat 32 (first f) := by
  subst hM
  have e : w = fun i => BitVec.ofNat 32 (if f i = Finset.univ.sup f then (i : ℕ) else 1073741824) := by
    funext i; rw [hw]; split_ifs with h <;> simp [h]
  rw [e, show (2147483647#32 : BitVec 32) = BitVec.ofNat 32 2147483647 from rfl, fold_minsi _ _ (by norm_num)]
  · congr 1
    apply le_antisymm
    · rw [Finset.fold_min_le]
      exact Or.inr ⟨first f, Finset.mem_univ _, by rw [if_pos (first_eq f)]⟩
    · rw [Finset.le_fold_min]
      have := (first f).isLt
      refine ⟨by omega, fun i _ => ?_⟩
      split_ifs with h
      · exact first_le f h
      · omega
  · intro i; have := i.isLt; split_ifs <;> omega

theorem bit_real (b : Bool) : (((BitVec.setWidth 32 (BitVec.ofBool b)).toInt : ℝ) : EReal) = if b then 1 else 0 := by
  cases b <;> simp

/-- The bit that an indicator is positive. -/
theorem bit_indicator (P : Prop) [Decidable P] [Decidable (0 < if P then (1 : EReal) else 0)] :
    (P → BitVec.ofBool (decide (0 < if P then (1 : EReal) else 0)) = 1#1) ∧ (¬ P → BitVec.ofBool (decide (0 < if P then (1 : EReal) else 0)) = 0#1) := by
  by_cases h : P <;> simp [h]

end Cert.Spec

end
-- ==== Proof.Kernel.Math.lean ====
/- The kernel's stages over an image's blocks are the plain mathematics of the image. -/
module

public import proofs.«01_k».proof.Proof.Kernel.Block
public import proofs.«01_k».proof.Proof.Spec
public import Idealize.ShloMosaic.Lib.Pointwise

@[expose] public section

noncomputable section

namespace Cert.KernelIdeal.Value

open Idealize.ShloMosaic Idealize.ShloMosaic.TcCoe Idealize.SL.Sem
open Idealize.ShloMosaic.Pointwise
open Cert.KernelIdeal Cert.KernelIdeal.Gen

variable {x0 : Vec Ideal S1x80x20000 .f32} {x1 : Vec Ideal S1x4x20000 .f32} {x2 : Vec Ideal S1x32x4 .f32}
  {x3 : Vec Ideal S1x32x1 .f32} {x4 : Vec Ideal S4x20000 .f32}
  {a : Fin 20000 → Fin 4 → EReal} {b : Fin 32 → Fin 4 → EReal} {p : Fin 20000 → Fin 80 → EReal}
  {x : Fin 20000 → Fin 4 → EReal} {l : Fin 32 → ℕ}

theorem iou_eq (h2 : ∀ j k, x2 (ix3 0 j k) = b j k) (h4 : ∀ k n, x4 (ix2 k n) = a n k) (j : Fin 32) (n : Fin 20000) :
    iou x2 x4 (ix2 j n) = Spec.iou a b n j := by
  pointwise [iou, k0_pay22, k0_pay21, k0_pay20, k0_pay19, k0_pay18, k0_pay17, k0_pay16, k0_pay15, k0_pay14, k0_pay13, k0_pay12, k0_pay11, k0_pay10, k0_pay9, k0_pay8, k0_pay7, k0_pay6]
  simp only [h2, h4, Spec.ofBits_half]
  rfl

/-- An anchor's largest overlap, over any overlaps. -/
theorem rmax_read (w : FVec Ideal S32x20000 .f32) (n : Fin 20000) :
    shapeCast S1x20000 (multiReduction .maximumf [0] S20000 w 0xFF800000#32 reduces_S32x20000_S20000 (.inl rfl) rfl)
      shapeCasts_S20000_S1x20000 (ix2 (0 : Fin 1) n) = Finset.univ.sup fun j : Fin 32 => w (ix2 j n) := by
  pointwise []
  rw [Spec.ofBits_negInf]
  rfl

theorem rmax_eq (h2 : ∀ j k, x2 (ix3 0 j k) = b j k) (h4 : ∀ k n, x4 (ix2 k n) = a n k) (n : Fin 20000) :
    rmax x2 x4 (ix2 0 n) = Spec.rmax a b n := by
  refine (rmax_read (iou x2 x4) n).trans ?_
  simp only [iou_eq h2 h4]
  rfl

theorem bit_eq {w : ℕ} (u v : BitVec w) :
    (FloatOps.sitofp (F := Ideal) .f32 (BitVec.setWidth 32 (IntOp.cmpi .eq u v)) : EReal) = if u = v then 1 else 0 := by
  refine (Spec.bit_real (decide (u = v))).trans ?_
  by_cases h : u = v <;> simp [h]

theorem ofNat_eq_iff {i j : ℕ} (hi : i < 20000) (hj : j < 20000) : BitVec.ofNat 32 i = BitVec.ofNat 32 j ↔ i = j := by
  constructor
  · intro h
    have := congrArg BitVec.toNat h
    simp only [BitVec.toNat_ofNat] at this
    omega
  · rintro rfl; rfl

/-- The one-hot of the first largest, over any overlaps and their column maximum. -/
theorem sel_read (w : FVec Ideal S32x20000 .f32) (w' : FVec Ideal S1x20000 .f32) (n : Fin 20000)
    (hw : w' (ix2 0 n) = Finset.univ.sup fun j : Fin 32 => w (ix2 j n)) (j : Fin 32) :
    (sitofp (F := Ideal) .f32 (extui 32 (cmpi .eq (iota .tc S32x20000 32 [0] iota_S32x20000_d0_w32)
      (broadcastTo S32x20000 (shapeCast S1x20000 (multiReductionI .minsi [0] S20000
        (select (cmpf .oeq w (broadcastTo S32x20000 w' broadcasts_S1x20000_S32x20000)) (iota .tc S32x20000 32 [0] iota_S32x20000_d0_w32)
          (broadcast S32x20000 1073741824#32)) 2147483647#32 reduces_S32x20000_S20000 rfl) shapeCasts_S20000_S1x20000)
        broadcasts_S1x20000_S32x20000)) natLt_1_32)) (ix2 j n) = (if j = Spec.first (fun j : Fin 32 => w (ix2 j n)) then 1 else 0 : EReal) := by
  pointwise []
  rw [bit_eq, Spec.fold_first (by norm_num) (fun j : Fin 32 => w (ix2 j n)) (w' (ix2 0 n)) hw _ (fun i => rfl)]
  have hj := j.isLt
  have hf := (Spec.first (fun j : Fin 32 => w (ix2 j n))).isLt
  simp only [ofNat_eq_iff (show (j : ℕ) < 20000 by omega) (show ((Spec.first (fun j : Fin 32 => w (ix2 j n)) : Fin 32) : ℕ) < 20000 by omega), Fin.ext_iff]

theorem sel_eq (h2 : ∀ j k, x2 (ix3 0 j k) = b j k) (h4 : ∀ k n, x4 (ix2 k n) = a n k) (j : Fin 32) (n : Fin 20000) :
    sel x2 x4 (ix2 j n) = (if j = Spec.rarg a b n then 1 else 0 : EReal) := by
  refine (sel_read (iou x2 x4) (rmax x2 x4) n (rmax_read (iou x2 x4) n) j).trans ?_
  simp only [iou_eq h2 h4]
  rfl

/-- A column sum of the one-hot times a column. -/
theorem pick_read (s : FVec Ideal S32x20000 .f32) (v : FVec Ideal S32x1 .f32) (n : Fin 20000) :
    (multiReduction .add [0] S20000 (mulf s (broadcastTo S32x20000 v broadcasts_S32x1_S32x20000)) 0x00000000#32
      reduces_S32x20000_S20000 (.inl rfl) rfl : FVec Ideal S20000 .f32) (ix1 n) = ∑ j : Fin 32, s (ix2 j n) * v (ix2 j 0) := by
  pointwise []

theorem pick_read' (s : FVec Ideal S32x20000 .f32) (v : FVec Ideal S32x1 .f32) (n : Fin 20000) :
    (shapeCast S1x20000 (multiReduction .add [0] S20000 (mulf s (broadcastTo S32x20000 v broadcasts_S32x1_S32x20000)) 0x00000000#32
      reduces_S32x20000_S20000 (.inl rfl) rfl : FVec Ideal S20000 .f32) shapeCasts_S20000_S1x20000) (ix2 (0 : Fin 1) n)
      = ∑ j : Fin 32, s (ix2 j n) * v (ix2 j 0) := by
  pointwise []

theorem gx1_eq (h2 : ∀ j k, x2 (ix3 0 j k) = b j k) (h4 : ∀ k n, x4 (ix2 k n) = a n k) (n : Fin 20000) :
    gx1 x2 x4 (ix2 0 n) = b (Spec.rarg a b n) 0 := by
  refine (pick_read' (sel x2 x4) (k0_pay16 x2) n).trans ?_
  have e : ∀ j : Fin 32, k0_pay16 x2 (ix2 j 0) = b j 0 := fun j => by pointwise [k0_pay16, k0_pay15]; exact h2 j 0
  simp only [sel_eq h2 h4, e]
  exact Spec.sum_onehot _ fun j => b j 0
theorem gy1_eq (h2 : ∀ j k, x2 (ix3 0 j k) = b j k) (h4 : ∀ k n, x4 (ix2 k n) = a n k) (n : Fin 20000) :
    gy1 x2 x4 (ix2 0 n) = b (Spec.rarg a b n) 1 := by
  refine (pick_read' (sel x2 x4) (k0_pay17 x2) n).trans ?_
  have e : ∀ j : Fin 32, k0_pay17 x2 (ix2 j 0) = b j 1 := fun j => by pointwise [k0_pay17, k0_pay15]; exact h2 j 1
  simp only [sel_eq h2 h4, e]
  exact Spec.sum_onehot _ fun j => b j 1
theorem gx2_eq (h2 : ∀ j k, x2 (ix3 0 j k) = b j k) (h4 : ∀ k n, x4 (ix2 k n) = a n k) (n : Fin 20000) :
    gx2 x2 x4 (ix2 0 n) = b (Spec.rarg a b n) 2 := by
  refine (pick_read' (sel x2 x4) (k0_pay18 x2) n).trans ?_
  have e : ∀ j : Fin 32, k0_pay18 x2 (ix2 j 0) = b j 2 := fun j => by pointwise [k0_pay18, k0_pay15]; exact h2 j 2
  simp only [sel_eq h2 h4, e]
  exact Spec.sum_onehot _ fun j => b j 2
theorem gy2_eq (h2 : ∀ j k, x2 (ix3 0 j k) = b j k) (h4 : ∀ k n, x4 (ix2 k n) = a n k) (n : Fin 20000) :
    gy2 x2 x4 (ix1 n) = b (Spec.rarg a b n) 3 := by
  refine (pick_read (sel x2 x4) (k0_pay19 x2) n).trans ?_
  have e : ∀ j : Fin 32, k0_pay19 x2 (ix2 j 0) = b j 3 := fun j => by pointwise [k0_pay19, k0_pay15]; exact h2 j 3
  simp only [sel_eq h2 h4, e]
  exact Spec.sum_onehot _ fun j => b j 3

theorem cstar_eq (h2 : ∀ j k, x2 (ix3 0 j k) = b j k) (h4 : ∀ k n, x4 (ix2 k n) = a n k)
    (h3 : ∀ j, x3 (ix3 0 j 0) = (((l j : ℝ) - 1 : ℝ) : EReal)) (n : Fin 20000) :
    cstar x2 x3 x4 (ix2 0 n) = ((l (Spec.rarg a b n) : ℝ) : EReal) := by
  have h := pick_read' (sel x2 x4) (shapeCast S32x1 x3 shapeCasts_S1x32x1_S32x1) n
  have e : ∀ j : Fin 32, (shapeCast S32x1 x3 shapeCasts_S1x32x1_S32x1) (ix2 j 0) = (((l j : ℝ) - 1 : ℝ) : EReal) := fun j => by
    pointwise []; exact h3 j
  simp only [sel_eq h2 h4, e] at h
  rw [Spec.sum_onehot _ fun j => (((l j : ℝ) - 1 : ℝ) : EReal)] at h
  have h' : cstar x2 x3 x4 (ix2 0 n) = (shapeCast S1x20000 (multiReduction .add [0] S20000 (mulf (sel x2 x4) (broadcastTo S32x20000 (shapeCast S32x1 x3 shapeCasts_S1x32x1_S32x1) broadcasts_S32x1_S32x20000)) 0x00000000#32
      reduces_S32x20000_S20000 (.inl rfl) rfl : FVec Ideal S20000 .f32) shapeCasts_S20000_S1x20000) (ix2 (0 : Fin 1) n) + Ideal.ofBits .f32 0x3F800000#32 := rfl
  rw [h', h, Spec.ofBits_one, ← EReal.coe_one, ← EReal.coe_add, sub_add_cancel]

theorem gt_read (v5 v6 v7 v8 v81 v85 v89 : FVec Ideal S1x20000 .f32) (v92 : FVec Ideal S20000 .f32) (n : Fin 20000) :
    k0_pay30 v5 v6 v7 v8 v81 v85 v89 v92 (ix2 0 n) = Ideal.div ((v81 (ix2 0 n) + v89 (ix2 0 n)) * Spec.half - v5 (ix2 0 n)) (v7 (ix2 0 n))
    ∧ k0_pay30 v5 v6 v7 v8 v81 v85 v89 v92 (ix2 1 n) = Ideal.div ((v85 (ix2 0 n) + v92 (ix1 n)) * Spec.half - v6 (ix2 0 n)) (v8 (ix2 0 n))
    ∧ k0_pay30 v5 v6 v7 v8 v81 v85 v89 v92 (ix2 2 n) = Ideal.log (Ideal.div (v89 (ix2 0 n) - v81 (ix2 0 n)) (v7 (ix2 0 n)))
    ∧ k0_pay30 v5 v6 v7 v8 v81 v85 v89 v92 (ix2 3 n) = Ideal.log (Ideal.div (v92 (ix1 n) - v85 (ix2 0 n)) (v8 (ix2 0 n))) := by
  refine ⟨?_, ?_, ?_, ?_⟩ <;> pointwise [k0_pay30] <;> rw [Spec.ofBits_half]

theorem gt_eq (h2 : ∀ j k, x2 (ix3 0 j k) = b j k) (h4 : ∀ k n, x4 (ix2 k n) = a n k) (k : Fin 4) (n : Fin 20000) :
    gtLoc x2 x4 (ix2 k n) = Spec.gt a b n k := by
  have e7 : k0_pay7 x4 (ix2 0 n) = a n 0 := by pointwise [k0_pay7, k0_pay6]; exact h4 0 n
  have e8 : k0_pay8 x4 (ix2 0 n) = a n 1 := by pointwise [k0_pay8, k0_pay6]; exact h4 1 n
  have e9 : k0_pay9 x4 (ix2 0 n) = a n 2 := by pointwise [k0_pay9, k0_pay6]; exact h4 2 n
  have e10 : k0_pay10 x4 (ix2 0 n) = a n 3 := by pointwise [k0_pay10, k0_pay6]; exact h4 3 n
  have h := gt_read (k0_pay7 x4) (k0_pay8 x4) (k0_pay9 x4) (k0_pay10 x4) (gx1 x2 x4) (gy1 x2 x4) (gx2 x2 x4) (gy2 x2 x4) n
  rw [gx1_eq h2 h4, gx2_eq h2 h4, gy1_eq h2 h4, gy2_eq h2 h4, e7, e8, e9, e10] at h
  match k with
  | 0 => exact h.1
  | 1 => exact h.2.1
  | 2 => exact h.2.2.1
  | 3 => exact h.2.2.2

end Cert.KernelIdeal.Value

end
-- ==== Proof.Kernel.Math2.lean ====
/- The kernel's masks and sums over an image's blocks are the plain mathematics of the image. -/
module

public import proofs.«01_k».proof.Proof.Kernel.Math

@[expose] public section

noncomputable section

namespace Cert.KernelIdeal.Value

open Idealize.ShloMosaic Idealize.ShloMosaic.TcCoe Idealize.SL.Sem
open Idealize.ShloMosaic.Pointwise
open Cert.KernelIdeal Cert.KernelIdeal.Gen

theorem bool_real (d : Bool) : (FloatOps.sitofp (F := Ideal) .f32 (BitVec.setWidth 32 (BitVec.ofBool d)) : EReal) = if d = true then 1 else 0 :=
  Spec.bit_real d

theorem hk : 20000 ≤ 2 ^ 30 := by norm_num

theorem posf_read (w : FVec Ideal S32x20000 .f32) (w' : FVec Ideal S1x20000 .f32) (n : Fin 20000) :
    k0_pay31 w w' (ix2 0 n) = if ∃ n', Spec.half ≤ w' (ix2 0 n') then (if Spec.half ≤ w' (ix2 0 n) then 1 else 0 : EReal)
      else if ∃ j : Fin 32, Spec.first (fun n : Fin 20000 => w (ix2 j n)) = n then 1 else 0 := by
  pointwise [k0_pay31]
  simp only [bool_real, Finset.univ_unique, Finset.sum_singleton, decide_eq_true_eq, Spec.ofBits_half, Spec.sum_pos_iff]
  by_cases h : ∃ n', Spec.half ≤ w' (ix2 0 n')
  · rw [if_pos h, if_pos h]
    pointwise []
    rw [bool_real]
    simp only [decide_eq_true_eq]
  · rw [if_neg h, if_neg h]
    pointwise []
    simp only [bit_eq, Spec.ofBits_negInf]
    have e : ∀ j : Fin 32, Finset.univ.fold IntOp.minsi (2147483647#32)
        (fun k : Fin 20000 => if w (ix2 j k) = Finset.univ.fold max ⊥ (fun k : Fin 20000 => w (ix2 j k)) then BitVec.ofNat 32 k else 1073741824#32)
        = BitVec.ofNat 32 (Spec.first fun n : Fin 20000 => w (ix2 j n)) := fun j =>
      Spec.fold_first hk (fun n : Fin 20000 => w (ix2 j n)) _ (Eq.refl _) _ fun i => Eq.refl _
    simp only [e]
    have e' : ∀ j : Fin 32, (BitVec.ofNat 32 n = BitVec.ofNat 32 (Spec.first fun n : Fin 20000 => w (ix2 j n)))
        ↔ (Spec.first fun n : Fin 20000 => w (ix2 j n)) = n := fun j => by
      rw [ofNat_eq_iff n.isLt (Fin.isLt _), Fin.ext_iff]
      exact eq_comm
    simp only [e']
    by_cases h : ∃ j : Fin 32, (Spec.first fun n : Fin 20000 => w (ix2 j n)) = n
    · rw [if_pos h]
      refine Eq.trans ?_ ((Spec.sup_indicator fun j : Fin 32 => (Spec.first fun n : Fin 20000 => w (ix2 j n)) = n).trans (if_pos h))
      refine Finset.sup_congr rfl fun j _ => ?_
      split_ifs <;> rfl
    · rw [if_neg h]
      refine Eq.trans ?_ ((Spec.sup_indicator fun j : Fin 32 => (Spec.first fun n : Fin 20000 => w (ix2 j n)) = n).trans (if_neg h))
      refine Finset.sup_congr rfl fun j _ => ?_
      split_ifs <;> rfl

theorem cls_read (v139 v143 : IVec S1x20000 1) (v158 v167 v170 v175 v182 v183 : FVec Ideal S1x20000 .f32) (xo : Vec Ideal S1x1 .f32) :
    k0_pay42 v139 v143 v158 v167 v170 v175 v182 v183 xo (ix2 0 0) = xo (ix2 0 0) + ∑ n : Fin 20000,
      Scalar.select (v139 (ix2 0 n))
        (v158 (ix2 0 n) - Spec.threeQuarters * (v167 (ix2 0 n) * v167 (ix2 0 n)) * (0 - v175 (ix2 0 n))
          + v182 (ix2 0 n) * (v183 (ix2 0 n) - v170 (ix2 0 n)))
        (Scalar.select (v143 (ix2 0 n)) (v158 (ix2 0 n)) 0) := by
  pointwise [k0_pay42]
  simp only [Finset.univ_unique, Finset.sum_singleton, Spec.ofBits_threeQuarters]

theorem half_over_beta_eq : (Named.named (F := Ideal) κ "half_over_beta" (φ := .f32) 0x40900000#32 : EReal) = Spec.fourHalf :=
  IdealRules.named_const.ideal_named_scalar _ _ _ _ rfl
theorem abs_eq (u : EReal) : (FloatOps.absf (F := Ideal) (φ := .f32) u : EReal) = max u (-u) := rfl

theorem loc_read (v110 : FVec Ideal S4x20000 .f32) (v137 : FVec Ideal S1x20000 .f32) (v206 : Vec Ideal S1x4x20000 .f32) :
    k0_pay44 v110 v137 v206 = ∑ k : Fin 4, ∑ n : Fin 20000,
      Spec.sl1 (max (v206 (ix3 0 k n) - v110 (ix2 k n)) (-(v206 (ix3 0 k n) - v110 (ix2 k n)))) * v137 (ix2 0 n) := by
  pointwise [k0_pay44]
  refine Finset.sum_congr rfl fun k _ => Finset.sum_congr rfl fun n _ => ?_
  rw [half_over_beta_eq, abs_eq]
  congr 1

theorem pos_read (w : FVec Ideal S32x20000 .f32) (w' : FVec Ideal S1x20000 .f32) (n : Fin 20000) :
    k0_pay32 w w' (ix2 0 n) = BitVec.ofBool (decide (0 < k0_pay31 w w' (ix2 0 n))) := by
  unfold k0_pay32
  generalize k0_pay31 w w' = u
  pointwise []

theorem neg_read (w : IVec S1x20000 1) (w' : FVec Ideal S1x20000 .f32) (n : Fin 20000) :
    k0_pay34 w (k0_pay33 w') (ix2 0 n) = IntOp.andi (BitVec.ofBool (decide (w' (ix2 0 n) < Spec.c04))) (IntOp.xori (w (ix2 0 n)) 1#1) := by
  pointwise [k0_pay33, k0_pay34, Spec.c04]

theorem sneg_read (x0 : Vec Ideal S1x80x20000 .f32) (n : Fin 20000) :
    k0_pay36 x0 (ix2 0 n) = ∑ c : Fin 80, Spec.fneg (x0 (ix3 0 c n)) := by
  pointwise [k0_pay36, k0_pay35]
  simp only [Spec.ofBits_threeQuarters, Spec.ofBits_m100]
  rfl

theorem count_read (w : FVec Ideal S1x20000 .f32) (xo : Vec Ideal S1x1 .f32) :
    k0_pay2 w xo (ix2 0 0) = xo (ix2 0 0) + ∑ n : Fin 20000, w (ix2 0 n) := by
  pointwise [k0_pay2]
  simp only [Finset.univ_unique, Finset.sum_singleton]

theorem pstar_read (v77 : FVec Ideal S1x20000 .f32) (x0 : Vec Ideal S1x80x20000 .f32) (n : Fin 20000) (s : Fin 80)
    (h : v77 (ix2 0 n) = (((s : ℕ) : ℝ) : EReal)) : k0_pay37 v77 x0 (ix2 0 n) = x0 (ix3 0 s n) := by
  pointwise [k0_pay37, k0_pay35]
  have e : ∀ c : Fin 80, ((FloatOps.sitofp (F := Ideal) .f32 (BitVec.ofNat 32 (c : ℕ)) : EReal) = v77 (ix2 0 n)) ↔ c = s := fun c => by
    have hc : (BitVec.ofNat 32 (c : ℕ)).toInt = (c : ℕ) := by
      have := c.isLt
      rw [BitVec.toInt_eq_toNat_of_lt (by rw [BitVec.toNat_ofNat]; omega), BitVec.toNat_ofNat]; omega
    rw [h]
    show (((BitVec.ofNat 32 (c : ℕ)).toInt : ℝ) : EReal) = _ ↔ _
    rw [hc, EReal.coe_eq_coe_iff, Fin.ext_iff]
    push_cast
    exact Nat.cast_inj
  simp only [e]
  exact Spec.sum_select (fun c => x0 (ix3 0 c n)) s

end Cert.KernelIdeal.Value

end
-- ==== Proof.Kernel.Image.lean ====
/- What a grid point adds to the three accumulators: the three sums of its image. -/
module

public import proofs.«01_k».proof.Proof.Kernel.Math2

@[expose] public section

noncomputable section

namespace Cert.KernelIdeal.Value

open Idealize.ShloMosaic Idealize.ShloMosaic.TcCoe Idealize.SL.Sem
open Idealize.ShloMosaic.Pointwise
open Cert.KernelIdeal Cert.KernelIdeal.Gen

theorem lpos_read (u : FVec Ideal S1x20000 .f32) (x0 : Vec Ideal S1x80x20000 .f32) (n : Fin 20000) :
    k0_pay38 u x0 (ix2 0 n) = max (Ideal.log (k0_pay37 u x0 (ix2 0 n))) Spec.m100 := by
  unfold k0_pay38
  generalize k0_pay37 u x0 = w
  pointwise [Spec.ofBits_m100]

theorem lneg_read (u : FVec Ideal S1x20000 .f32) (x0 : Vec Ideal S1x80x20000 .f32) (n : Fin 20000) :
    k0_pay39 u x0 (ix2 0 n) = max (Ideal.log (1 - k0_pay37 u x0 (ix2 0 n))) Spec.m100 := by
  unfold k0_pay39
  generalize k0_pay37 u x0 = w
  pointwise [Spec.ofBits_m100, Spec.ofBits_one]

theorem wpos_read (u : FVec Ideal S1x20000 .f32) (x0 : Vec Ideal S1x80x20000 .f32) (n : Fin 20000) :
    k0_pay40 u x0 (ix2 0 n) = Spec.quarter * (1 - k0_pay37 u x0 (ix2 0 n)) * (1 - k0_pay37 u x0 (ix2 0 n)) := by
  unfold k0_pay40
  generalize k0_pay37 u x0 = w
  pointwise [Spec.ofBits_quarter, Spec.ofBits_one]

theorem zero_read (n : Fin 20000) : (k0_pay41 (F := Ideal)) (ix2 0 n) = (0 : EReal) := by
  pointwise [k0_pay41]

variable {x0 : Vec Ideal S1x80x20000 .f32} {x1 : Vec Ideal S1x4x20000 .f32} {x2 : Vec Ideal S1x32x4 .f32}
  {x3 : Vec Ideal S1x32x1 .f32} {x4 : Vec Ideal S4x20000 .f32}
  {a : Fin 20000 → Fin 4 → EReal} {b : Fin 32 → Fin 4 → EReal} {p : Fin 20000 → Fin 80 → EReal}
  {x : Fin 20000 → Fin 4 → EReal} {l : Fin 32 → ℕ}

theorem posf_eq (h2 : ∀ j k, x2 (ix3 0 j k) = b j k) (h4 : ∀ k n, x4 (ix2 k n) = a n k) (n : Fin 20000) :
    posf x2 x4 (ix2 0 n) = Spec.posf a b n := by
  refine (posf_read (iou x2 x4) (rmax x2 x4) n).trans ?_
  simp only [iou_eq h2 h4, rmax_eq h2 h4]
  unfold Spec.posf Spec.pos Spec.pos0 Spec.fb Spec.carg
  by_cases h : ∃ n', Spec.half ≤ Spec.rmax a b n'
  · simp only [if_pos h]
  · simp only [if_neg h]

open scoped Classical in
theorem pos_eq (h2 : ∀ j k, x2 (ix3 0 j k) = b j k) (h4 : ∀ k n, x4 (ix2 k n) = a n k) (n : Fin 20000) :
    (Spec.pos a b n → pos x2 x4 (ix2 0 n) = 1#1) ∧ (¬ Spec.pos a b n → pos x2 x4 (ix2 0 n) = 0#1) := by
  have e : pos x2 x4 (ix2 0 n) = BitVec.ofBool (decide (0 < Spec.posf a b n)) := by
    refine (pos_read (iou x2 x4) (rmax x2 x4) n).trans ?_
    rw [← posf_eq h2 h4 n]
    rfl
  rw [e, Spec.posf]
  exact @Spec.bit_indicator (Spec.pos a b n) _ _

theorem neg_eq (h2 : ∀ j k, x2 (ix3 0 j k) = b j k) (h4 : ∀ k n, x4 (ix2 k n) = a n k) (n : Fin 20000) (hp : ¬ Spec.pos a b n) :
    (Spec.neg a b n → neg x2 x4 (ix2 0 n) = 1#1) ∧ (¬ Spec.neg a b n → neg x2 x4 (ix2 0 n) = 0#1) := by
  have e : neg x2 x4 (ix2 0 n) = IntOp.andi (BitVec.ofBool (decide (Spec.rmax a b n < Spec.c04))) (IntOp.xori 0#1 1#1) := by
    refine (neg_read (pos x2 x4) (rmax x2 x4) n).trans ?_
    rw [(pos_eq h2 h4 n).2 hp, rmax_eq h2 h4]
  rw [e, Spec.neg]
  constructor
  · rintro ⟨h, -⟩; rw [decide_eq_true h]; rfl
  · intro h; rw [decide_eq_false fun h' => h ⟨h', hp⟩]; rfl

theorem nposOut_eq (h2 : ∀ j k, x2 (ix3 0 j k) = b j k) (h4 : ∀ k n, x4 (ix2 k n) = a n k) (xo : Vec Ideal S1x1 .f32) :
    nposOut x2 x4 xo (ix2 0 0) = xo (ix2 0 0) + Spec.npos a b := by
  refine (count_read (posf x2 x4) xo).trans ?_
  simp only [posf_eq h2 h4]
  rfl

theorem locOut_eq (h1 : ∀ k n, x1 (ix3 0 k n) = x n k) (h2 : ∀ j k, x2 (ix3 0 j k) = b j k) (h4 : ∀ k n, x4 (ix2 k n) = a n k)
    (xo : Vec Ideal S1x1 .f32) : locOut x1 x2 x4 xo (ix2 0 0) = xo (ix2 0 0) + Spec.loc a b x := by
  have e : locOut x1 x2 x4 xo (ix2 0 0) = xo (ix2 0 0) + k0_pay44 (gtLoc x2 x4) (posf x2 x4) x1 := by
    unfold locOut
    generalize k0_pay44 (gtLoc x2 x4) (posf x2 x4) x1 = u
    pointwise [k0_pay1, k0_pay43]
  rw [e, loc_read, Finset.sum_comm]
  simp only [posf_eq h2 h4, gt_eq h2 h4, h1]
  rfl

/-- A row chosen by two bits. -/
theorem row_select (c d : BitVec 1) (P N : Prop) [Decidable P] [Decidable N] (hc : (P → c = 1#1) ∧ (¬ P → c = 0#1))
    (hd : ¬ P → (N → d = 1#1) ∧ (¬ N → d = 0#1)) {u u' v : EReal} (hu : u = u') :
    Scalar.select c u (Scalar.select d v 0) = if P then u' else if N then v else 0 := by
  subst hu
  by_cases h : P
  · rw [if_pos h, hc.1 h]; rfl
  · rw [if_neg h, hc.2 h]
    by_cases h' : N
    · rw [if_pos h', (hd h).1 h']; rfl
    · rw [if_neg h', (hd h).2 h']; rfl

open scoped Classical in
theorem clsOut_eq (h0 : ∀ c n, x0 (ix3 0 c n) = p n c) (h2 : ∀ j k, x2 (ix3 0 j k) = b j k) (h4 : ∀ k n, x4 (ix2 k n) = a n k)
    (h3 : ∀ j, x3 (ix3 0 j 0) = (((l j : ℝ) - 1 : ℝ) : EReal)) (hp : ∀ n c, ∃ r : ℝ, p n c = (r : EReal)) (hl : ∀ j, l j < 80)
    (xo : Vec Ideal S1x1 .f32) : clsOut x0 x2 x3 x4 xo (ix2 0 0) = xo (ix2 0 0) + Spec.cls a b p l := by
  refine (cls_read _ _ _ _ _ _ _ _ xo).trans (congrArg (fun z => xo (ix2 0 0) + z) ?_)
  refine Finset.sum_congr rfl fun n _ => ?_
  have hs : l (Spec.rarg a b n) < 80 := hl (Spec.rarg a b n)
  have es := pstar_read (cstar x2 x3 x4) x0 n ⟨l (Spec.rarg a b n), hs⟩ (cstar_eq h2 h4 h3 n)
  rw [h0] at es
  have e38 := lpos_read (cstar x2 x3 x4) x0 n
  have e39 := lneg_read (cstar x2 x3 x4) x0 n
  have e40 := wpos_read (cstar x2 x3 x4) x0 n
  have e41 := zero_read n
  rw [es] at e38 e39 e40
  have e36 : k0_pay36 x0 (ix2 0 n) = ∑ c : Fin 80, Spec.fneg (p n c) := by
    refine (sneg_read x0 n).trans ?_
    simp only [h0]
  rw [e36, es, e38, e39, e40, e41]
  unfold Spec.clsRow
  refine row_select _ _ (Spec.pos a b n) (Spec.neg a b n) (pos_eq h2 h4 n) (fun h => neg_eq h2 h4 n h) ?_
  choose q hq using fun c => hp n c
  have h := Spec.row_exchange q ⟨l (Spec.rarg a b n), hs⟩
  simp only [← hq, Fin.ext_iff] at h
  exact h

theorem zero_eq : (zero (F := Ideal)) (ix2 0 0) = (0 : EReal) := by
  pointwise [zero, k0_pay3]

end Cert.KernelIdeal.Value

end
-- ==== Proof.Kernel.Run.lean ====
/- The kernel's run, read: each of the three accumulators ends at the second grid point's function of its blocks over the
   first's, and the results are the quotients the host takes of them. -/
module

public import proofs.«01_k».proof.Proof.Kernel.Block
public import Idealize.ShloMosaic.Lib.Claim
public import Idealize.ShloMosaic.Lib.StableHlo.RunRead

@[expose] public section

noncomputable section

namespace Cert.KernelIdeal.Value

open Idealize.ShloMosaic Idealize.ShloMosaic.TcCoe Idealize.SL.Sem
open Cert.KernelIdeal Cert.KernelIdeal.Gen
open Idealize.ShloMosaic.Pipeline (Dat)

variable {F : FTy → Type} [FloatOps F] [Named F]
variable (m : (ℓ : Loc nD τ sig) → Buf (Elt F) ℓ) (ρ : Dev nD → PrngReg)

/-- The classification accumulator after both points. -/
def clsAll (c : Dev nD) : Vec F S1x1 .f32 :=
  clsOut (iblk m c 0 t0_1) (iblk m c 2 t0_1) (iblk m c 3 t0_1) (iblk m c 4 t0_1)
    (clsOut (iblk m c 0 t0_0) (iblk m c 2 t0_0) (iblk m c 3 t0_0) (iblk m c 4 t0_0) zero)
/-- The regression accumulator after both points. -/
def locAll (c : Dev nD) : Vec F S1x1 .f32 :=
  locOut (iblk m c 1 t0_1) (iblk m c 2 t0_1) (iblk m c 4 t0_1)
    (locOut (iblk m c 1 t0_0) (iblk m c 2 t0_0) (iblk m c 4 t0_0) zero)
/-- The count of positive anchors after both points. -/
def nposAll (c : Dev nD) : Vec F S1x1 .f32 :=
  nposOut (iblk m c 2 t0_1) (iblk m c 4 t0_1) (nposOut (iblk m c 2 t0_0) (iblk m c 4 t0_0) zero)

theorem outs_first (c : Dev nD) : outsAt0 m c t0_0.val t0_0.isLt =
    (clsOut (iblk m c 0 t0_0) (iblk m c 2 t0_0) (iblk m c 3 t0_0) (iblk m c 4 t0_0) zero,
      locOut (iblk m c 1 t0_0) (iblk m c 2 t0_0) (iblk m c 4 t0_0) zero,
      nposOut (iblk m c 2 t0_0) (iblk m c 4 t0_0) zero) := by
  rw [outsAt0_A m c t0_0 rfl, out_A_5, out_A_6, out_A_7]

theorem outs_last (c : Dev nD) : outsAt0 m c t0_1.val t0_1.isLt = (clsAll m c, locAll m c, nposAll m c) := by
  have hB : ¬(t0_1 : Fin cfg0.N).val % 2 = 0 := by decide
  rw [outsAt0_B m c t0_1 hB, out_B_5, out_B_6, out_B_7]
  have h := outs_first m c
  have h' : outsAt0 m c (t0_1.val - 1) (Nat.lt_of_le_of_lt (Nat.sub_le _ _) t0_1.isLt) = _ := h
  rw [h']
  rfl

/-- Output 5 is written back once, after the second point. -/
theorem flushed_5 (c : Dev nD) (t : Fin cfg0.N) (hf : (cfg0.win 5).flush t = true) :
    (dats m 0 c).flushed 5 t = ((cfg0.win 5).blk t).view.read (Elt F) (clsAll m c : Buf (Elt F) ((c : Thread nD τ).loc main_v5_0)) := by
  have hN : cfg0.N = 2 := N_0
  have h1 : t.val = 1 := by have := (flush0_5 t).mp hf; have := t.isLt; omega
  obtain rfl : t = t0_1 := Fin.ext h1
  show (cfg0.win 5).cut (grid0.coords t0_1) ((dats m 0 c).after 5 t0_1) = _
  rw [after0_5, outs_last]
  have hz : (fun a => win0_5.index t0_1 a * main_v5_0.ty.shape.size a) = fun _ => 0 := funext fun a => by fin_cases a <;> decide
  exact (Memref.read_access_unit_zero (Elt F) main_v5_0 hz (fun a => by rw [congrFun hz a]; simp) (clsAll m c)).symm

theorem final_5 (c : Dev nD) : (dats m 0 c).arrAt 5 cfg0.N = (clsAll m c : Buf (Elt F) ((c : Thread nD τ).loc main_v5_0)) :=
  (dats m 0 c).arrAt_eq_of_cover 5 (clsAll m c : Buf (Elt F) ((c : Thread nD τ).loc main_v5_0)) (flushed_5 m c) fun i =>
    ⟨t0_1, (flush0_5 t0_1).mpr rfl, by
      show i ∈ ((View.whole main_v5_0).slice (win0_5.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_1 0 * win0_5.size 0 ≤ (i 0 : Nat) ∧ (i 0 : Nat) < win0_5.index t0_1 0 * win0_5.size 0 + win0_5.xsize (grid0.coords t0_1) 0
                  rw [show win0_5.index t0_1 0 * win0_5.size 0 = 0 from by decide +kernel, show win0_5.xsize (grid0.coords t0_1) 0 = 1 from by decide +kernel]; omega
      | ⟨1, _⟩ => show win0_5.index t0_1 1 * win0_5.size 1 ≤ (i 1 : Nat) ∧ (i 1 : Nat) < win0_5.index t0_1 1 * win0_5.size 1 + win0_5.xsize (grid0.coords t0_1) 1
                  rw [show win0_5.index t0_1 1 * win0_5.size 1 = 0 from by decide +kernel, show win0_5.xsize (grid0.coords t0_1) 1 = 1 from by decide +kernel]; omega⟩

/-- Output 6 is written back once, after the second point. -/
theorem flushed_6 (c : Dev nD) (t : Fin cfg0.N) (hf : (cfg0.win 6).flush t = true) :
    (dats m 0 c).flushed 6 t = ((cfg0.win 6).blk t).view.read (Elt F) (locAll m c : Buf (Elt F) ((c : Thread nD τ).loc main_v5_1)) := by
  have hN : cfg0.N = 2 := N_0
  have h1 : t.val = 1 := by have := (flush0_6 t).mp hf; have := t.isLt; omega
  obtain rfl : t = t0_1 := Fin.ext h1
  show (cfg0.win 6).cut (grid0.coords t0_1) ((dats m 0 c).after 6 t0_1) = _
  rw [after0_6, outs_last]
  have hz : (fun a => win0_6.index t0_1 a * main_v5_1.ty.shape.size a) = fun _ => 0 := funext fun a => by fin_cases a <;> decide
  exact (Memref.read_access_unit_zero (Elt F) main_v5_1 hz (fun a => by rw [congrFun hz a]; simp) (locAll m c)).symm

theorem final_6 (c : Dev nD) : (dats m 0 c).arrAt 6 cfg0.N = (locAll m c : Buf (Elt F) ((c : Thread nD τ).loc main_v5_1)) :=
  (dats m 0 c).arrAt_eq_of_cover 6 (locAll m c : Buf (Elt F) ((c : Thread nD τ).loc main_v5_1)) (flushed_6 m c) fun i =>
    ⟨t0_1, (flush0_6 t0_1).mpr rfl, by
      show i ∈ ((View.whole main_v5_1).slice (win0_6.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_1 0 * win0_6.size 0 ≤ (i 0 : Nat) ∧ (i 0 : Nat) < win0_6.index t0_1 0 * win0_6.size 0 + win0_6.xsize (grid0.coords t0_1) 0
                  rw [show win0_6.index t0_1 0 * win0_6.size 0 = 0 from by decide +kernel, show win0_6.xsize (grid0.coords t0_1) 0 = 1 from by decide +kernel]; omega
      | ⟨1, _⟩ => show win0_6.index t0_1 1 * win0_6.size 1 ≤ (i 1 : Nat) ∧ (i 1 : Nat) < win0_6.index t0_1 1 * win0_6.size 1 + win0_6.xsize (grid0.coords t0_1) 1
                  rw [show win0_6.index t0_1 1 * win0_6.size 1 = 0 from by decide +kernel, show win0_6.xsize (grid0.coords t0_1) 1 = 1 from by decide +kernel]; omega⟩

/-- Output 7 is written back once, after the second point. -/
theorem flushed_7 (c : Dev nD) (t : Fin cfg0.N) (hf : (cfg0.win 7).flush t = true) :
    (dats m 0 c).flushed 7 t = ((cfg0.win 7).blk t).view.read (Elt F) (nposAll m c : Buf (Elt F) ((c : Thread nD τ).loc main_v5_2)) := by
  have hN : cfg0.N = 2 := N_0
  have h1 : t.val = 1 := by have := (flush0_7 t).mp hf; have := t.isLt; omega
  obtain rfl : t = t0_1 := Fin.ext h1
  show (cfg0.win 7).cut (grid0.coords t0_1) ((dats m 0 c).after 7 t0_1) = _
  rw [after0_7, outs_last]
  have hz : (fun a => win0_7.index t0_1 a * main_v5_2.ty.shape.size a) = fun _ => 0 := funext fun a => by fin_cases a <;> decide
  exact (Memref.read_access_unit_zero (Elt F) main_v5_2 hz (fun a => by rw [congrFun hz a]; simp) (nposAll m c)).symm

theorem final_7 (c : Dev nD) : (dats m 0 c).arrAt 7 cfg0.N = (nposAll m c : Buf (Elt F) ((c : Thread nD τ).loc main_v5_2)) :=
  (dats m 0 c).arrAt_eq_of_cover 7 (nposAll m c : Buf (Elt F) ((c : Thread nD τ).loc main_v5_2)) (flushed_7 m c) fun i =>
    ⟨t0_1, (flush0_7 t0_1).mpr rfl, by
      show i ∈ ((View.whole main_v5_2).slice (win0_7.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_1 0 * win0_7.size 0 ≤ (i 0 : Nat) ∧ (i 0 : Nat) < win0_7.index t0_1 0 * win0_7.size 0 + win0_7.xsize (grid0.coords t0_1) 0
                  rw [show win0_7.index t0_1 0 * win0_7.size 0 = 0 from by decide +kernel, show win0_7.xsize (grid0.coords t0_1) 0 = 1 from by decide +kernel]; omega
      | ⟨1, _⟩ => show win0_7.index t0_1 1 * win0_7.size 1 ≤ (i 1 : Nat) ∧ (i 1 : Nat) < win0_7.index t0_1 1 * win0_7.size 1 + win0_7.xsize (grid0.coords t0_1) 1
                  rw [show win0_7.index t0_1 1 * win0_7.size 1 = 0 from by decide +kernel, show win0_7.xsize (grid0.coords t0_1) 1 = 1 from by decide +kernel]; omega⟩

/-- The lines after the region, from any contents of the buffers. -/
theorem tail_8 (V : Valuation τ sig (Elt F)) : StableHlo.after [hostOps1 (F := F)].flatten V (Proc.devRef .tc main_v8)
    = Host.divf (F := F) (shapeCast S_ (V (Proc.devRef .tc main_v5_0)) shapeCasts_S1x1_S_) (shapeCast S_ (V (Proc.devRef .tc main_v5_2)) shapeCasts_S1x1_S_) := by
  simp only [List.flatten_cons, List.flatten_nil, List.append_nil]
  unfold hostOps1
  after_results
  rfl
theorem tail_10 (V : Valuation τ sig (Elt F)) : StableHlo.after [hostOps1 (F := F)].flatten V (Proc.devRef .tc main_v10)
    = Host.divf (F := F) (shapeCast S_ (V (Proc.devRef .tc main_v5_1)) shapeCasts_S1x1_S_) (shapeCast S_ (V (Proc.devRef .tc main_v5_2)) shapeCasts_S1x1_S_) := by
  simp only [List.flatten_cons, List.flatten_nil, List.append_nil]
  unfold hostOps1
  after_results
  rfl
theorem tail_11 (V : Valuation τ sig (Elt F)) : StableHlo.after [hostOps1 (F := F)].flatten V (Proc.devRef .tc main_v11)
    = addf (F := F) (Host.divf (shapeCast S_ (V (Proc.devRef .tc main_v5_0)) shapeCasts_S1x1_S_) (shapeCast S_ (V (Proc.devRef .tc main_v5_2)) shapeCasts_S1x1_S_))
      (Host.divf (shapeCast S_ (V (Proc.devRef .tc main_v5_1)) shapeCasts_S1x1_S_) (shapeCast S_ (V (Proc.devRef .tc main_v5_2)) shapeCasts_S1x1_S_)) := by
  simp only [List.flatten_cons, List.flatten_nil, List.append_nil]
  unfold hostOps1
  after_results
  rfl

theorem arr_inj : Function.Injective (Pipeline.arrRef spec0) := by decide

/-- The buffers after the region, at the accumulators. -/
theorem exit_5 (c : Dev nD) : Pipeline.withArrays spec0 c (V0 m c) (fun w => (dats m 0 c).arrAt w cfg0.N) (Proc.devRef .tc main_v5_0)
    = (clsAll m c : Buf (Elt F) ((c : Thread nD τ).loc main_v5_0)) :=
  (Pipeline.withArrays_arr spec0 arr_inj c (V0 m c) _ 5).trans (final_5 m c)
theorem exit_6 (c : Dev nD) : Pipeline.withArrays spec0 c (V0 m c) (fun w => (dats m 0 c).arrAt w cfg0.N) (Proc.devRef .tc main_v5_1)
    = (locAll m c : Buf (Elt F) ((c : Thread nD τ).loc main_v5_1)) :=
  (Pipeline.withArrays_arr spec0 arr_inj c (V0 m c) _ 6).trans (final_6 m c)
theorem exit_7 (c : Dev nD) : Pipeline.withArrays spec0 c (V0 m c) (fun w => (dats m 0 c).arrAt w cfg0.N) (Proc.devRef .tc main_v5_2)
    = (nposAll m c : Buf (Elt F) ((c : Thread nD τ).loc main_v5_2)) :=
  (Pipeline.withArrays_arr spec0 arr_inj c (V0 m c) _ 7).trans (final_7 m c)

/-- The kernel's run: the three results as the host's quotients of the accumulators. -/
theorem run : θ_run defs (onTc (τ := τ) (main (F := F))) ⟨m, fun _ => 0, ρ⟩ fun r => ∀ c : Dev nD,
      r.2.mem ((c.tc : Thread nD τ).loc main_v11)
        = addf (Host.divf (shapeCast S_ (clsAll m c) shapeCasts_S1x1_S_) (shapeCast S_ (nposAll m c) shapeCasts_S1x1_S_))
          (Host.divf (shapeCast S_ (locAll m c) shapeCasts_S1x1_S_) (shapeCast S_ (nposAll m c) shapeCasts_S1x1_S_))
      ∧ r.2.mem ((c.tc : Thread nD τ).loc main_v8)
        = Host.divf (shapeCast S_ (clsAll m c) shapeCasts_S1x1_S_) (shapeCast S_ (nposAll m c) shapeCasts_S1x1_S_)
      ∧ r.2.mem ((c.tc : Thread nD τ).loc main_v10)
        = Host.divf (shapeCast S_ (locAll m c) shapeCasts_S1x1_S_) (shapeCast S_ (nposAll m c) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from Gen.run_main m ρ & Gen.unchanged m ρ
  · exact (tail_11 _).trans (by rw [exit_5, exit_6, exit_7])
  · exact (tail_8 _).trans (by rw [exit_5, exit_7])
  · exact (tail_10 _).trans (by rw [exit_6, exit_7])

end Cert.KernelIdeal.Value

end
-- ==== Proof.Kernel.Reads.lean ====
/- What the kernel's blocks hold at a grid point: the image's slices of the arguments. -/
module

public import proofs.«01_k».proof.Proof.Kernel.Run
public import Idealize.ShloMosaic.Lib.Pointwise
public import Idealize.ShloMosaic.Lib.Claim

@[expose] public section

noncomputable section

namespace Cert.KernelIdeal.Value

open Idealize.ShloMosaic Idealize.ShloMosaic.TcCoe Idealize.SL.Sem
open Idealize.ShloMosaic.Pointwise
open Cert.KernelIdeal Cert.KernelIdeal.Gen

variable (m : (ℓ : Loc nD τ sig) → Buf (Elt Ideal) ℓ)

theorem entry_v0 (c : Dev nD) : V m c main_v0
    = transpose S2x80x20000 [0, 2, 1] (m ((c : Thread nD τ).loc main_arg0)) transposes_S2x20000x80_S2x80x20000_0_2_1 := by
  simp only [V, V0, List.flatten_cons, List.flatten_nil, List.append_nil]
  unfold hostOps0
  after_results
  all_goals rfl
theorem entry_v1 (c : Dev nD) : V m c main_v1
    = transpose S2x4x20000 [0, 2, 1] (m ((c : Thread nD τ).loc main_arg1)) transposes_S2x20000x4_S2x4x20000_0_2_1 := by
  simp only [V, V0, List.flatten_cons, List.flatten_nil, List.append_nil]
  unfold hostOps0
  after_results
  all_goals rfl
theorem entry_v2 (c : Dev nD) : V m c main_v2
    = transpose S4x20000 [1, 0] (m ((c : Thread nD τ).loc main_arg4)) transposes_S20000x4_S4x20000_1_0 := by
  simp only [V, V0, List.flatten_cons, List.flatten_nil, List.append_nil]
  unfold hostOps0
  after_results
  all_goals rfl
theorem entry_v4 (c : Dev nD) : V m c main_v4
    = shapeCast S2x32x1 (sitofp (F := Ideal) .f32 (m ((c : Thread nD τ).loc main_arg3) : IVec S2x32 32)) shapeCasts_S2x32_S2x32x1 := by
  simp only [V, V0, List.flatten_cons, List.flatten_nil, List.append_nil]
  unfold hostOps0
  after_results
  all_goals rfl

/-- The image of a grid point. -/
def img (t : Fin cfg0.N) : Fin 2 := ⟨t.val, lt_of_lt_of_eq t.isLt N_0⟩

theorem read_0 (c : Dev nD) (t : Fin cfg0.N) (k : Fin 80) (n : Fin 20000) :
    (iblk m c 0 t : Vec Ideal S1x80x20000 .f32) (ix3 0 k n) = m ((c : Thread nD τ).loc main_arg0) (ix3 (img t) n k) := by
  have hi : win0_0.index t 0 = t.val ∧ win0_0.index t 1 = 0 ∧ win0_0.index t 2 = 0 := by
    rcases fin_N0 t with rfl | rfl <;> decide
  unfold iblk
  rw [View.read_apply]
  show V m c main_v0 _ = _
  rw [entry_v0]
  have e : ∀ j : S2x80x20000.Idx, j = ix3 (img t) k n →
      transpose S2x80x20000 [0, 2, 1] (m ((c : Thread nD τ).loc main_arg0)) transposes_S2x20000x80_S2x80x20000_0_2_1 j
        = m ((c : Thread nD τ).loc main_arg0) (ix3 (img t) n k) := by
    rintro j rfl
    pointwise []
  refine e _ ?_
  funext a
  apply Fin.ext
  match a with
  | ⟨0, _⟩ => show win0_0.index t 0 * 1 + 0 = t.val; rw [hi.1]; omega
  | ⟨1, _⟩ => show win0_0.index t 1 * 80 + 1 * k.val = k.val; rw [hi.2.1]; omega
  | ⟨2, _⟩ => show win0_0.index t 2 * 20000 + 1 * n.val = n.val; rw [hi.2.2]; omega

theorem read_1 (c : Dev nD) (t : Fin cfg0.N) (k : Fin 4) (n : Fin 20000) :
    (iblk m c 1 t : Vec Ideal S1x4x20000 .f32) (ix3 0 k n) = m ((c : Thread nD τ).loc main_arg1) (ix3 (img t) n k) := by
  have hi : win0_1.index t 0 = t.val ∧ win0_1.index t 1 = 0 ∧ win0_1.index t 2 = 0 := by
    rcases fin_N0 t with rfl | rfl <;> decide
  unfold iblk
  rw [View.read_apply]
  show V m c main_v1 _ = _
  rw [entry_v1]
  have e : ∀ j : S2x4x20000.Idx, j = ix3 (img t) k n →
      transpose S2x4x20000 [0, 2, 1] (m ((c : Thread nD τ).loc main_arg1)) transposes_S2x20000x4_S2x4x20000_0_2_1 j
        = m ((c : Thread nD τ).loc main_arg1) (ix3 (img t) n k) := by
    rintro j rfl
    pointwise []
  refine e _ ?_
  funext a
  apply Fin.ext
  match a with
  | ⟨0, _⟩ => show win0_1.index t 0 * 1 + 0 = t.val; rw [hi.1]; omega
  | ⟨1, _⟩ => show win0_1.index t 1 * 4 + 1 * k.val = k.val; rw [hi.2.1]; omega
  | ⟨2, _⟩ => show win0_1.index t 2 * 20000 + 1 * n.val = n.val; rw [hi.2.2]; omega

theorem read_2 (c : Dev nD) (t : Fin cfg0.N) (j : Fin 32) (k : Fin 4) :
    (iblk m c 2 t : Vec Ideal S1x32x4 .f32) (ix3 0 j k) = m ((c : Thread nD τ).loc main_arg2) (ix3 (img t) j k) := by
  have hi : win0_2.index t 0 = t.val ∧ win0_2.index t 1 = 0 ∧ win0_2.index t 2 = 0 := by
    rcases fin_N0 t with rfl | rfl <;> decide
  unfold iblk
  rw [View.read_apply]
  show V m c main_arg2 _ = _
  rw [V_main_arg2]
  congr 1
  funext a
  apply Fin.ext
  match a with
  | ⟨0, _⟩ => show win0_2.index t 0 * 1 + 0 = t.val; rw [hi.1]; omega
  | ⟨1, _⟩ => show win0_2.index t 1 * 32 + 1 * j.val = j.val; rw [hi.2.1]; omega
  | ⟨2, _⟩ => show win0_2.index t 2 * 4 + 1 * k.val = k.val; rw [hi.2.2]; omega

theorem read_3 (c : Dev nD) (t : Fin cfg0.N) (j : Fin 32) :
    (iblk m c 3 t : Vec Ideal S1x32x1 .f32) (ix3 0 j 0)
      = (((((m ((c : Thread nD τ).loc main_arg3) : IVec S2x32 32) (ix2 (img t) j)).toInt : ℝ) : EReal) : Elt Ideal .f32) := by
  have hi : win0_3.index t 0 = t.val ∧ win0_3.index t 1 = 0 ∧ win0_3.index t 2 = 0 := by
    rcases fin_N0 t with rfl | rfl <;> decide
  unfold iblk
  rw [View.read_apply]
  show V m c main_v4 _ = _
  rw [entry_v4]
  have e : ∀ i : S2x32x1.Idx, i = ix3 (img t) j 0 →
      shapeCast S2x32x1 (sitofp (F := Ideal) .f32 (m ((c : Thread nD τ).loc main_arg3) : IVec S2x32 32)) shapeCasts_S2x32_S2x32x1 i
        = (((m ((c : Thread nD τ).loc main_arg3) : IVec S2x32 32) (ix2 (img t) j)).toInt : ℝ) := by
    rintro i rfl
    pointwise []
    rfl
  refine e _ ?_
  funext a
  apply Fin.ext
  match a with
  | ⟨0, _⟩ => show win0_3.index t 0 * 1 + 0 = t.val; rw [hi.1]; omega
  | ⟨1, _⟩ => show win0_3.index t 1 * 32 + 1 * j.val = j.val; rw [hi.2.1]; omega
  | ⟨2, _⟩ => show win0_3.index t 2 * 1 + 0 = 0; rw [hi.2.2]

theorem read_4 (c : Dev nD) (t : Fin cfg0.N) (k : Fin 4) (n : Fin 20000) :
    (iblk m c 4 t : Vec Ideal S4x20000 .f32) (ix2 k n) = m ((c : Thread nD τ).loc main_arg4) (ix2 n k) := by
  have hi : win0_4.index t 0 = 0 ∧ win0_4.index t 1 = 0 := by
    rcases fin_N0 t with rfl | rfl <;> decide
  unfold iblk
  rw [View.read_apply]
  show V m c main_v2 _ = _
  rw [entry_v2]
  have e : ∀ j : S4x20000.Idx, j = ix2 k n →
      transpose S4x20000 [1, 0] (m ((c : Thread nD τ).loc main_arg4)) transposes_S20000x4_S4x20000_1_0 j
        = m ((c : Thread nD τ).loc main_arg4) (ix2 n k) := by
    rintro j rfl
    pointwise []
  refine e _ ?_
  funext a
  apply Fin.ext
  match a with
  | ⟨0, _⟩ => show win0_4.index t 0 * 4 + 1 * k.val = k.val; rw [hi.1]; omega
  | ⟨1, _⟩ => show win0_4.index t 1 * 20000 + 1 * n.val = n.val; rw [hi.2]; omega

end Cert.KernelIdeal.Value

end
-- ==== Proof.Kernel.Totals.lean ====
/- The kernel's three accumulators after both images: the sums of the images' sums. -/
module

public import proofs.«01_k».proof.Proof.Kernel.Image
public import proofs.«01_k».proof.Proof.Kernel.Reads

@[expose] public section

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (c : Dev nD)
  {P : FVec Ideal S2x20000x80 .f32} {X : FVec Ideal S2x20000x4 .f32} {B : FVec Ideal S2x32x4 .f32} {L : IVec S2x32 32} {A : FVec Ideal S20000x4 .f32}

theorem img_0 : img t0_0 = 0 := rfl
theorem img_1 : img t0_1 = 1 := rfl

theorem npos_total (hB : (m ((c : Thread nD τ).loc main_arg2) : FVec Ideal S2x32x4 .f32) = B) (hA : (m ((c : Thread nD τ).loc main_arg4) : FVec Ideal S20000x4 .f32) = A) :
    @Eq EReal (nposAll m c (ix2 0 0)) (∑ i : Fin 2, Spec.npos (fun n k => A (ix2 n k)) (fun j k => B (ix3 i j k))) := by
  have s := fun (t : Fin cfg0.N) (xo : Vec Ideal S1x1 .f32) => nposOut_eq (x2 := iblk m c 2 t) (x4 := iblk m c 4 t) (a := fun n k => A (ix2 n k)) (b := fun j k => B (ix3 (img t) j k))
    (fun j k => by rw [read_2, hB]) (fun k n => by rw [read_4, hA]) xo
  rw [Fin.sum_univ_two]
  refine (s t0_1 _).trans ?_
  rw [s t0_0, zero_eq, zero_add]
  rfl

theorem loc_total (hX : (m ((c : Thread nD τ).loc main_arg1) : FVec Ideal S2x20000x4 .f32) = X)
    (hB : (m ((c : Thread nD τ).loc main_arg2) : FVec Ideal S2x32x4 .f32) = B) (hA : (m ((c : Thread nD τ).loc main_arg4) : FVec Ideal S20000x4 .f32) = A) :
    @Eq EReal (locAll m c (ix2 0 0)) (∑ i : Fin 2, Spec.loc (fun n k => A (ix2 n k)) (fun j k => B (ix3 i j k)) (fun n k => X (ix3 i n k))) := by
  have s := fun (t : Fin cfg0.N) (xo : Vec Ideal S1x1 .f32) => locOut_eq (x1 := iblk m c 1 t) (x2 := iblk m c 2 t) (x4 := iblk m c 4 t)
    (a := fun n k => A (ix2 n k)) (b := fun j k => B (ix3 (img t) j k)) (x := fun n k => X (ix3 (img t) n k))
    (fun k n => by rw [read_1, hX]) (fun j k => by rw [read_2, hB]) (fun k n => by rw [read_4, hA]) xo
  rw [Fin.sum_univ_two]
  refine (s t0_1 _).trans ?_
  rw [s t0_0, zero_eq, zero_add]
  rfl

theorem cls_total (hP : (m ((c : Thread nD τ).loc main_arg0) : FVec Ideal S2x20000x80 .f32) = P)
    (hB : (m ((c : Thread nD τ).loc main_arg2) : FVec Ideal S2x32x4 .f32) = B) (hL : (m ((c : Thread nD τ).loc main_arg3) : IVec S2x32 32) = L)
    (hA : (m ((c : Thread nD τ).loc main_arg4) : FVec Ideal S20000x4 .f32) = A) (l : Fin 2 → Fin 32 → ℕ)
    (hp : ∀ i n k, ∃ r : ℝ, P (ix3 i n k) = (r : EReal)) (hl : ∀ i j, l i j < 80) (hw : ∀ i j, ((L (ix2 i j)).toInt : ℝ) = (l i j : ℝ) - 1) :
    @Eq EReal (clsAll m c (ix2 0 0)) (∑ i : Fin 2, Spec.cls (fun n k => A (ix2 n k)) (fun j k => B (ix3 i j k)) (fun n k => P (ix3 i n k)) (l i)) := by
  have s := fun (t : Fin cfg0.N) (xo : Vec Ideal S1x1 .f32) => clsOut_eq (x0 := iblk m c 0 t) (x2 := iblk m c 2 t) (x3 := iblk m c 3 t) (x4 := iblk m c 4 t)
    (a := fun n k => A (ix2 n k)) (b := fun j k => B (ix3 (img t) j k)) (p := fun n k => P (ix3 (img t) n k)) (l := l (img t))
    (fun k n => by rw [read_0, hP]) (fun j k => by rw [read_2, hB]) (fun k n => by rw [read_4, hA]) (fun j => by rw [read_3, hL, hw]) (hp (img t)) (hl (img t)) xo
  rw [Fin.sum_univ_two]
  refine (s t0_1 _).trans ?_
  rw [s t0_0, zero_eq, zero_add]
  rfl

end Cert.KernelIdeal.Value

end
-- ==== Proof.Ref.Eqs1.lean ====
/- Equations of the reference, one per operation (second third): what its result buffer holds after the run, of what its operands hold. -/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Pipeline.Frame
public import proofs.«01_k».proof.Proof.Ref.Ops

@[expose] public section

noncomputable section

namespace Cert.RefEqs

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
theorem e_main_v79 : W V main_v79 = addi (W V main_v69) (W V main_v78) :=
  binary_eq (i := 100) writes_eq rfl (by decide) (by decide) (by decide) V
set_option maxRecDepth 16384 in
theorem e_main_v80 : W V main_v80 = select (W V main_v77) (W V main_v79) (W V main_v69) :=
  ternary_eq (i := 101) writes_eq rfl (by decide) (by decide) (by decide) (by decide) V
set_option maxRecDepth 16384 in
theorem e_main_v81 : W V main_v81 = broadcastInDim S2x32 ![0, 1] bcast_S2x1_S2x32_0_1 (W V main_v75) :=
  unary_eq (i := 102) writes_eq rfl (by decide) (by decide) V
set_option maxRecDepth 16384 in
theorem e_main_v82 : W V main_v82 = broadcastInDim S2x32x1 ![0, 1] bcast_S2x32_S2x32x1_0_1 (W V main_v81) :=
  unary_eq (i := 103) writes_eq rfl (by decide) (by decide) V
set_option maxRecDepth 16384 in
theorem e_main_v83 : W V main_v83 = broadcastInDim S2x32x1 ![0, 1] bcast_S2x32_S2x32x1_0_1 (W V main_v80) :=
  unary_eq (i := 104) writes_eq rfl (by decide) (by decide) V
set_option maxRecDepth 16384 in
theorem e_main_v84 : W V main_v84 = concatenate S2x32x2 2 [⟨S2x32x1, (W V main_v82)⟩, ⟨S2x32x1, (W V main_v83)⟩] concatenates_S2x32x1_S2x32x1_S2x32x2_d2 :=
  binary_eq (i := 105) writes_eq rfl (by decide) (by decide) (by decide) V
set_option maxRecDepth 16384 in
theorem e_main_c_9 : W V main_c_9 = constantI S_ 1 1#1 :=
  nullary_eq (i := 106) writes_eq rfl (by decide) V
set_option maxRecDepth 16384 in
theorem e_main_v85 : W V main_v85 = broadcastInDim S2x32 ![] bcast_S_S2x32 (W V main_c_9) :=
  unary_eq (i := 107) writes_eq rfl (by decide) (by decide) V
set_option maxRecDepth 16384 in
theorem e_main_v86 : W V main_v86 = Host.scatter scatter_S2x20000_S2x32x2_S2x32_n_01_01_2 (fun _ b => b) (W V main_v70) (W V main_v84) (W V main_v85) :=
  ternary_eq (i := 108) writes_eq rfl (by decide) (by decide) (by decide) (by decide) V
set_option maxRecDepth 16384 in
theorem e_main_v87 : W V main_v87 = extui 32 (W V main_v68) natLt_1_32 :=
  unary_eq (i := 109) writes_eq rfl (by decide) (by decide) V
set_option maxRecDepth 16384 in
theorem e_main_c_10 : W V main_c_10 = constantI S_ 32 0#32 :=
  nullary_eq (i := 110) writes_eq rfl (by decide) V
set_option maxRecDepth 16384 in
theorem e_main_v88 : W V main_v88 = Host.reduce IntOp.addi (W V main_v87) (W V main_c_10) reducesTo_S2x20000_S2_d1 h_S_ :=
  binary_eq (i := 111) writes_eq rfl (by decide) (by decide) (by decide) V
set_option maxRecDepth 16384 in
theorem e_main_v89 : W V main_v89 = broadcastInDim S2x1 ![0] bcast_S2_S2x1_0 (W V main_v88) :=
  unary_eq (i := 112) writes_eq rfl (by decide) (by decide) V
set_option maxRecDepth 16384 in
theorem e_main_c_11 : W V main_c_11 = constantI S_ 32 0#32 :=
  nullary_eq (i := 113) writes_eq rfl (by decide) V
set_option maxRecDepth 16384 in
theorem e_main_v90 : W V main_v90 = broadcastInDim S2x1 ![] bcast_S_S2x1 (W V main_c_11) :=
  unary_eq (i := 114) writes_eq rfl (by decide) (by decide) V
set_option maxRecDepth 16384 in
theorem e_main_v91 : W V main_v91 = cmpi .eq (W V main_v89) (W V main_v90) :=
  binary_eq (i := 115) writes_eq rfl (by decide) (by decide) (by decide) V
set_option maxRecDepth 16384 in
theorem e_main_call3_v0 : W V main_call3_v0 = broadcastInDim S2x20000 ![0, 1] bcast_S2x1_S2x20000_0_1 (W V main_v91) :=
  unary_eq (i := 116) writes_eq rfl (by decide) (by decide) V
theorem k_main_v92 (a : (main_call3_v0 : Ref sig .tc).ty.Contents (Elt F)) (b : (main_v86 : Ref sig .tc).ty.Contents (Elt F)) (c : (main_v68 : Ref sig .tc).ty.Contents (Elt F)) :
    (TRef.of (T := ⟨S2x20000, .i1⟩) main_v92).toBuf (Val := Elt F) (select ((TRef.of (T := ⟨S2x20000, .i1⟩) main_call3_v0).ofBuf a) ((TRef.of (T := ⟨S2x20000, .i1⟩) main_v86).ofBuf b) ((TRef.of (T := ⟨S2x20000, .i1⟩) main_v68).ofBuf c))
      = (select (a) (b) (c)) := rfl
set_option maxRecDepth 16384 in
theorem e_main_v92 : W V main_v92 = select (W V main_call3_v0) (W V main_v86) (W V main_v68) :=
  (ternary_eq (i := 117) (writes_eq (F := F)) rfl (by decide) (by decide) (by decide) (by decide) V).trans (k_main_v92 _ _ _ )
set_option maxRecDepth 16384 in
theorem e_main_c_12 : W V main_c_12 = constantI S_ 32 0#32 :=
  nullary_eq (i := 118) writes_eq rfl (by decide) V
set_option maxRecDepth 16384 in
theorem e_main_v93 : W V main_v93 = broadcastInDim S2x1 ![] bcast_S_S2x1 (W V main_c_12) :=
  unary_eq (i := 119) writes_eq rfl (by decide) (by decide) V
set_option maxRecDepth 16384 in
theorem e_main_v94 : W V main_v94 = cmpi .slt (W V main_v12) (W V main_v93) :=
  binary_eq (i := 120) writes_eq rfl (by decide) (by decide) (by decide) V
set_option maxRecDepth 16384 in
theorem e_main_c_13 : W V main_c_13 = constantI S_ 32 2#32 :=
  nullary_eq (i := 121) writes_eq rfl (by decide) V
set_option maxRecDepth 16384 in
theorem e_main_v95 : W V main_v95 = broadcastInDim S2x1 ![] bcast_S_S2x1 (W V main_c_13) :=
  unary_eq (i := 122) writes_eq rfl (by decide) (by decide) V
set_option maxRecDepth 16384 in
theorem e_main_v96 : W V main_v96 = addi (W V main_v12) (W V main_v95) :=
  binary_eq (i := 123) writes_eq rfl (by decide) (by decide) (by decide) V
set_option maxRecDepth 16384 in
theorem e_main_v97 : W V main_v97 = select (W V main_v94) (W V main_v96) (W V main_v12) :=
  ternary_eq (i := 124) writes_eq rfl (by decide) (by decide) (by decide) (by decide) V
set_option maxRecDepth 16384 in
theorem e_main_c_14 : W V main_c_14 = constantI S_ 32 0#32 :=
  nullary_eq (i := 125) writes_eq rfl (by decide) V
set_option maxRecDepth 16384 in
theorem e_main_v98 : W V main_v98 = broadcastInDim S2x20000 ![] bcast_S_S2x20000 (W V main_c_14) :=
  unary_eq (i := 126) writes_eq rfl (by decide) (by decide) V
set_option maxRecDepth 16384 in
theorem e_main_v99 : W V main_v99 = cmpi .slt (W V main_v64) (W V main_v98) :=
  binary_eq (i := 127) writes_eq rfl (by decide) (by decide) (by decide) V
set_option maxRecDepth 16384 in
theorem e_main_c_15 : W V main_c_15 = constantI S_ 32 32#32 :=
  nullary_eq (i := 128) writes_eq rfl (by decide) V
set_option maxRecDepth 16384 in
theorem e_main_v100 : W V main_v100 = broadcastInDim S2x20000 ![] bcast_S_S2x20000 (W V main_c_15) :=
  unary_eq (i := 129) writes_eq rfl (by decide) (by decide) V
set_option maxRecDepth 16384 in
theorem e_main_v101 : W V main_v101 = addi (W V main_v64) (W V main_v100) :=
  binary_eq (i := 130) writes_eq rfl (by decide) (by decide) (by decide) V
set_option maxRecDepth 16384 in
theorem e_main_v102 : W V main_v102 = select (W V main_v99) (W V main_v101) (W V main_v64) :=
  ternary_eq (i := 131) writes_eq rfl (by decide) (by decide) (by decide) (by decide) V
set_option maxRecDepth 16384 in
theorem e_main_v103 : W V main_v103 = broadcastInDim S2x20000 ![0, 1] bcast_S2x1_S2x20000_0_1 (W V main_v97) :=
  unary_eq (i := 132) writes_eq rfl (by decide) (by decide) V
set_option maxRecDepth 16384 in
theorem e_main_v104 : W V main_v104 = broadcastInDim S2x20000x1 ![0, 1] bcast_S2x20000_S2x20000x1_0_1 (W V main_v103) :=
  unary_eq (i := 133) writes_eq rfl (by decide) (by decide) V
set_option maxRecDepth 16384 in
theorem e_main_v105 : W V main_v105 = broadcastInDim S2x20000x1 ![0, 1] bcast_S2x20000_S2x20000x1_0_1 (W V main_v102) :=
  unary_eq (i := 134) writes_eq rfl (by decide) (by decide) V
set_option maxRecDepth 16384 in
theorem e_main_v106 : W V main_v106 = concatenate S2x20000x2 2 [⟨S2x20000x1, (W V main_v104)⟩, ⟨S2x20000x1, (W V main_v105)⟩] concatenates_S2x20000x1_S2x20000x1_S2x20000x2_d2 :=
  binary_eq (i := 135) writes_eq rfl (by decide) (by decide) (by decide) V
set_option maxRecDepth 16384 in
theorem e_main_v107 : W V main_v107 = Host.gather gather_S2x32_S2x20000x2_S2x20000_n_01_n_n_01_2_11 (W V main_arg3) (W V main_v106) :=
  binary_eq (i := 136) writes_eq rfl (by decide) (by decide) (by decide) V
set_option maxRecDepth 16384 in
theorem e_main_c_16 : W V main_c_16 = constantI S_ 32 1#32 :=
  nullary_eq (i := 137) writes_eq rfl (by decide) V
set_option maxRecDepth 16384 in
theorem e_main_v108 : W V main_v108 = broadcastInDim S2x20000 ![] bcast_S_S2x20000 (W V main_c_16) :=
  unary_eq (i := 138) writes_eq rfl (by decide) (by decide) V
set_option maxRecDepth 16384 in
theorem e_main_v109 : W V main_v109 = addi (W V main_v107) (W V main_v108) :=
  binary_eq (i := 139) writes_eq rfl (by decide) (by decide) (by decide) V
set_option maxRecDepth 16384 in
theorem e_main_cst_17 : W V main_cst_17 = constant S_ .f32 0x3F800000#32 :=
  nullary_eq (i := 140) writes_eq rfl (by decide) V
set_option maxRecDepth 16384 in
theorem e_main_v110 : W V main_v110 = broadcastInDim S2x20000x80 ![] bcast_S_S2x20000x80 (W V main_cst_17) :=
  unary_eq (i := 141) writes_eq rfl (by decide) (by decide) V
set_option maxRecDepth 16384 in
theorem e_main_v111 : W V main_v111 = Host.negf (W V main_v110) :=
  unary_eq (i := 142) writes_eq rfl (by decide) (by decide) V
set_option maxRecDepth 16384 in
theorem e_main_v112 : W V main_v112 = broadcastInDim S2x20000x1 ![0, 1] bcast_S2x20000_S2x20000x1_0_1 (W V main_v66) :=
  unary_eq (i := 143) writes_eq rfl (by decide) (by decide) V
set_option maxRecDepth 16384 in
theorem e_main_cst_18 : W V main_cst_18 = constant S_ .f32 0x00000000#32 :=
  nullary_eq (i := 144) writes_eq rfl (by decide) V
set_option maxRecDepth 16384 in
theorem e_main_call4_v0 : W V main_call4_v0 = id (W V main_cst_18) :=
  unary_eq (i := 145) writes_eq rfl (by decide) (by decide) V
set_option maxRecDepth 16384 in
theorem e_main_call4_v1 : W V main_call4_v1 = broadcastInDim S2x20000x80 ![0, 1, 2] bcast_S2x20000x1_S2x20000x80_0_1_2 (W V main_v112) :=
  unary_eq (i := 146) writes_eq rfl (by decide) (by decide) V
set_option maxRecDepth 16384 in
theorem e_main_call4_v2 : W V main_call4_v2 = broadcastInDim S2x20000x80 ![] bcast_S_S2x20000x80 (W V main_call4_v0) :=
  unary_eq (i := 147) writes_eq rfl (by decide) (by decide) V
theorem k_main_v113 (a : (main_call4_v1 : Ref sig .tc).ty.Contents (Elt F)) (b : (main_call4_v2 : Ref sig .tc).ty.Contents (Elt F)) (c : (main_v111 : Ref sig .tc).ty.Contents (Elt F)) :
    (TRef.of (T := ⟨S2x20000x80, .f32⟩) main_v113).toBuf (Val := Elt F) (select ((TRef.of (T := ⟨S2x20000x80, .i1⟩) main_call4_v1).ofBuf a) ((TRef.of (T := ⟨S2x20000x80, .f32⟩) main_call4_v2).ofBuf b) ((TRef.of (T := ⟨S2x20000x80, .f32⟩) main_v111).ofBuf c))
      = (select (a) (b) (c)) := rfl
set_option maxRecDepth 16384 in
theorem e_main_v113 : W V main_v113 = select (W V main_call4_v1) (W V main_call4_v2) (W V main_v111) :=
  (ternary_eq (i := 148) (writes_eq (F := F)) rfl (by decide) (by decide) (by decide) (by decide) V).trans (k_main_v113 _ _ _ )
set_option maxRecDepth 16384 in
theorem e_main_call5_v0 : W V main_call5_v0 = broadcastInDim S2x20000x1 ![0, 1] bcast_S2x20000_S2x20000x1_0_1 (W V main_v109) :=
  unary_eq (i := 149) writes_eq rfl (by decide) (by decide) V
set_option maxRecDepth 16384 in
theorem e_main_call5_v1 : W V main_call5_v1 = iotaInDim S1x1x80 32 2 :=
  nullary_eq (i := 150) writes_eq rfl (by decide) V
set_option maxRecDepth 16384 in
theorem e_main_call5_v2 : W V main_call5_v2 = broadcastInDim S2x20000x80 ![0, 1, 2] bcast_S2x20000x1_S2x20000x80_0_1_2 (W V main_call5_v0) :=
  unary_eq (i := 151) writes_eq rfl (by decide) (by decide) V
set_option maxRecDepth 16384 in
theorem e_main_call5_v3 : W V main_call5_v3 = broadcastInDim S2x20000x80 ![0, 1, 2] bcast_S1x1x80_S2x20000x80_0_1_2 (W V main_call5_v1) :=
  unary_eq (i := 152) writes_eq rfl (by decide) (by decide) V
theorem k_main_call5_v4 (a : (main_call5_v2 : Ref sig .tc).ty.Contents (Elt F)) (b : (main_call5_v3 : Ref sig .tc).ty.Contents (Elt F)) :
    (TRef.of (T := ⟨S2x20000x80, .i1⟩) main_call5_v4).toBuf (Val := Elt F) (cmpi .eq ((TRef.of (T := ⟨S2x20000x80, .i32⟩) main_call5_v2).ofBuf a) ((TRef.of (T := ⟨S2x20000x80, .i32⟩) main_call5_v3).ofBuf b))
      = (cmpi .eq (a) (b)) := rfl
set_option maxRecDepth 16384 in
theorem e_main_call5_v4 : W V main_call5_v4 = cmpi .eq (W V main_call5_v2) (W V main_call5_v3) :=
  (binary_eq (i := 153) (writes_eq (F := F)) rfl (by decide) (by decide) (by decide) V).trans (k_main_call5_v4 _ _ )
set_option maxRecDepth 16384 in
theorem e_main_v114 : W V main_v114 = uitofp .f32 (W V main_call5_v4) :=
  unary_eq (i := 154) writes_eq rfl (by decide) (by decide) V
set_option maxRecDepth 16384 in
theorem e_main_v115 : W V main_v115 = broadcastInDim S2x20000x1 ![0, 1] bcast_S2x20000_S2x20000x1_0_1 (W V main_v92) :=
  unary_eq (i := 155) writes_eq rfl (by decide) (by decide) V
set_option maxRecDepth 16384 in
theorem e_main_call6_v0 : W V main_call6_v0 = broadcastInDim S2x20000x80 ![0, 1, 2] bcast_S2x20000x1_S2x20000x80_0_1_2 (W V main_v115) :=
  unary_eq (i := 156) writes_eq rfl (by decide) (by decide) V
theorem k_main_v116 (a : (main_call6_v0 : Ref sig .tc).ty.Contents (Elt F)) (b : (main_v114 : Ref sig .tc).ty.Contents (Elt F)) (c : (main_v113 : Ref sig .tc).ty.Contents (Elt F)) :
    (TRef.of (T := ⟨S2x20000x80, .f32⟩) main_v116).toBuf (Val := Elt F) (select ((TRef.of (T := ⟨S2x20000x80, .i1⟩) main_call6_v0).ofBuf a) ((TRef.of (T := ⟨S2x20000x80, .f32⟩) main_v114).ofBuf b) ((TRef.of (T := ⟨S2x20000x80, .f32⟩) main_v113).ofBuf c))
      = (select (a) (b) (c)) := rfl
set_option maxRecDepth 16384 in
theorem e_main_v116 : W V main_v116 = select (W V main_call6_v0) (W V main_v114) (W V main_v113) :=
  (ternary_eq (i := 157) (writes_eq (F := F)) rfl (by decide) (by decide) (by decide) (by decide) V).trans (k_main_v116 _ _ _ )
set_option maxRecDepth 16384 in
theorem e_main_cst_19 : W V main_cst_19 = constant S_ .f32 0x3F800000#32 :=
  nullary_eq (i := 158) writes_eq rfl (by decide) V
set_option maxRecDepth 16384 in
theorem e_main_v117 : W V main_v117 = broadcastInDim S2x20000 ![] bcast_S_S2x20000 (W V main_cst_19) :=
  unary_eq (i := 159) writes_eq rfl (by decide) (by decide) V
set_option maxRecDepth 16384 in
theorem e_main_v118 : W V main_v118 = Host.negf (W V main_v117) :=
  unary_eq (i := 160) writes_eq rfl (by decide) (by decide) V
set_option maxRecDepth 16384 in
theorem e_main_cst_20 : W V main_cst_20 = constant S_ .f32 0x00000000#32 :=
  nullary_eq (i := 161) writes_eq rfl (by decide) V
set_option maxRecDepth 16384 in
theorem e_main_call7_v0 : W V main_call7_v0 = id (W V main_cst_20) :=
  unary_eq (i := 162) writes_eq rfl (by decide) (by decide) V
set_option maxRecDepth 16384 in
theorem e_main_call7_v1 : W V main_call7_v1 = broadcastInDim S2x20000 ![] bcast_S_S2x20000 (W V main_call7_v0) :=
  unary_eq (i := 163) writes_eq rfl (by decide) (by decide) V
theorem k_main_v119 (a : (main_v66 : Ref sig .tc).ty.Contents (Elt F)) (b : (main_call7_v1 : Ref sig .tc).ty.Contents (Elt F)) (c : (main_v118 : Ref sig .tc).ty.Contents (Elt F)) :
    (TRef.of (T := ⟨S2x20000, .f32⟩) main_v119).toBuf (Val := Elt F) (select ((TRef.of (T := ⟨S2x20000, .i1⟩) main_v66).ofBuf a) ((TRef.of (T := ⟨S2x20000, .f32⟩) main_call7_v1).ofBuf b) ((TRef.of (T := ⟨S2x20000, .f32⟩) main_v118).ofBuf c))
      = (select (a) (b) (c)) := rfl
set_option maxRecDepth 16384 in
theorem e_main_v119 : W V main_v119 = select (W V main_v66) (W V main_call7_v1) (W V main_v118) :=
  (ternary_eq (i := 164) (writes_eq (F := F)) rfl (by decide) (by decide) (by decide) (by decide) V).trans (k_main_v119 _ _ _ )
set_option maxRecDepth 16384 in
theorem e_main_cst_21 : W V main_cst_21 = constant S_ .f32 0x3F800000#32 :=
  nullary_eq (i := 165) writes_eq rfl (by decide) V
set_option maxRecDepth 16384 in
theorem e_main_call8_v0 : W V main_call8_v0 = id (W V main_cst_21) :=
  unary_eq (i := 166) writes_eq rfl (by decide) (by decide) V
set_option maxRecDepth 16384 in
theorem e_main_call8_v1 : W V main_call8_v1 = broadcastInDim S2x20000 ![] bcast_S_S2x20000 (W V main_call8_v0) :=
  unary_eq (i := 167) writes_eq rfl (by decide) (by decide) V
theorem k_main_v120 (a : (main_v92 : Ref sig .tc).ty.Contents (Elt F)) (b : (main_call8_v1 : Ref sig .tc).ty.Contents (Elt F)) (c : (main_v119 : Ref sig .tc).ty.Contents (Elt F)) :
    (TRef.of (T := ⟨S2x20000, .f32⟩) main_v120).toBuf (Val := Elt F) (select ((TRef.of (T := ⟨S2x20000, .i1⟩) main_v92).ofBuf a) ((TRef.of (T := ⟨S2x20000, .f32⟩) main_call8_v1).ofBuf b) ((TRef.of (T := ⟨S2x20000, .f32⟩) main_v119).ofBuf c))
      = (select (a) (b) (c)) := rfl
set_option maxRecDepth 16384 in
theorem e_main_v120 : W V main_v120 = select (W V main_v92) (W V main_call8_v1) (W V main_v119) :=
  (ternary_eq (i := 168) (writes_eq (F := F)) rfl (by decide) (by decide) (by decide) (by decide) V).trans (k_main_v120 _ _ _ )
set_option maxRecDepth 16384 in
theorem e_main_c_22 : W V main_c_22 = constantI S_ 32 0#32 :=
  nullary_eq (i := 169) writes_eq rfl (by decide) V
set_option maxRecDepth 16384 in
theorem e_main_v121 : W V main_v121 = broadcastInDim S2x1 ![] bcast_S_S2x1 (W V main_c_22) :=
  unary_eq (i := 170) writes_eq rfl (by decide) (by decide) V
set_option maxRecDepth 16384 in
theorem e_main_v122 : W V main_v122 = cmpi .slt (W V main_v12) (W V main_v121) :=
  binary_eq (i := 171) writes_eq rfl (by decide) (by decide) (by decide) V
set_option maxRecDepth 16384 in
theorem e_main_c_23 : W V main_c_23 = constantI S_ 32 2#32 :=
  nullary_eq (i := 172) writes_eq rfl (by decide) V
set_option maxRecDepth 16384 in
theorem e_main_v123 : W V main_v123 = broadcastInDim S2x1 ![] bcast_S_S2x1 (W V main_c_23) :=
  unary_eq (i := 173) writes_eq rfl (by decide) (by decide) V
set_option maxRecDepth 16384 in
theorem e_main_v124 : W V main_v124 = addi (W V main_v12) (W V main_v123) :=
  binary_eq (i := 174) writes_eq rfl (by decide) (by decide) (by decide) V
set_option maxRecDepth 16384 in
theorem e_main_v125 : W V main_v125 = select (W V main_v122) (W V main_v124) (W V main_v12) :=
  ternary_eq (i := 175) writes_eq rfl (by decide) (by decide) (by decide) (by decide) V
set_option maxRecDepth 16384 in
theorem e_main_c_24 : W V main_c_24 = constantI S_ 32 0#32 :=
  nullary_eq (i := 176) writes_eq rfl (by decide) V
set_option maxRecDepth 16384 in
theorem e_main_v126 : W V main_v126 = broadcastInDim S2x20000 ![] bcast_S_S2x20000 (W V main_c_24) :=
  unary_eq (i := 177) writes_eq rfl (by decide) (by decide) V
set_option maxRecDepth 16384 in
theorem e_main_v127 : W V main_v127 = cmpi .slt (W V main_v64) (W V main_v126) :=
  binary_eq (i := 178) writes_eq rfl (by decide) (by decide) (by decide) V
set_option maxRecDepth 16384 in
theorem e_main_c_25 : W V main_c_25 = constantI S_ 32 32#32 :=
  nullary_eq (i := 179) writes_eq rfl (by decide) V
set_option maxRecDepth 16384 in
theorem e_main_v128 : W V main_v128 = broadcastInDim S2x20000 ![] bcast_S_S2x20000 (W V main_c_25) :=
  unary_eq (i := 180) writes_eq rfl (by decide) (by decide) V
set_option maxRecDepth 16384 in
theorem e_main_v129 : W V main_v129 = addi (W V main_v64) (W V main_v128) :=
  binary_eq (i := 181) writes_eq rfl (by decide) (by decide) (by decide) V
set_option maxRecDepth 16384 in
theorem e_main_v130 : W V main_v130 = select (W V main_v127) (W V main_v129) (W V main_v64) :=
  ternary_eq (i := 182) writes_eq rfl (by decide) (by decide) (by decide) (by decide) V
set_option maxRecDepth 16384 in
theorem e_main_v131 : W V main_v131 = broadcastInDim S2x20000 ![0, 1] bcast_S2x1_S2x20000_0_1 (W V main_v125) :=
  unary_eq (i := 183) writes_eq rfl (by decide) (by decide) V
set_option maxRecDepth 16384 in
theorem e_main_v132 : W V main_v132 = broadcastInDim S2x20000x1 ![0, 1] bcast_S2x20000_S2x20000x1_0_1 (W V main_v131) :=
  unary_eq (i := 184) writes_eq rfl (by decide) (by decide) V
set_option maxRecDepth 16384 in
theorem e_main_v133 : W V main_v133 = broadcastInDim S2x20000x1 ![0, 1] bcast_S2x20000_S2x20000x1_0_1 (W V main_v130) :=
  unary_eq (i := 185) writes_eq rfl (by decide) (by decide) V
set_option maxRecDepth 16384 in
theorem e_main_v134 : W V main_v134 = concatenate S2x20000x2 2 [⟨S2x20000x1, (W V main_v132)⟩, ⟨S2x20000x1, (W V main_v133)⟩] concatenates_S2x20000x1_S2x20000x1_S2x20000x2_d2 :=
  binary_eq (i := 186) writes_eq rfl (by decide) (by decide) (by decide) V
set_option maxRecDepth 16384 in
theorem e_main_v135 : W V main_v135 = Host.gather gather_S2x32x4_S2x20000x2_S2x20000x4_2_01_n_n_01_2_114 (W V main_arg2) (W V main_v134) :=
  binary_eq (i := 187) writes_eq rfl (by decide) (by decide) (by decide) V
set_option maxRecDepth 16384 in
theorem e_main_v136 : W V main_v136 = extractStridedSlice S2x20000x2 ![0, 0, 0] (W V main_v135) slices_S2x20000x4_S2x20000x2_0_0_0 :=
  unary_eq (i := 188) writes_eq rfl (by decide) (by decide) V
set_option maxRecDepth 16384 in
theorem e_main_v137 : W V main_v137 = extractStridedSlice S2x20000x2 ![0, 0, 2] (W V main_v135) slices_S2x20000x4_S2x20000x2_0_0_2 :=
  unary_eq (i := 189) writes_eq rfl (by decide) (by decide) V
set_option maxRecDepth 16384 in
theorem e_main_v138 : W V main_v138 = addf (W V main_v136) (W V main_v137) :=
  binary_eq (i := 190) writes_eq rfl (by decide) (by decide) (by decide) V
set_option maxRecDepth 16384 in
theorem e_main_cst_26 : W V main_cst_26 = constant S_ .f32 0x40000000#32 :=
  nullary_eq (i := 191) writes_eq rfl (by decide) V
set_option maxRecDepth 16384 in
theorem e_main_v139 : W V main_v139 = broadcastInDim S2x20000x2 ![] bcast_S_S2x20000x2 (W V main_cst_26) :=
  unary_eq (i := 192) writes_eq rfl (by decide) (by decide) V
set_option maxRecDepth 16384 in
theorem e_main_v140 : W V main_v140 = Host.divf (W V main_v138) (W V main_v139) :=
  binary_eq (i := 193) writes_eq rfl (by decide) (by decide) (by decide) V
set_option maxRecDepth 16384 in
theorem e_main_v141 : W V main_v141 = extractStridedSlice S2x20000x2 ![0, 0, 2] (W V main_v135) slices_S2x20000x4_S2x20000x2_0_0_2 :=
  unary_eq (i := 194) writes_eq rfl (by decide) (by decide) V
set_option maxRecDepth 16384 in
theorem e_main_v142 : W V main_v142 = extractStridedSlice S2x20000x2 ![0, 0, 0] (W V main_v135) slices_S2x20000x4_S2x20000x2_0_0_0 :=
  unary_eq (i := 195) writes_eq rfl (by decide) (by decide) V
set_option maxRecDepth 16384 in
theorem e_main_v143 : W V main_v143 = subf (W V main_v141) (W V main_v142) :=
  binary_eq (i := 196) writes_eq rfl (by decide) (by decide) (by decide) V
set_option maxRecDepth 16384 in
theorem e_main_v144 : W V main_v144 = concatenate S2x20000x4 2 [⟨S2x20000x2, (W V main_v140)⟩, ⟨S2x20000x2, (W V main_v143)⟩] concatenates_S2x20000x2_S2x20000x2_S2x20000x4_d2 :=
  binary_eq (i := 197) writes_eq rfl (by decide) (by decide) (by decide) V
set_option maxRecDepth 16384 in
theorem e_main_v145 : W V main_v145 = extractStridedSlice S2x20000x2 ![0, 0, 0] (W V main_v144) slices_S2x20000x4_S2x20000x2_0_0_0 :=
  unary_eq (i := 198) writes_eq rfl (by decide) (by decide) V
set_option maxRecDepth 16384 in
theorem e_main_v146 : W V main_v146 = extractStridedSlice S20000x2 ![0, 0] (W V main_arg4) slices_S20000x4_S20000x2_0_0 :=
  unary_eq (i := 199) writes_eq rfl (by decide) (by decide) V

end Cert.RefEqs

end
-- ==== Proof.Ref.Eqs0.lean ====
/- Equations of the reference, one per operation (first third): what its result buffer holds after the run, of what its operands hold. -/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Pipeline.Frame
public import proofs.«01_k».proof.Proof.Ref.Ops

@[expose] public section

noncomputable section

namespace Cert.RefEqs

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
theorem e_main_v0 : W V main_v0 = extractStridedSlice S20000x2 ![0, 0] (W V main_arg4) slices_S20000x4_S20000x2_0_0 :=
  unary_eq (i := 0) writes_eq rfl (by decide) (by decide) V
set_option maxRecDepth 16384 in
theorem e_main_v1 : W V main_v1 = extractStridedSlice S20000x2 ![0, 2] (W V main_arg4) slices_S20000x4_S20000x2_0_2 :=
  unary_eq (i := 1) writes_eq rfl (by decide) (by decide) V
set_option maxRecDepth 16384 in
theorem e_main_cst : W V main_cst = constant S_ .f32 0x40000000#32 :=
  nullary_eq (i := 2) writes_eq rfl (by decide) V
set_option maxRecDepth 16384 in
theorem e_main_v2 : W V main_v2 = broadcastInDim S20000x2 ![] bcast_S_S20000x2 (W V main_cst) :=
  unary_eq (i := 3) writes_eq rfl (by decide) (by decide) V
set_option maxRecDepth 16384 in
theorem e_main_v3 : W V main_v3 = Host.divf (W V main_v1) (W V main_v2) :=
  binary_eq (i := 4) writes_eq rfl (by decide) (by decide) (by decide) V
set_option maxRecDepth 16384 in
theorem e_main_v4 : W V main_v4 = subf (W V main_v0) (W V main_v3) :=
  binary_eq (i := 5) writes_eq rfl (by decide) (by decide) (by decide) V
set_option maxRecDepth 16384 in
theorem e_main_v5 : W V main_v5 = extractStridedSlice S20000x2 ![0, 0] (W V main_arg4) slices_S20000x4_S20000x2_0_0 :=
  unary_eq (i := 6) writes_eq rfl (by decide) (by decide) V
set_option maxRecDepth 16384 in
theorem e_main_v6 : W V main_v6 = extractStridedSlice S20000x2 ![0, 2] (W V main_arg4) slices_S20000x4_S20000x2_0_2 :=
  unary_eq (i := 7) writes_eq rfl (by decide) (by decide) V
set_option maxRecDepth 16384 in
theorem e_main_cst_0 : W V main_cst_0 = constant S_ .f32 0x40000000#32 :=
  nullary_eq (i := 8) writes_eq rfl (by decide) V
set_option maxRecDepth 16384 in
theorem e_main_v7 : W V main_v7 = broadcastInDim S20000x2 ![] bcast_S_S20000x2 (W V main_cst_0) :=
  unary_eq (i := 9) writes_eq rfl (by decide) (by decide) V
set_option maxRecDepth 16384 in
theorem e_main_v8 : W V main_v8 = Host.divf (W V main_v6) (W V main_v7) :=
  binary_eq (i := 10) writes_eq rfl (by decide) (by decide) (by decide) V
set_option maxRecDepth 16384 in
theorem e_main_v9 : W V main_v9 = addf (W V main_v5) (W V main_v8) :=
  binary_eq (i := 11) writes_eq rfl (by decide) (by decide) (by decide) V
set_option maxRecDepth 16384 in
theorem e_main_v10 : W V main_v10 = concatenate S20000x4 1 [⟨S20000x2, (W V main_v4)⟩, ⟨S20000x2, (W V main_v9)⟩] concatenates_S20000x2_S20000x2_S20000x4_d1 :=
  binary_eq (i := 12) writes_eq rfl (by decide) (by decide) (by decide) V
set_option maxRecDepth 16384 in
theorem e_main_v11 : W V main_v11 = iotaInDim S2 32 0 :=
  nullary_eq (i := 13) writes_eq rfl (by decide) V
set_option maxRecDepth 16384 in
theorem e_main_v12 : W V main_v12 = broadcastInDim S2x1 ![0] bcast_S2_S2x1_0 (W V main_v11) :=
  unary_eq (i := 14) writes_eq rfl (by decide) (by decide) V
set_option maxRecDepth 16384 in
theorem e_main_v13 : W V main_v13 = extractStridedSlice S20000x2 ![0, 0] (W V main_v10) slices_S20000x4_S20000x2_0_0 :=
  unary_eq (i := 15) writes_eq rfl (by decide) (by decide) V
set_option maxRecDepth 16384 in
theorem e_main_v14 : W V main_v14 = broadcastInDim S1x20000x1x2 ![1, 3] bcast_S20000x2_S1x20000x1x2_1_3 (W V main_v13) :=
  unary_eq (i := 16) writes_eq rfl (by decide) (by decide) V
set_option maxRecDepth 16384 in
theorem e_main_v15 : W V main_v15 = extractStridedSlice S2x32x2 ![0, 0, 0] (W V main_arg2) slices_S2x32x4_S2x32x2_0_0_0 :=
  unary_eq (i := 17) writes_eq rfl (by decide) (by decide) V
set_option maxRecDepth 16384 in
theorem e_main_v16 : W V main_v16 = broadcastInDim S2x1x32x2 ![0, 2, 3] bcast_S2x32x2_S2x1x32x2_0_2_3 (W V main_v15) :=
  unary_eq (i := 18) writes_eq rfl (by decide) (by decide) V
set_option maxRecDepth 16384 in
theorem e_main_v17 : W V main_v17 = broadcastInDim S2x20000x32x2 ![0, 1, 2, 3] bcast_S1x20000x1x2_S2x20000x32x2_0_1_2_3 (W V main_v14) :=
  unary_eq (i := 19) writes_eq rfl (by decide) (by decide) V
set_option maxRecDepth 16384 in
theorem e_main_v18 : W V main_v18 = broadcastInDim S2x20000x32x2 ![0, 1, 2, 3] bcast_S2x1x32x2_S2x20000x32x2_0_1_2_3 (W V main_v16) :=
  unary_eq (i := 20) writes_eq rfl (by decide) (by decide) V
set_option maxRecDepth 16384 in
theorem e_main_v19 : W V main_v19 = maximumf (W V main_v17) (W V main_v18) :=
  binary_eq (i := 21) writes_eq rfl (by decide) (by decide) (by decide) V
set_option maxRecDepth 16384 in
theorem e_main_v20 : W V main_v20 = extractStridedSlice S20000x2 ![0, 2] (W V main_v10) slices_S20000x4_S20000x2_0_2 :=
  unary_eq (i := 22) writes_eq rfl (by decide) (by decide) V
set_option maxRecDepth 16384 in
theorem e_main_v21 : W V main_v21 = broadcastInDim S1x20000x1x2 ![1, 3] bcast_S20000x2_S1x20000x1x2_1_3 (W V main_v20) :=
  unary_eq (i := 23) writes_eq rfl (by decide) (by decide) V
set_option maxRecDepth 16384 in
theorem e_main_v22 : W V main_v22 = extractStridedSlice S2x32x2 ![0, 0, 2] (W V main_arg2) slices_S2x32x4_S2x32x2_0_0_2 :=
  unary_eq (i := 24) writes_eq rfl (by decide) (by decide) V
set_option maxRecDepth 16384 in
theorem e_main_v23 : W V main_v23 = broadcastInDim S2x1x32x2 ![0, 2, 3] bcast_S2x32x2_S2x1x32x2_0_2_3 (W V main_v22) :=
  unary_eq (i := 25) writes_eq rfl (by decide) (by decide) V
set_option maxRecDepth 16384 in
theorem e_main_v24 : W V main_v24 = broadcastInDim S2x20000x32x2 ![0, 1, 2, 3] bcast_S1x20000x1x2_S2x20000x32x2_0_1_2_3 (W V main_v21) :=
  unary_eq (i := 26) writes_eq rfl (by decide) (by decide) V
set_option maxRecDepth 16384 in
theorem e_main_v25 : W V main_v25 = broadcastInDim S2x20000x32x2 ![0, 1, 2, 3] bcast_S2x1x32x2_S2x20000x32x2_0_1_2_3 (W V main_v23) :=
  unary_eq (i := 27) writes_eq rfl (by decide) (by decide) V
set_option maxRecDepth 16384 in
theorem e_main_v26 : W V main_v26 = minimumf (W V main_v24) (W V main_v25) :=
  binary_eq (i := 28) writes_eq rfl (by decide) (by decide) (by decide) V
set_option maxRecDepth 16384 in
theorem e_main_v27 : W V main_v27 = subf (W V main_v26) (W V main_v19) :=
  binary_eq (i := 29) writes_eq rfl (by decide) (by decide) (by decide) V
set_option maxRecDepth 16384 in
theorem e_main_cst_1 : W V main_cst_1 = constant S_ .f32 0x00000000#32 :=
  nullary_eq (i := 30) writes_eq rfl (by decide) V
set_option maxRecDepth 16384 in
theorem e_main_call0_v0 : W V main_call0_v0 = id (W V main_cst_1) :=
  unary_eq (i := 31) writes_eq rfl (by decide) (by decide) V
set_option maxRecDepth 16384 in
theorem e_main_call0_v1 : W V main_call0_v1 = broadcastInDim S2x20000x32x2 ![] bcast_S_S2x20000x32x2 (W V main_call0_v0) :=
  unary_eq (i := 32) writes_eq rfl (by decide) (by decide) V
set_option maxRecDepth 16384 in
theorem e_main_v28 : W V main_v28 = maximumf (W V main_call0_v1) (W V main_v27) :=
  binary_eq (i := 33) writes_eq rfl (by decide) (by decide) (by decide) V
set_option maxRecDepth 16384 in
theorem e_main_v29 : W V main_v29 = extractStridedSlice S2x20000x32x1 ![0, 0, 0, 0] (W V main_v28) slices_S2x20000x32x2_S2x20000x32x1_0_0_0_0 :=
  unary_eq (i := 34) writes_eq rfl (by decide) (by decide) V
set_option maxRecDepth 16384 in
theorem e_main_v30 : W V main_v30 = shapeCast _ (W V main_v29) shapeCasts_S2x20000x32x1_S2x20000x32 :=
  reshape_eq (i := 35) writes_eq rfl (by decide) (by decide) V
set_option maxRecDepth 16384 in
theorem e_main_v31 : W V main_v31 = extractStridedSlice S2x20000x32x1 ![0, 0, 0, 1] (W V main_v28) slices_S2x20000x32x2_S2x20000x32x1_0_0_0_1 :=
  unary_eq (i := 36) writes_eq rfl (by decide) (by decide) V
set_option maxRecDepth 16384 in
theorem e_main_v32 : W V main_v32 = shapeCast _ (W V main_v31) shapeCasts_S2x20000x32x1_S2x20000x32 :=
  reshape_eq (i := 37) writes_eq rfl (by decide) (by decide) V
set_option maxRecDepth 16384 in
theorem e_main_v33 : W V main_v33 = mulf (W V main_v30) (W V main_v32) :=
  binary_eq (i := 38) writes_eq rfl (by decide) (by decide) (by decide) V
set_option maxRecDepth 16384 in
theorem e_main_v34 : W V main_v34 = extractStridedSlice S20000x1 ![0, 2] (W V main_v10) slices_S20000x4_S20000x1_0_2 :=
  unary_eq (i := 39) writes_eq rfl (by decide) (by decide) V
set_option maxRecDepth 16384 in
theorem e_main_v35 : W V main_v35 = shapeCast _ (W V main_v34) shapeCasts_S20000x1_S20000 :=
  reshape_eq (i := 40) writes_eq rfl (by decide) (by decide) V
set_option maxRecDepth 16384 in
theorem e_main_v36 : W V main_v36 = extractStridedSlice S20000x1 ![0, 0] (W V main_v10) slices_S20000x4_S20000x1_0_0 :=
  unary_eq (i := 41) writes_eq rfl (by decide) (by decide) V
set_option maxRecDepth 16384 in
theorem e_main_v37 : W V main_v37 = shapeCast _ (W V main_v36) shapeCasts_S20000x1_S20000 :=
  reshape_eq (i := 42) writes_eq rfl (by decide) (by decide) V
set_option maxRecDepth 16384 in
theorem e_main_v38 : W V main_v38 = subf (W V main_v35) (W V main_v37) :=
  binary_eq (i := 43) writes_eq rfl (by decide) (by decide) (by decide) V
set_option maxRecDepth 16384 in
theorem e_main_v39 : W V main_v39 = extractStridedSlice S20000x1 ![0, 3] (W V main_v10) slices_S20000x4_S20000x1_0_3 :=
  unary_eq (i := 44) writes_eq rfl (by decide) (by decide) V
set_option maxRecDepth 16384 in
theorem e_main_v40 : W V main_v40 = shapeCast _ (W V main_v39) shapeCasts_S20000x1_S20000 :=
  reshape_eq (i := 45) writes_eq rfl (by decide) (by decide) V
set_option maxRecDepth 16384 in
theorem e_main_v41 : W V main_v41 = extractStridedSlice S20000x1 ![0, 1] (W V main_v10) slices_S20000x4_S20000x1_0_1 :=
  unary_eq (i := 46) writes_eq rfl (by decide) (by decide) V
set_option maxRecDepth 16384 in
theorem e_main_v42 : W V main_v42 = shapeCast _ (W V main_v41) shapeCasts_S20000x1_S20000 :=
  reshape_eq (i := 47) writes_eq rfl (by decide) (by decide) V
set_option maxRecDepth 16384 in
theorem e_main_v43 : W V main_v43 = subf (W V main_v40) (W V main_v42) :=
  binary_eq (i := 48) writes_eq rfl (by decide) (by decide) (by decide) V
set_option maxRecDepth 16384 in
theorem e_main_v44 : W V main_v44 = mulf (W V main_v38) (W V main_v43) :=
  binary_eq (i := 49) writes_eq rfl (by decide) (by decide) (by decide) V
set_option maxRecDepth 16384 in
theorem e_main_v45 : W V main_v45 = extractStridedSlice S2x32x1 ![0, 0, 2] (W V main_arg2) slices_S2x32x4_S2x32x1_0_0_2 :=
  unary_eq (i := 50) writes_eq rfl (by decide) (by decide) V
set_option maxRecDepth 16384 in
theorem e_main_v46 : W V main_v46 = shapeCast _ (W V main_v45) shapeCasts_S2x32x1_S2x32 :=
  reshape_eq (i := 51) writes_eq rfl (by decide) (by decide) V
set_option maxRecDepth 16384 in
theorem e_main_v47 : W V main_v47 = extractStridedSlice S2x32x1 ![0, 0, 0] (W V main_arg2) slices_S2x32x4_S2x32x1_0_0_0 :=
  unary_eq (i := 52) writes_eq rfl (by decide) (by decide) V
set_option maxRecDepth 16384 in
theorem e_main_v48 : W V main_v48 = shapeCast _ (W V main_v47) shapeCasts_S2x32x1_S2x32 :=
  reshape_eq (i := 53) writes_eq rfl (by decide) (by decide) V
set_option maxRecDepth 16384 in
theorem e_main_v49 : W V main_v49 = subf (W V main_v46) (W V main_v48) :=
  binary_eq (i := 54) writes_eq rfl (by decide) (by decide) (by decide) V
set_option maxRecDepth 16384 in
theorem e_main_v50 : W V main_v50 = extractStridedSlice S2x32x1 ![0, 0, 3] (W V main_arg2) slices_S2x32x4_S2x32x1_0_0_3 :=
  unary_eq (i := 55) writes_eq rfl (by decide) (by decide) V
set_option maxRecDepth 16384 in
theorem e_main_v51 : W V main_v51 = shapeCast _ (W V main_v50) shapeCasts_S2x32x1_S2x32 :=
  reshape_eq (i := 56) writes_eq rfl (by decide) (by decide) V
set_option maxRecDepth 16384 in
theorem e_main_v52 : W V main_v52 = extractStridedSlice S2x32x1 ![0, 0, 1] (W V main_arg2) slices_S2x32x4_S2x32x1_0_0_1 :=
  unary_eq (i := 57) writes_eq rfl (by decide) (by decide) V
set_option maxRecDepth 16384 in
theorem e_main_v53 : W V main_v53 = shapeCast _ (W V main_v52) shapeCasts_S2x32x1_S2x32 :=
  reshape_eq (i := 58) writes_eq rfl (by decide) (by decide) V
set_option maxRecDepth 16384 in
theorem e_main_v54 : W V main_v54 = subf (W V main_v51) (W V main_v53) :=
  binary_eq (i := 59) writes_eq rfl (by decide) (by decide) (by decide) V
set_option maxRecDepth 16384 in
theorem e_main_v55 : W V main_v55 = mulf (W V main_v49) (W V main_v54) :=
  binary_eq (i := 60) writes_eq rfl (by decide) (by decide) (by decide) V
set_option maxRecDepth 16384 in
theorem e_main_v56 : W V main_v56 = broadcastInDim S1x20000x1 ![1] bcast_S20000_S1x20000x1_1 (W V main_v44) :=
  unary_eq (i := 61) writes_eq rfl (by decide) (by decide) V
set_option maxRecDepth 16384 in
theorem e_main_v57 : W V main_v57 = broadcastInDim S2x1x32 ![0, 2] bcast_S2x32_S2x1x32_0_2 (W V main_v55) :=
  unary_eq (i := 62) writes_eq rfl (by decide) (by decide) V
set_option maxRecDepth 16384 in
theorem e_main_v58 : W V main_v58 = broadcastInDim S2x20000x32 ![0, 1, 2] bcast_S1x20000x1_S2x20000x32_0_1_2 (W V main_v56) :=
  unary_eq (i := 63) writes_eq rfl (by decide) (by decide) V
set_option maxRecDepth 16384 in
theorem e_main_v59 : W V main_v59 = broadcastInDim S2x20000x32 ![0, 1, 2] bcast_S2x1x32_S2x20000x32_0_1_2 (W V main_v57) :=
  unary_eq (i := 64) writes_eq rfl (by decide) (by decide) V
set_option maxRecDepth 16384 in
theorem e_main_v60 : W V main_v60 = addf (W V main_v58) (W V main_v59) :=
  binary_eq (i := 65) writes_eq rfl (by decide) (by decide) (by decide) V
set_option maxRecDepth 16384 in
theorem e_main_v61 : W V main_v61 = subf (W V main_v60) (W V main_v33) :=
  binary_eq (i := 66) writes_eq rfl (by decide) (by decide) (by decide) V
set_option maxRecDepth 16384 in
theorem e_main_v62 : W V main_v62 = Host.divf (W V main_v33) (W V main_v61) :=
  binary_eq (i := 67) writes_eq rfl (by decide) (by decide) (by decide) V
set_option maxRecDepth 16384 in
theorem e_main_cst_2 : W V main_cst_2 = constant S_ .f32 0xFF800000#32 :=
  nullary_eq (i := 68) writes_eq rfl (by decide) V
set_option maxRecDepth 16384 in
theorem e_main_v63 : W V main_v63 = Host.reduce FloatOps.maximumf (W V main_v62) (W V main_cst_2) reducesTo_S2x20000x32_S2x20000_d2 h_S_ :=
  binary_eq (i := 69) writes_eq rfl (by decide) (by decide) (by decide) V
set_option maxRecDepth 16384 in
theorem e_main_call1_v0 : W V main_call1_v0 = iotaInDim S2x20000x32 32 2 :=
  nullary_eq (i := 70) writes_eq rfl (by decide) V
set_option maxRecDepth 16384 in
theorem e_main_call1_cst : W V main_call1_cst = constant S_ .f32 0xFF800000#32 :=
  nullary_eq (i := 71) writes_eq rfl (by decide) V
set_option maxRecDepth 16384 in
theorem e_main_call1_c : W V main_call1_c = constantI S_ 32 0#32 :=
  nullary_eq (i := 72) writes_eq rfl (by decide) V
set_option maxRecDepth 16384 in
theorem e_main_call1_v1_0 : W V main_call1_v1_0 = (fun j => (Host.argReduce reducer_argmax_f32_i32 (W V main_v62) (W V main_call1_v0) (W V main_call1_cst) (W V main_call1_c) reducesTo_S2x20000x32_S2x20000_d2 h_S_ j).1) :=
  quaternary_eq (i := 73) writes_eq rfl (by decide) (by decide) (by decide) (by decide) (by decide) V
set_option maxRecDepth 16384 in
theorem e_main_v64 : W V main_v64 = (fun j => (Host.argReduce reducer_argmax_f32_i32 (W V main_v62) (W V main_call1_v0) (W V main_call1_cst) (W V main_call1_c) reducesTo_S2x20000x32_S2x20000_d2 h_S_ j).2) :=
  quaternary_eq (i := 74) writes_eq rfl (by decide) (by decide) (by decide) (by decide) (by decide) V
set_option maxRecDepth 16384 in
theorem e_main_cst_3 : W V main_cst_3 = constant S_ .f32 0x3ECCCCCD#32 :=
  nullary_eq (i := 75) writes_eq rfl (by decide) V
set_option maxRecDepth 16384 in
theorem e_main_v65 : W V main_v65 = broadcastInDim S2x20000 ![] bcast_S_S2x20000 (W V main_cst_3) :=
  unary_eq (i := 76) writes_eq rfl (by decide) (by decide) V
set_option maxRecDepth 16384 in
theorem e_main_v66 : W V main_v66 = cmpf .olt (W V main_v63) (W V main_v65) :=
  binary_eq (i := 77) writes_eq rfl (by decide) (by decide) (by decide) V
set_option maxRecDepth 16384 in
theorem e_main_cst_4 : W V main_cst_4 = constant S_ .f32 0x3F000000#32 :=
  nullary_eq (i := 78) writes_eq rfl (by decide) V
set_option maxRecDepth 16384 in
theorem e_main_v67 : W V main_v67 = broadcastInDim S2x20000 ![] bcast_S_S2x20000 (W V main_cst_4) :=
  unary_eq (i := 79) writes_eq rfl (by decide) (by decide) V
set_option maxRecDepth 16384 in
theorem e_main_v68 : W V main_v68 = cmpf .oge (W V main_v63) (W V main_v67) :=
  binary_eq (i := 80) writes_eq rfl (by decide) (by decide) (by decide) V
set_option maxRecDepth 16384 in
theorem e_main_call2_v0 : W V main_call2_v0 = iotaInDim S2x20000x32 32 1 :=
  nullary_eq (i := 81) writes_eq rfl (by decide) V
set_option maxRecDepth 16384 in
theorem e_main_call2_cst : W V main_call2_cst = constant S_ .f32 0xFF800000#32 :=
  nullary_eq (i := 82) writes_eq rfl (by decide) V
set_option maxRecDepth 16384 in
theorem e_main_call2_c : W V main_call2_c = constantI S_ 32 0#32 :=
  nullary_eq (i := 83) writes_eq rfl (by decide) V
set_option maxRecDepth 16384 in
theorem e_main_call2_v1_0 : W V main_call2_v1_0 = (fun j => (Host.argReduce reducer_argmax_f32_i32 (W V main_v62) (W V main_call2_v0) (W V main_call2_cst) (W V main_call2_c) reducesTo_S2x20000x32_S2x32_d1 h_S_ j).1) :=
  quaternary_eq (i := 84) writes_eq rfl (by decide) (by decide) (by decide) (by decide) (by decide) V
set_option maxRecDepth 16384 in
theorem e_main_v69 : W V main_v69 = (fun j => (Host.argReduce reducer_argmax_f32_i32 (W V main_v62) (W V main_call2_v0) (W V main_call2_cst) (W V main_call2_c) reducesTo_S2x20000x32_S2x32_d1 h_S_ j).2) :=
  quaternary_eq (i := 85) writes_eq rfl (by decide) (by decide) (by decide) (by decide) (by decide) V
set_option maxRecDepth 16384 in
theorem e_main_c : W V main_c = constantI S_ 1 0#1 :=
  nullary_eq (i := 86) writes_eq rfl (by decide) V
set_option maxRecDepth 16384 in
theorem e_main_v70 : W V main_v70 = broadcastInDim S2x20000 ![] bcast_S_S2x20000 (W V main_c) :=
  unary_eq (i := 87) writes_eq rfl (by decide) (by decide) V
set_option maxRecDepth 16384 in
theorem e_main_c_5 : W V main_c_5 = constantI S_ 32 0#32 :=
  nullary_eq (i := 88) writes_eq rfl (by decide) V
set_option maxRecDepth 16384 in
theorem e_main_v71 : W V main_v71 = broadcastInDim S2x1 ![] bcast_S_S2x1 (W V main_c_5) :=
  unary_eq (i := 89) writes_eq rfl (by decide) (by decide) V
set_option maxRecDepth 16384 in
theorem e_main_v72 : W V main_v72 = cmpi .slt (W V main_v12) (W V main_v71) :=
  binary_eq (i := 90) writes_eq rfl (by decide) (by decide) (by decide) V
set_option maxRecDepth 16384 in
theorem e_main_c_6 : W V main_c_6 = constantI S_ 32 2#32 :=
  nullary_eq (i := 91) writes_eq rfl (by decide) V
set_option maxRecDepth 16384 in
theorem e_main_v73 : W V main_v73 = broadcastInDim S2x1 ![] bcast_S_S2x1 (W V main_c_6) :=
  unary_eq (i := 92) writes_eq rfl (by decide) (by decide) V
set_option maxRecDepth 16384 in
theorem e_main_v74 : W V main_v74 = addi (W V main_v12) (W V main_v73) :=
  binary_eq (i := 93) writes_eq rfl (by decide) (by decide) (by decide) V
set_option maxRecDepth 16384 in
theorem e_main_v75 : W V main_v75 = select (W V main_v72) (W V main_v74) (W V main_v12) :=
  ternary_eq (i := 94) writes_eq rfl (by decide) (by decide) (by decide) (by decide) V
set_option maxRecDepth 16384 in
theorem e_main_c_7 : W V main_c_7 = constantI S_ 32 0#32 :=
  nullary_eq (i := 95) writes_eq rfl (by decide) V
set_option maxRecDepth 16384 in
theorem e_main_v76 : W V main_v76 = broadcastInDim S2x32 ![] bcast_S_S2x32 (W V main_c_7) :=
  unary_eq (i := 96) writes_eq rfl (by decide) (by decide) V
set_option maxRecDepth 16384 in
theorem e_main_v77 : W V main_v77 = cmpi .slt (W V main_v69) (W V main_v76) :=
  binary_eq (i := 97) writes_eq rfl (by decide) (by decide) (by decide) V
set_option maxRecDepth 16384 in
theorem e_main_c_8 : W V main_c_8 = constantI S_ 32 20000#32 :=
  nullary_eq (i := 98) writes_eq rfl (by decide) V
set_option maxRecDepth 16384 in
theorem e_main_v78 : W V main_v78 = broadcastInDim S2x32 ![] bcast_S_S2x32 (W V main_c_8) :=
  unary_eq (i := 99) writes_eq rfl (by decide) (by decide) V

end Cert.RefEqs

end
-- ==== Proof.Ref.Index.lean ====
/- The reference's index operations read at an index: first-largest reductions, a scatter that sets bits, and gathers under an index pair. -/
module

public import proofs.«01_k».proof.Proof.Spec
public import proofs.«01_k».proof.Proof.Gen.ReferenceIdeal
public import Idealize.ShloMosaic.Lib.Pointwise
public import Idealize.ShloMosaic.Lib.Routing.OpsPair
public import Idealize.ShloMosaic.Lib.IndicatorCount

@[expose] public section

noncomputable section

namespace Cert.RefIndex

open Idealize.ShloMosaic
open Cert.ReferenceIdeal Cert.ReferenceIdeal.Gen

/-! ## The first largest as a reduction of pairs -/

/-- One step of the reduction at words that name small numbers: the larger value stays, and at a tie the smaller place. -/
theorem step_eq (u v : EReal) {m n : ℕ} (hm : m < 2 ^ 31) (hn : n < 2 ^ 31) :
    reducer_argmax_f32_i32 (F := Ideal) (u, BitVec.ofNat 32 m) (v, BitVec.ofNat 32 n)
      = if v < u then (u, BitVec.ofNat 32 m) else if u = v then (v, BitVec.ofNat 32 (min m n)) else (v, BitVec.ofNat 32 n) := by
  have e : ∀ {k : ℕ}, k < 2 ^ 31 → (BitVec.ofNat 32 k).toInt = k := fun {k} h => by
    rw [BitVec.toInt_eq_toNat_of_lt (by rw [BitVec.toNat_ofNat]; omega), BitVec.toNat_ofNat]; omega
  have e2 : FloatOps.cmpf (F := Ideal) (φ := .f32) .ogt u v = BitVec.ofBool (decide (v < u)) := rfl
  have e3 : FloatOps.cmpf (F := Ideal) (φ := .f32) .une u u = BitVec.ofBool (decide (u ≠ u)) := rfl
  have e5 : FloatOps.cmpf (F := Ideal) (φ := .f32) .oeq u v = BitVec.ofBool (decide (u = v)) := rfl
  have e6 : IntOp.cmpi .slt (BitVec.ofNat 32 m) (BitVec.ofNat 32 n) = BitVec.ofBool (decide (m < n)) := by
    show BitVec.ofBool (BitVec.slt _ _) = _
    simp only [BitVec.slt, e hm, e hn, Nat.cast_lt]
  unfold reducer_argmax_f32_i32
  simp only [e2, e3, e5, e6]
  by_cases h : v < u
  · have h' : u ≠ v := h.ne'
    simp [h, h', Scalar.select, IntOp.ori, IntOp.andi]
  · by_cases h' : u = v
    · subst h'
      rcases lt_or_ge m n with hl | hl
      · simp [hl, min_eq_left hl.le, Scalar.select, IntOp.ori, IntOp.andi]
      · simp [not_lt.mpr hl, min_eq_right hl, Scalar.select, IntOp.ori, IntOp.andi]
    · simp [h, h', Scalar.select, IntOp.ori, IntOp.andi]

theorem fold_step {ι : Type} (f : ι → EReal) (g : ι → ℕ) (hg : ∀ i, g i < 2 ^ 31) (L : List ι) :
    ∀ (v : EReal) (m : ℕ), m < 2 ^ 31 → ∃ (v' : EReal) (m' : ℕ),
      L.foldl (fun r i => reducer_argmax_f32_i32 (F := Ideal) r (f i, BitVec.ofNat 32 (g i))) (v, BitVec.ofNat 32 m) = (v', BitVec.ofNat 32 m')
      ∧ ((v' = v ∧ m' = m) ∨ ∃ i ∈ L, v' = f i ∧ m' = g i) ∧ (v < v' ∨ v = v' ∧ m' ≤ m)
      ∧ ∀ i ∈ L, f i < v' ∨ f i = v' ∧ m' ≤ g i := by
  induction L with
  | nil => intro v m hm; exact ⟨v, m, rfl, Or.inl ⟨rfl, rfl⟩, Or.inr ⟨rfl, le_rfl⟩, fun i hi => by simp at hi⟩
  | cons i L ih =>
    intro v m hm
    rw [List.foldl_cons, step_eq v (f i) hm (hg i)]
    by_cases h : f i < v
    · rw [if_pos h]
      obtain ⟨v', m', e, h1, h2, h3⟩ := ih v m hm
      refine ⟨v', m', e, ?_, h2, ?_⟩
      · rcases h1 with h1 | ⟨j, hj, h1⟩
        · exact Or.inl h1
        · exact Or.inr ⟨j, List.mem_cons_of_mem _ hj, h1⟩
      · intro j hj
        rcases List.mem_cons.mp hj with rfl | hj
        · rcases h2 with h2 | h2
          · exact Or.inl (h.trans h2)
          · exact Or.inl (h2.1 ▸ h)
        · exact h3 j hj
    · rw [if_neg h]
      by_cases h' : v = f i
      · rw [if_pos h']
        obtain ⟨v', m', e, h1, h2, h3⟩ := ih (f i) (min m (g i)) (lt_of_le_of_lt (min_le_left _ _) hm)
        refine ⟨v', m', e, ?_, ?_, ?_⟩
        · rcases h1 with h1 | ⟨j, hj, h1⟩
          · rcases le_total m (g i) with hl | hl
            · exact Or.inl ⟨h1.1.trans h'.symm, h1.2.trans (min_eq_left hl)⟩
            · exact Or.inr ⟨i, List.mem_cons_self, h1.1, h1.2.trans (min_eq_right hl)⟩
          · exact Or.inr ⟨j, List.mem_cons_of_mem _ hj, h1⟩
        · rcases h2 with h2 | h2
          · exact Or.inl (h' ▸ h2)
          · exact Or.inr ⟨h'.trans h2.1, h2.2.trans (min_le_left _ _)⟩
        · intro j hj
          rcases List.mem_cons.mp hj with rfl | hj
          · rcases h2 with h2 | h2
            · exact Or.inl h2
            · exact Or.inr ⟨h2.1, h2.2.trans (min_le_right _ _)⟩
          · exact h3 j hj
      · rw [if_neg h']
        have hlt : v < f i := lt_of_le_of_ne (not_lt.mp h) h'
        obtain ⟨v', m', e, h1, h2, h3⟩ := ih (f i) (g i) (hg i)
        refine ⟨v', m', e, ?_, ?_, ?_⟩
        · rcases h1 with h1 | ⟨j, hj, h1⟩
          · exact Or.inr ⟨i, List.mem_cons_self, h1⟩
          · exact Or.inr ⟨j, List.mem_cons_of_mem _ hj, h1⟩
        · rcases h2 with h2 | h2
          · exact Or.inl (hlt.trans h2)
          · exact Or.inl (h2.1 ▸ hlt)
        · intro j hj
          rcases List.mem_cons.mp hj with rfl | hj
          · rcases h2 with h2 | h2
            · exact Or.inl h2
            · exact Or.inr h2
          · exact h3 j hj

/-- The reduction from (−∞, 0) over a line of places holds the first place of the largest value. -/
theorem fold_first {ι : Type} {k : ℕ} [NeZero k] (hk : k ≤ 2 ^ 31) (L : List ι) (f : ι → EReal) (g : ι → ℕ) (w : Fin k → EReal)
    (hg : ∀ i, g i < 2 ^ 31) (hL : ∀ i ∈ L, ∃ a : Fin k, f i = w a ∧ g i = a) (hL' : ∀ a : Fin k, ∃ i ∈ L, f i = w a ∧ g i = a) :
    (L.foldl (fun r i => reducer_argmax_f32_i32 (F := Ideal) r (f i, BitVec.ofNat 32 (g i))) (⊥, 0#32)).2
      = BitVec.ofNat 32 (Spec.first w) := by
  obtain ⟨v, m, e, h1, h2, h3⟩ := fold_step f g hg L ⊥ 0 (by norm_num)
  rw [show (0#32 : BitVec 32) = BitVec.ofNat 32 0 from rfl, e]
  have hw : ∀ a : Fin k, w a < v ∨ w a = v ∧ m ≤ a := fun a => by
    obtain ⟨i, hi, e1, e2⟩ := hL' a
    have := h3 i hi
    rwa [e1, e2] at this
  have key : ∀ a : Fin k, w a = v → m = a → Spec.first w = a := fun a ha hm => by
    refine Spec.first_unique w (fun b => ?_) fun b hb => ?_
    · rw [ha]; rcases hw b with h | h
      · exact h.le
      · exact h.1.le
    · rw [ha]; rcases hw b with h | h
      · exact h
      · exact absurd h.2 (by have : (b : ℕ) < a := hb; omega)
  show BitVec.ofNat 32 m = _
  congr 1
  rcases h1 with ⟨rfl, rfl⟩ | ⟨i, hi, e1, e2⟩
  · have h0 : w 0 = ⊥ := by
      rcases hw 0 with h | h
      · exact absurd h not_lt_bot
      · exact h.1
    rw [key 0 h0 (by simp)]; simp
  · obtain ⟨a, ha, ha'⟩ := hL i hi
    rw [key a (ha ▸ e1.symm) (e2.trans ha')]
    exact e2.trans ha'

theorem drop_box (i : Fin 2) (n : Fin 20000) (j : Fin 32) : reducesTo_S2x20000x32_S2x20000_d2.drop (ix3 i n j) = ix2 i n := by
  funext b
  refine Fin.ext ?_
  match b with
  | ⟨0, _⟩ => rfl
  | ⟨1, _⟩ => rfl

theorem drop_anchor (i : Fin 2) (n : Fin 20000) (j : Fin 32) : reducesTo_S2x20000x32_S2x32_d1.drop (ix3 i n j) = ix2 i j := by
  funext b
  refine Fin.ext ?_
  match b with
  | ⟨0, _⟩ => rfl
  | ⟨1, _⟩ => rfl

theorem ix2_inj {R C : ℕ} {a a' : Fin R} {b b' : Fin C} (h : (ix2 a b : (⟨2, ![R, C]⟩ : Shape).Idx) = ix2 a' b') : a = a' ∧ b = b' :=
  ⟨congrFun h 0, congrFun h 1⟩

theorem fold_sup {ι : Type} (S : Finset ι) (f : ι → EReal) : S.fold max ⊥ f = S.sup f := rfl

/-- The maximum over an anchor's boxes. -/
theorem max_box (I : FVec Ideal S2x20000x32 .f32) (i : Fin 2) (n : Fin 20000) :
    (Finset.univ.filter fun z => reducesTo_S2x20000x32_S2x20000_d2.drop z = ix2 i n).fold max ⊥ I = Finset.univ.sup fun j : Fin 32 => I (ix3 i n j) := by
  rw [fold_sup]
  refine le_antisymm (Finset.sup_le fun z hz => ?_) (Finset.sup_le fun j _ => ?_)
  · obtain ⟨i', n', j', rfl⟩ : ∃ (i : Fin 2) (n : Fin 20000) (j : Fin 32), z = ix3 i n j := ⟨z 0, z 1, z 2, eq_ix3 z⟩
    have hd := (Finset.mem_filter.mp hz).2
    rw [drop_box] at hd
    obtain ⟨rfl, rfl⟩ := ix2_inj hd
    exact Finset.le_sup (f := fun j : Fin 32 => I (ix3 i' n' j)) (Finset.mem_univ j')
  · exact Finset.le_sup (f := I) (Finset.mem_filter.mpr ⟨Finset.mem_univ _, drop_box i n j⟩)

/-- The first box of an anchor's largest value. -/
theorem argmax_box (x : FVec Ideal S2x20000x32 .f32) (y : IVec S2x20000x32 32) (ix : FVec Ideal S_ .f32) (iy : IVec S_ 32)
    (hx : ix (Shape.Idx.first h_S_) = ⊥) (hy : iy (Shape.Idx.first h_S_) = 0#32)
    (hc : ∀ i n j, y (ix3 i n j) = BitVec.ofNat 32 (j : Fin 32)) (i : Fin 2) (n : Fin 20000) :
    (Host.argReduce reducer_argmax_f32_i32 x y ix iy reducesTo_S2x20000x32_S2x20000_d2 h_S_ (ix2 i n)).2
      = BitVec.ofNat 32 (Spec.first fun j : Fin 32 => x (ix3 i n j)) := by
  rw [Ideal.argReduce_eq_reduce2, Host.reduce2_eq_foldl_fiber, Host.argReduceFiber, List.foldl_map, hx, hy]
  have hz : ∀ z : S2x20000x32.Idx, ∃ (i : Fin 2) (n : Fin 20000) (j : Fin 32), z = ix3 i n j := fun z => ⟨z 0, z 1, z 2, eq_ix3 z⟩
  have e : ∀ z : S2x20000x32.Idx, y z = BitVec.ofNat 32 (z 2 : Fin 32) := fun z => by
    obtain ⟨i, n, j, rfl⟩ := hz z; exact hc i n j
  simp only [e]
  refine fold_first (by norm_num) _ (fun q => x (S2x20000x32.rowMajor.symm q)) (fun q => ((S2x20000x32.rowMajor.symm q 2 : Fin 32) : ℕ)) _
    (fun q => lt_trans (S2x20000x32.rowMajor.symm q 2 : Fin 32).isLt (show 32 < 2 ^ 31 by norm_num)) (fun q hq => ?_) fun j => ?_
  · have hd := of_decide_eq_true (List.mem_filter.mp hq).2
    obtain ⟨i', n', j', h⟩ := hz (S2x20000x32.rowMajor.symm q)
    rw [h, drop_box] at hd
    obtain ⟨rfl, rfl⟩ := ix2_inj hd
    exact ⟨j', by rw [h], by rw [h]; rfl⟩
  · refine ⟨S2x20000x32.rowMajor (ix3 i n j), List.mem_filter.mpr ⟨List.mem_finRange _, decide_eq_true ?_⟩, ?_, ?_⟩
    · rw [Equiv.symm_apply_apply, drop_box]
    · rw [Equiv.symm_apply_apply]
    · rw [Equiv.symm_apply_apply]; rfl

/-- The first anchor of a box's largest value. -/
theorem argmax_anchor (x : FVec Ideal S2x20000x32 .f32) (y : IVec S2x20000x32 32) (ix : FVec Ideal S_ .f32) (iy : IVec S_ 32)
    (hx : ix (Shape.Idx.first h_S_) = ⊥) (hy : iy (Shape.Idx.first h_S_) = 0#32)
    (hc : ∀ i n j, y (ix3 i n j) = BitVec.ofNat 32 (n : Fin 20000)) (i : Fin 2) (j : Fin 32) :
    (Host.argReduce reducer_argmax_f32_i32 x y ix iy reducesTo_S2x20000x32_S2x32_d1 h_S_ (ix2 i j)).2
      = BitVec.ofNat 32 (Spec.first fun n : Fin 20000 => x (ix3 i n j)) := by
  rw [Ideal.argReduce_eq_reduce2, Host.reduce2_eq_foldl_fiber, Host.argReduceFiber, List.foldl_map, hx, hy]
  have hz : ∀ z : S2x20000x32.Idx, ∃ (i : Fin 2) (n : Fin 20000) (j : Fin 32), z = ix3 i n j := fun z => ⟨z 0, z 1, z 2, eq_ix3 z⟩
  have e : ∀ z : S2x20000x32.Idx, y z = BitVec.ofNat 32 (z 1 : Fin 20000) := fun z => by
    obtain ⟨i, n, j, rfl⟩ := hz z; exact hc i n j
  simp only [e]
  refine fold_first (by norm_num) _ (fun q => x (S2x20000x32.rowMajor.symm q)) (fun q => ((S2x20000x32.rowMajor.symm q 1 : Fin 20000) : ℕ)) _
    (fun q => lt_trans (S2x20000x32.rowMajor.symm q 1 : Fin 20000).isLt (show 20000 < 2 ^ 31 by norm_num)) (fun q hq => ?_) fun n => ?_
  · have hd := of_decide_eq_true (List.mem_filter.mp hq).2
    obtain ⟨i', n', j', h⟩ := hz (S2x20000x32.rowMajor.symm q)
    rw [h, drop_anchor] at hd
    obtain ⟨rfl, rfl⟩ := ix2_inj hd
    exact ⟨n', by rw [h], by rw [h]; rfl⟩
  · refine ⟨S2x20000x32.rowMajor (ix3 i n j), List.mem_filter.mpr ⟨List.mem_finRange _, decide_eq_true ?_⟩, ?_, ?_⟩
    · rw [Equiv.symm_apply_apply, drop_anchor]
    · rw [Equiv.symm_apply_apply]
    · rw [Equiv.symm_apply_apply]; rfl

/-! ## The scatter -/

theorem toInt_ofNat {k : ℕ} (h : k < 2 ^ 31) : (BitVec.ofNat 32 k).toInt = k := by
  rw [BitVec.toInt_eq_toNat_of_lt (by rw [BitVec.toNat_ofNat]; omega), BitVec.toNat_ofNat]; omega

theorem fold_set {ι : Type} (P : ι → Prop) [DecidablePred P] (L : List ι) : ∀ z : BitVec 1, (∃ i ∈ L, P i) ∨ z = 1#1 →
    L.foldl (fun r i => if P i then 1#1 else r) z = 1#1 := by
  induction L with
  | nil => intro z h; simpa using h
  | cons i L ih =>
    intro z h
    rw [List.foldl_cons]
    refine ih _ ?_
    by_cases hp : P i
    · exact Or.inr (if_pos hp)
    · rw [if_neg hp]
      rcases h with ⟨j, hj, h⟩ | h
      · rcases List.mem_cons.mp hj with rfl | hj
        · exact absurd h hp
        · exact Or.inl ⟨j, hj, h⟩
      · exact Or.inr h

theorem fold_unset {ι : Type} (P : ι → Prop) [DecidablePred P] (L : List ι) (h : ∀ i ∈ L, ¬ P i) :
    L.foldl (fun r i => if P i then 1#1 else r) 0#1 = 0#1 := by
  induction L with
  | nil => rfl
  | cons i L ih =>
    rw [List.foldl_cons, if_neg (h i List.mem_cons_self)]
    exact ih fun j hj => h j (List.mem_cons_of_mem _ hj)

/-- The bits set at the named places, in a field of zeros. -/
theorem scatter_read (x : IVec S2x20000 1) (idx : IVec S2x32x2 32) (upd : IVec S2x32 1) (g : Fin 2 → Fin 32 → Fin 20000)
    (hx : ∀ z, x z = 0#1) (hu : ∀ z, upd z = 1#1) (h0 : ∀ i j, idx (ix3 i j 0) = BitVec.ofNat 32 (i : Fin 2))
    (h1 : ∀ i j, idx (ix3 i j 1) = BitVec.ofNat 32 (g i j)) (i : Fin 2) (n : Fin 20000) :
    ((∃ j, g i j = n) → Host.scatter scatter_S2x20000_S2x32x2_S2x32_n_01_01_2 (fun _ b => b) x idx upd (ix2 i n) = 1#1)
    ∧ ((¬ ∃ j, g i j = n) → Host.scatter scatter_S2x20000_S2x32x2_S2x32_n_01_01_2 (fun _ b => b) x idx upd (ix2 i n) = 0#1) := by
  rw [Routing.scatter_at]
  simp only [hx, hu]
  have hl : ∀ (a : Fin 2) (b : Fin 32), scatter_S2x20000_S2x32x2_S2x32_n_01_01_2.resultIdx? (ix2 a b) idx = some (ix2 i n)
      ↔ a = i ∧ g a b = n := fun a b => by
    refine (Routing.scatter_lands2 scatter_S2x20000_S2x32x2_S2x32_n_01_01_2 rfl rfl rfl idx a b i n).trans ?_
    show (idx (ix3 a b 0)).toInt = _ ∧ (idx (ix3 a b 1)).toInt = _ ↔ _
    rw [h0, h1, toInt_ofNat (lt_trans a.isLt (by norm_num)), toInt_ofNat (lt_trans (g a b).isLt (by norm_num)), Fin.ext_iff, Fin.ext_iff]
    norm_cast
  constructor
  · rintro ⟨j, hj⟩
    refine fold_set _ _ _ (Or.inl ⟨S2x32.rowMajor (ix2 i j), List.mem_finRange _, ?_⟩)
    rw [Equiv.symm_apply_apply]
    exact (hl i j).mpr ⟨rfl, hj⟩
  · intro h
    refine fold_unset _ _ fun q _ hq => h ?_
    obtain ⟨a, b, e⟩ : ∃ (a : Fin 2) (b : Fin 32), S2x32.rowMajor.symm q = ix2 a b := ⟨_, _, eq_ix2 _⟩
    rw [e, hl a b] at hq
    obtain ⟨rfl, hq⟩ := hq
    exact ⟨b, hq⟩

/-! ## Sums and counts -/

theorem drop_row (i : Fin 2) (n : Fin 20000) : reducesTo_S2x20000_S2_d1.drop (ix2 i n) = ix1 i := by
  funext b
  refine Fin.ext ?_
  match b with
  | ⟨0, _⟩ => rfl

/-- The integer count of an image's bits is zero exactly when no bit is set. -/
theorem count_zero (b : IVec S2x20000 1) (z : IVec S_ 32) (hz : z (Shape.Idx.first h_S_) = 0#32) (i : Fin 2) :
    Host.reduce IntOp.addi (extui 32 b natLt_1_32) z reducesTo_S2x20000_S2_d1 h_S_ (ix1 i) = 0#32 ↔ ¬ ∃ n, b (ix2 i n) = 1#1 := by
  rw [Host.reduce_eq_fold, hz]
  refine (Eq.congr_left (IndicatorCount.fold_addi_setWidth_eq_card b _)).trans ?_
  have hc : ((Finset.univ.filter fun z => reducesTo_S2x20000_S2_d1.drop z = ix1 i).filter fun z => b z = 1#1).card < 2 ^ 32 := by
    refine lt_of_le_of_lt (Finset.card_le_univ _) ?_
    rw [Fintype.card_eq_sum_ones, sum_idx2]
    simp
  have hn : ∀ k : ℕ, k < 2 ^ 32 → (BitVec.ofNat 32 k = 0#32 ↔ k = 0) := fun k hk => by
    constructor
    · intro h
      have := congrArg BitVec.toNat h
      rw [BitVec.toNat_ofNat, Nat.mod_eq_of_lt hk] at this
      simpa using this
    · rintro rfl; rfl
  rw [hn _ hc, Finset.card_eq_zero, Finset.filter_eq_empty_iff]
  constructor
  · rintro h ⟨n, hn⟩
    exact h (Finset.mem_filter.mpr ⟨Finset.mem_univ _, drop_row i n⟩) hn
  · intro h z hz' hb
    obtain ⟨i', n', rfl⟩ : ∃ (i : Fin 2) (n : Fin 20000), z = ix2 i n := ⟨z 0, z 1, eq_ix2 z⟩
    have hd := (Finset.mem_filter.mp hz').2
    rw [drop_row] at hd
    obtain rfl : i' = i := congrFun hd 0
    exact h ⟨n', hb⟩

/-- The integer count of all bits, as a number. -/
theorem count_all (b : IVec S2x20000 1) (z : IVec S_ 32) (hz : z (Shape.Idx.first h_S_) = 0#32) (o : S_.Idx) :
    (((Host.reduce IntOp.addi (extui 32 b natLt_1_32) z reducesTo_S2x20000_S_d0_1 h_S_ o).toInt : ℝ) : EReal)
      = ∑ i : Fin 2, ∑ n : Fin 20000, if b (ix2 i n) = 1#1 then (1 : EReal) else 0 := by
  rw [Host.reduce_eq_fold, hz]
  have hu : (Finset.univ.filter fun z => reducesTo_S2x20000_S_d0_1.drop z = o) = Finset.univ :=
    Finset.filter_true_of_mem fun z _ => funext fun k => k.elim0
  rw [hu]
  have e : (Finset.univ : Finset S2x20000.Idx).fold IntOp.addi 0#32 (extui 32 b natLt_1_32)
      = BitVec.ofNat 32 (Finset.univ.filter fun z => b z = 1#1).card := IndicatorCount.fold_addi_setWidth_eq_card b _
  rw [e]
  have hc : (Finset.univ.filter fun z => b z = 1#1).card < 2 ^ 31 := by
    refine lt_of_le_of_lt (Finset.card_le_univ _) ?_
    rw [Fintype.card_eq_sum_ones, sum_idx2]
    simp
  rw [toInt_ofNat hc, Int.cast_natCast, Finset.card_filter, sum_idx2]
  push_cast
  rw [Spec.coe_sum]
  refine Finset.sum_congr rfl fun i _ => ?_
  rw [Spec.coe_sum]
  refine Finset.sum_congr rfl fun n _ => ?_
  split_ifs <;> simp

/-! ## The gathers -/

theorem gather_box (x : IVec S2x32 32) (idx : IVec S2x20000x2 32) (i : Fin 2) (n : Fin 20000) (g : Fin 32)
    (h0 : idx (ix3 i n 0) = BitVec.ofNat 32 (i : Fin 2)) (h1 : idx (ix3 i n 1) = BitVec.ofNat 32 g) :
    Host.gather gather_S2x32_S2x20000x2_S2x20000_n_01_n_n_01_2_11 x idx (ix2 i n) = x (ix2 i g) := by
  unfold Host.gather
  congr 1
  funext a
  refine Fin.ext ?_
  show GatherDims.start _ _ idx a + GatherDims.batchCoord _ _ a + GatherDims.offCoord _ _ a = _
  have ha : a = 0 ∨ a = 1 := by
    match a with
    | ⟨0, _⟩ => exact Or.inl rfl
    | ⟨1, _⟩ => exact Or.inr rfl
  rcases ha with rfl | rfl
  · rw [GatherDims.batchCoord_eq_zero _ _ _ List.not_mem_nil, GatherDims.offCoord_eq_zero _ _ _ (fun h => ((GatherDims.mem_sKept _ _).mp h).1 (by decide))]
    simp only [Nat.add_zero]
    unfold GatherDims.start
    rw [dif_pos (show (0 : Fin 2) ∈ gather_S2x32_S2x20000x2_S2x20000_n_01_n_n_01_2_11.startIndexMap by decide)]
    have hs : GatherDims.siIdx gather_S2x32_S2x20000x2_S2x20000_n_01_n_n_01_2_11 (ix2 i n) ⟨List.idxOf (0 : Fin 2) gather_S2x32_S2x20000x2_S2x20000_n_01_n_n_01_2_11.startIndexMap,
        List.idxOf_lt_length_iff.2 (by decide)⟩ = ix3 i n 0 := by
      funext b; refine Fin.ext ?_
      match b with
      | ⟨0, _⟩ => rfl
      | ⟨1, _⟩ => rfl
      | ⟨2, _⟩ => rfl
    rw [hs, h0, toInt_ofNat (lt_trans i.isLt (by norm_num))]
    show min (i : ℕ) 1 = i
    have := i.isLt; omega
  · rw [GatherDims.batchCoord_eq_zero _ _ _ List.not_mem_nil, GatherDims.offCoord_eq_zero _ _ _ (fun h => ((GatherDims.mem_sKept _ _).mp h).1 (by decide))]
    simp only [Nat.add_zero]
    unfold GatherDims.start
    rw [dif_pos (show (1 : Fin 2) ∈ gather_S2x32_S2x20000x2_S2x20000_n_01_n_n_01_2_11.startIndexMap by decide)]
    have hs : GatherDims.siIdx gather_S2x32_S2x20000x2_S2x20000_n_01_n_n_01_2_11 (ix2 i n) ⟨List.idxOf (1 : Fin 2) gather_S2x32_S2x20000x2_S2x20000_n_01_n_n_01_2_11.startIndexMap,
        List.idxOf_lt_length_iff.2 (by decide)⟩ = ix3 i n 1 := by
      funext b; refine Fin.ext ?_
      match b with
      | ⟨0, _⟩ => rfl
      | ⟨1, _⟩ => rfl
      | ⟨2, _⟩ => rfl
    rw [hs, h1, toInt_ofNat (lt_trans g.isLt (by norm_num))]
    show min (g : ℕ) 31 = g
    have := g.isLt; omega

theorem gather_corner (x : FVec Ideal S2x32x4 .f32) (idx : IVec S2x20000x2 32) (i : Fin 2) (n : Fin 20000) (k : Fin 4) (g : Fin 32)
    (h0 : idx (ix3 i n 0) = BitVec.ofNat 32 (i : Fin 2)) (h1 : idx (ix3 i n 1) = BitVec.ofNat 32 g) :
    Host.gather gather_S2x32x4_S2x20000x2_S2x20000x4_2_01_n_n_01_2_114 x idx (ix3 i n k) = x (ix3 i g k) := by
  unfold Host.gather
  congr 1
  funext a
  refine Fin.ext ?_
  show GatherDims.start _ _ idx a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.batchCoord_eq_zero _ _ _ List.not_mem_nil, GatherDims.offCoord_eq_zero _ _ _ (fun h => ((GatherDims.mem_sKept _ _).mp h).1 (by decide))]
    simp only [Nat.add_zero]
    unfold GatherDims.start
    rw [dif_pos (show (0 : Fin 3) ∈ gather_S2x32x4_S2x20000x2_S2x20000x4_2_01_n_n_01_2_114.startIndexMap by decide)]
    have hs : GatherDims.siIdx gather_S2x32x4_S2x20000x2_S2x20000x4_2_01_n_n_01_2_114 (ix3 i n k) ⟨List.idxOf (0 : Fin 3) gather_S2x32x4_S2x20000x2_S2x20000x4_2_01_n_n_01_2_114.startIndexMap,
        List.idxOf_lt_length_iff.2 (by decide)⟩ = ix3 i n 0 := by
      funext b; refine Fin.ext ?_
      match b with
      | ⟨0, _⟩ => rfl
      | ⟨1, _⟩ => rfl
      | ⟨2, _⟩ => rfl
    rw [hs, h0, toInt_ofNat (lt_trans i.isLt (by norm_num))]
    show min (i : ℕ) 1 = i
    have := i.isLt; omega
  · rw [GatherDims.batchCoord_eq_zero _ _ _ List.not_mem_nil, GatherDims.offCoord_eq_zero _ _ _ (fun h => ((GatherDims.mem_sKept _ _).mp h).1 (by decide))]
    simp only [Nat.add_zero]
    unfold GatherDims.start
    rw [dif_pos (show (1 : Fin 3) ∈ gather_S2x32x4_S2x20000x2_S2x20000x4_2_01_n_n_01_2_114.startIndexMap by decide)]
    have hs : GatherDims.siIdx gather_S2x32x4_S2x20000x2_S2x20000x4_2_01_n_n_01_2_114 (ix3 i n k) ⟨List.idxOf (1 : Fin 3) gather_S2x32x4_S2x20000x2_S2x20000x4_2_01_n_n_01_2_114.startIndexMap,
        List.idxOf_lt_length_iff.2 (by decide)⟩ = ix3 i n 1 := by
      funext b; refine Fin.ext ?_
      match b with
      | ⟨0, _⟩ => rfl
      | ⟨1, _⟩ => rfl
      | ⟨2, _⟩ => rfl
    rw [hs, h1, toInt_ofNat (lt_trans g.isLt (by norm_num))]
    show min (g : ℕ) 31 = g
    have := g.isLt; omega
  · have e : GatherDims.start gather_S2x32x4_S2x20000x2_S2x20000x4_2_01_n_n_01_2_114 (ix3 i n k) idx 2 = 0 := by
      unfold GatherDims.start
      rw [dif_neg (show (2 : Fin 3) ∉ gather_S2x32x4_S2x20000x2_S2x20000x4_2_01_n_n_01_2_114.startIndexMap by decide)]
    rw [e, GatherDims.batchCoord_eq_zero _ _ _ List.not_mem_nil]
    simp only [Nat.add_zero, Nat.zero_add]
    rfl

end Cert.RefIndex

end
-- ==== Proof.Ref.Stage1.lean ====
/- The reference's overlaps, their maxima and their first maxima are the plain mathematics of each image. -/
module

public import proofs.«01_k».proof.Proof.Ref.Eqs0
public import proofs.«01_k».proof.Proof.Ref.Index

@[expose] public section

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.Pointwise
open Cert.RefEqs

/-- The anchors and an image's boxes as families of numbers. -/
def anc (A : FVec Ideal S20000x4 .f32) (n : Fin 20000) (k : Fin 4) : EReal := A (ix2 n k)
def box (B : FVec Ideal S2x32x4 .f32) (i : Fin 2) (j : Fin 32) (k : Fin 4) : EReal := B (ix3 i j k)

theorem div_two (x : EReal) : Ideal.div x ((2 : ℝ) : EReal) = x * Spec.half := by
  have h : ((2 : ℝ) : EReal) ≠ 0 := by norm_num
  unfold Ideal.div Spec.half
  rw [if_neg h, ← EReal.coe_inv]
  norm_num

variable (V : Valuation τ sig (Elt Ideal)) {A : FVec Ideal S20000x4 .f32} {B : FVec Ideal S2x32x4 .f32}

theorem corners (hA : (W V main_arg4 : FVec Ideal S20000x4 .f32) = A) (n : Fin 20000) :
    (W V main_v10 : FVec Ideal S20000x4 .f32) (ix2 n 0) = Spec.ax1 (anc A) n ∧ (W V main_v10 : FVec Ideal S20000x4 .f32) (ix2 n 1) = Spec.ay1 (anc A) n
    ∧ (W V main_v10 : FVec Ideal S20000x4 .f32) (ix2 n 2) = Spec.ax2 (anc A) n ∧ (W V main_v10 : FVec Ideal S20000x4 .f32) (ix2 n 3) = Spec.ay2 (anc A) n := by
  rw [e_main_v10, e_main_v4, e_main_v9, e_main_v3, e_main_v8, e_main_v0, e_main_v5, e_main_v1, e_main_v6, e_main_v2, e_main_v7, e_main_cst, e_main_cst_0, hA]
  refine ⟨?_, ?_, ?_, ?_⟩ <;>
  · pointwise [Spec.ax1, Spec.ay1, Spec.ax2, Spec.ay2, anc]
    rw [Spec.ofBits_two, div_two]

theorem inter_eq (hA : (W V main_arg4 : FVec Ideal S20000x4 .f32) = A) (hB : (W V main_arg2 : FVec Ideal S2x32x4 .f32) = B) (i : Fin 2) (n : Fin 20000) (j : Fin 32) :
    (W V main_v33 : FVec Ideal S2x20000x32 .f32) (ix3 i n j) = Spec.inter (anc A) (box B i) n j := by
  obtain ⟨h0, h1, h2, h3⟩ := corners V hA n
  rw [e_main_v33, e_main_v32, e_main_v31, e_main_v30, e_main_v29, e_main_v28, e_main_call0_v1, e_main_call0_v0, e_main_cst_1, e_main_v27, e_main_v26, e_main_v25, e_main_v24,
    e_main_v23, e_main_v22, e_main_v21, e_main_v20, e_main_v19, e_main_v18, e_main_v17, e_main_v16, e_main_v15, e_main_v14, e_main_v13, hB]
  obtain ⟨C, eC⟩ : ∃ C : FVec Ideal S20000x4 .f32, (W V main_v10 : FVec Ideal S20000x4 .f32) = C := ⟨_, rfl⟩
  rw [eC] at h0 h1 h2 h3 ⊢
  unfold Spec.inter box
  rw [← h0, ← h1, ← h2, ← h3]
  simp only [id_eq]
  pointwise []
  rw [max_comm 0, max_comm 0]

theorem iou_eq (hA : (W V main_arg4 : FVec Ideal S20000x4 .f32) = A) (hB : (W V main_arg2 : FVec Ideal S2x32x4 .f32) = B) (i : Fin 2) (n : Fin 20000) (j : Fin 32) :
    (W V main_v62 : FVec Ideal S2x20000x32 .f32) (ix3 i n j) = Spec.iou (anc A) (box B i) n j := by
  obtain ⟨h0, h1, h2, h3⟩ := corners V hA n
  have hI := inter_eq V hA hB i n j
  rw [e_main_v62, e_main_v61, e_main_v60, e_main_v59, e_main_v58, e_main_v57, e_main_v56, e_main_v55, e_main_v54, e_main_v53, e_main_v52, e_main_v51, e_main_v50,
    e_main_v49, e_main_v48, e_main_v47, e_main_v46, e_main_v45, e_main_v44, e_main_v43, e_main_v42, e_main_v41, e_main_v40, e_main_v39, e_main_v38, e_main_v37,
    e_main_v36, e_main_v35, e_main_v34, hB]
  obtain ⟨C, eC⟩ : ∃ C : FVec Ideal S20000x4 .f32, (W V main_v10 : FVec Ideal S20000x4 .f32) = C := ⟨_, rfl⟩
  rw [eC] at h0 h1 h2 h3 ⊢
  obtain ⟨I, eI⟩ : ∃ I : FVec Ideal S2x20000x32 .f32, (W V main_v33 : FVec Ideal S2x20000x32 .f32) = I := ⟨_, rfl⟩
  rw [eI] at hI ⊢
  unfold Spec.iou
  rw [← hI]
  unfold box
  rw [← h0, ← h1, ← h2, ← h3]
  pointwise []

theorem rmax_eq (hA : (W V main_arg4 : FVec Ideal S20000x4 .f32) = A) (hB : (W V main_arg2 : FVec Ideal S2x32x4 .f32) = B) (i : Fin 2) (n : Fin 20000) :
    (W V main_v63 : FVec Ideal S2x20000 .f32) (ix2 i n) = Spec.rmax (anc A) (box B i) n := by
  have hI := iou_eq V hA hB i n
  rw [e_main_v63, e_main_cst_2]
  obtain ⟨I, eI⟩ : ∃ I : FVec Ideal S2x20000x32 .f32, (W V main_v62 : FVec Ideal S2x20000x32 .f32) = I := ⟨_, rfl⟩
  simp only [eI] at hI ⊢
  unfold Spec.rmax
  simp only [← hI]
  pointwise []
  rw [Spec.ofBits_negInf]
  exact RefIndex.max_box I i n

theorem rarg_eq (hA : (W V main_arg4 : FVec Ideal S20000x4 .f32) = A) (hB : (W V main_arg2 : FVec Ideal S2x32x4 .f32) = B) (i : Fin 2) (n : Fin 20000) :
    (W V main_v64 : IVec S2x20000 32) (ix2 i n) = BitVec.ofNat 32 (Spec.rarg (anc A) (box B i) n) := by
  have hI := iou_eq V hA hB i n
  rw [e_main_v64, e_main_call1_v0, e_main_call1_cst, e_main_call1_c]
  obtain ⟨I, eI⟩ : ∃ I : FVec Ideal S2x20000x32 .f32, (W V main_v62 : FVec Ideal S2x20000x32 .f32) = I := ⟨_, rfl⟩
  simp only [eI] at hI ⊢
  unfold Spec.rarg
  simp only [← hI]
  refine RefIndex.argmax_box I _ _ _ ?_ ?_ ?_ i n
  · pointwise [Spec.ofBits_negInf]
  · rfl
  · intro i n j; rfl

theorem carg_eq (hA : (W V main_arg4 : FVec Ideal S20000x4 .f32) = A) (hB : (W V main_arg2 : FVec Ideal S2x32x4 .f32) = B) (i : Fin 2) (j : Fin 32) :
    (W V main_v69 : IVec S2x32 32) (ix2 i j) = BitVec.ofNat 32 (Spec.carg (anc A) (box B i) j) := by
  have hI := fun n => iou_eq V hA hB i n j
  rw [e_main_v69, e_main_call2_v0, e_main_call2_cst, e_main_call2_c]
  obtain ⟨I, eI⟩ : ∃ I : FVec Ideal S2x20000x32 .f32, (W V main_v62 : FVec Ideal S2x20000x32 .f32) = I := ⟨_, rfl⟩
  simp only [eI] at hI ⊢
  unfold Spec.carg
  simp only [← hI]
  refine RefIndex.argmax_anchor I _ _ _ ?_ ?_ ?_ i j
  · pointwise [Spec.ofBits_negInf]
  · rfl
  · intro i n j; rfl

end Cert.RefValue

end
-- ==== Proof.Ref.Masks.lean ====
/- The reference's index pairs and masks: the boxes' best anchors, the anchors that overlap enough, and the positive ones. -/
module

public import proofs.«01_k».proof.Proof.Ref.Eqs1
public import proofs.«01_k».proof.Proof.Ref.Stage1

@[expose] public section

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.Pointwise
open Cert.RefEqs

/-- Shifting a negative index leaves a small word as it is. -/
theorem wrap {k : ℕ} (h : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat]; exact lt_of_le_of_lt (Nat.mod_le _ _) h)

theorem wrap_word {x : BitVec 32} {k : ℕ} (hx : x = BitVec.ofNat 32 k) (h : k < 2 ^ 31) (a : BitVec 32) :
    Scalar.select (IntOp.cmpi .slt x 0#32) a x = BitVec.ofNat 32 k := by
  rw [hx]; exact wrap h a

variable (V : Valuation τ sig (Elt Ideal)) {A : FVec Ideal S20000x4 .f32} {B : FVec Ideal S2x32x4 .f32}

theorem image_eq (i : Fin 2) : (W V main_v12 : IVec S2x1 32) (ix2 i 0) = BitVec.ofNat 32 (i : Fin 2) := by
  rw [e_main_v12, e_main_v11]
  pointwise []

/-- The pairs under which the best anchors are marked. -/
theorem pair_anchor (hA : (W V main_arg4 : FVec Ideal S20000x4 .f32) = A) (hB : (W V main_arg2 : FVec Ideal S2x32x4 .f32) = B) (i : Fin 2) (j : Fin 32) :
    (W V main_v84 : IVec S2x32x2 32) (ix3 i j 0) = BitVec.ofNat 32 (i : Fin 2)
    ∧ (W V main_v84 : IVec S2x32x2 32) (ix3 i j 1) = BitVec.ofNat 32 (Spec.carg (anc A) (box B i) j) := by
  have hi := image_eq V i
  have hc := carg_eq V hA hB i j
  rw [e_main_v84, e_main_v83, e_main_v82, e_main_v81, e_main_v80, e_main_v79, e_main_v78, e_main_v77, e_main_v76, e_main_v75, e_main_v74, e_main_v73,
    e_main_v72, e_main_v71, e_main_c_5, e_main_c_6, e_main_c_7, e_main_c_8]
  obtain ⟨I, eI⟩ : ∃ I : IVec S2x1 32, (W V main_v12 : IVec S2x1 32) = I := ⟨_, rfl⟩
  rw [eI] at hi ⊢
  obtain ⟨C, eC⟩ : ∃ C : IVec S2x32 32, (W V main_v69 : IVec S2x32 32) = C := ⟨_, rfl⟩
  rw [eC] at hc ⊢
  constructor
  · pointwise []
    exact wrap_word hi (lt_trans i.isLt (by norm_num)) _
  · pointwise []
    exact wrap_word hc (lt_trans (Spec.carg (anc A) (box B i) j).isLt (by norm_num)) _

/-- The pairs under which an anchor's box is read. -/
theorem pair_box (hA : (W V main_arg4 : FVec Ideal S20000x4 .f32) = A) (hB : (W V main_arg2 : FVec Ideal S2x32x4 .f32) = B) (i : Fin 2) (n : Fin 20000) :
    (W V main_v106 : IVec S2x20000x2 32) (ix3 i n 0) = BitVec.ofNat 32 (i : Fin 2)
    ∧ (W V main_v106 : IVec S2x20000x2 32) (ix3 i n 1) = BitVec.ofNat 32 (Spec.rarg (anc A) (box B i) n) := by
  have hi := image_eq V i
  have hc := rarg_eq V hA hB i n
  rw [e_main_v106, e_main_v105, e_main_v104, e_main_v103, e_main_v102, e_main_v101, e_main_v100, e_main_v99, e_main_v98, e_main_v97, e_main_v96, e_main_v95,
    e_main_v94, e_main_v93, e_main_c_12, e_main_c_13, e_main_c_14, e_main_c_15]
  obtain ⟨I, eI⟩ : ∃ I : IVec S2x1 32, (W V main_v12 : IVec S2x1 32) = I := ⟨_, rfl⟩
  rw [eI] at hi ⊢
  obtain ⟨C, eC⟩ : ∃ C : IVec S2x20000 32, (W V main_v64 : IVec S2x20000 32) = C := ⟨_, rfl⟩
  rw [eC] at hc ⊢
  constructor
  · pointwise []
    exact wrap_word hi (lt_trans i.isLt (by norm_num)) _
  · pointwise []
    exact wrap_word hc (lt_trans (Spec.rarg (anc A) (box B i) n).isLt (by norm_num)) _

/-- The best anchors are marked. -/
theorem best_eq (hA : (W V main_arg4 : FVec Ideal S20000x4 .f32) = A) (hB : (W V main_arg2 : FVec Ideal S2x32x4 .f32) = B) (i : Fin 2) (n : Fin 20000) :
    (Spec.fb (anc A) (box B i) n → (W V main_v86 : IVec S2x20000 1) (ix2 i n) = 1#1)
    ∧ (¬ Spec.fb (anc A) (box B i) n → (W V main_v86 : IVec S2x20000 1) (ix2 i n) = 0#1) := by
  rw [e_main_v86, e_main_v85, e_main_v70, e_main_c_9, e_main_c]
  exact RefIndex.scatter_read _ _ _ (fun i j => Spec.carg (anc A) (box B i) j) (fun _ => rfl) (fun _ => rfl)
    (fun i j => (pair_anchor V hA hB i j).1) (fun i j => (pair_anchor V hA hB i j).2) i n

theorem bit_iff {P Q : Prop} [Decidable P] (h : P ↔ Q) : (Q → BitVec.ofBool (decide P) = 1#1) ∧ (¬ Q → BitVec.ofBool (decide P) = 0#1) :=
  ⟨fun q => by rw [decide_eq_true (h.mpr q)]; rfl, fun q => by rw [decide_eq_false fun p => q (h.mp p)]; rfl⟩

/-- Enough overlap. -/
theorem enough_eq (hA : (W V main_arg4 : FVec Ideal S20000x4 .f32) = A) (hB : (W V main_arg2 : FVec Ideal S2x32x4 .f32) = B) (i : Fin 2) (n : Fin 20000) :
    (Spec.pos0 (anc A) (box B i) n → (W V main_v68 : IVec S2x20000 1) (ix2 i n) = 1#1)
    ∧ (¬ Spec.pos0 (anc A) (box B i) n → (W V main_v68 : IVec S2x20000 1) (ix2 i n) = 0#1) := by
  have hM := rmax_eq V hA hB i n
  rw [e_main_v68, e_main_v67, e_main_cst_4]
  obtain ⟨M, eM⟩ : ∃ M : FVec Ideal S2x20000 .f32, (W V main_v63 : FVec Ideal S2x20000 .f32) = M := ⟨_, rfl⟩
  rw [eM] at hM ⊢
  unfold Spec.pos0
  rw [← hM, ← Spec.ofBits_half]
  exact bit_iff Iff.rfl

/-- Little overlap. -/
theorem little_eq (hA : (W V main_arg4 : FVec Ideal S20000x4 .f32) = A) (hB : (W V main_arg2 : FVec Ideal S2x32x4 .f32) = B) (i : Fin 2) (n : Fin 20000) :
    (Spec.rmax (anc A) (box B i) n < Spec.c04 → (W V main_v66 : IVec S2x20000 1) (ix2 i n) = 1#1)
    ∧ (¬ Spec.rmax (anc A) (box B i) n < Spec.c04 → (W V main_v66 : IVec S2x20000 1) (ix2 i n) = 0#1) := by
  have hM := rmax_eq V hA hB i n
  rw [e_main_v66, e_main_v65, e_main_cst_3]
  obtain ⟨M, eM⟩ : ∃ M : FVec Ideal S2x20000 .f32, (W V main_v63 : FVec Ideal S2x20000 .f32) = M := ⟨_, rfl⟩
  rw [eM] at hM ⊢
  rw [← hM]
  exact bit_iff Iff.rfl

/-- A choice under the bit of a zero word. -/
theorem choose_zero {x : BitVec 32} {P Q R S : Prop} {b d : BitVec 1} (hP : x = 0#32 ↔ ¬ P) (hb : (Q → b = 1#1) ∧ (¬ Q → b = 0#1))
    (hd : (R → d = 1#1) ∧ (¬ R → d = 0#1)) (h1 : P → (S ↔ R)) (h0 : ¬ P → (S ↔ Q)) :
    (S → Scalar.select (IntOp.cmpi .eq x 0#32) b d = 1#1) ∧ (¬ S → Scalar.select (IntOp.cmpi .eq x 0#32) b d = 0#1) := by
  rw [WordCmp.cmpi_eq_eq, WordCmp.select_decide]
  by_cases h : P
  · rw [h1 h, if_neg fun hx => hP.mp hx h]; exact hd
  · rw [h0 h, if_pos (hP.mpr h)]; exact hb

theorem ite_left {P R Q : Prop} {_ : Decidable P} (h : P) : (if P then R else Q) ↔ R := by rw [if_pos h]
theorem ite_right {P R Q : Prop} {_ : Decidable P} (h : ¬ P) : (if P then R else Q) ↔ Q := by rw [if_neg h]

/-- The positive anchors. -/
theorem pos_eq (hA : (W V main_arg4 : FVec Ideal S20000x4 .f32) = A) (hB : (W V main_arg2 : FVec Ideal S2x32x4 .f32) = B) (i : Fin 2) (n : Fin 20000) :
    (Spec.pos (anc A) (box B i) n → (W V main_v92 : IVec S2x20000 1) (ix2 i n) = 1#1)
    ∧ (¬ Spec.pos (anc A) (box B i) n → (W V main_v92 : IVec S2x20000 1) (ix2 i n) = 0#1) := by
  have hb := best_eq V hA hB i n
  have he := fun n => enough_eq V hA hB i n
  rw [e_main_v92, e_main_call3_v0, e_main_v91, e_main_v90, e_main_v89, e_main_v88, e_main_v87, e_main_c_10, e_main_c_11]
  obtain ⟨G, eG⟩ : ∃ G : IVec S2x20000 1, (W V main_v86 : IVec S2x20000 1) = G := ⟨_, rfl⟩
  simp only [eG] at hb ⊢
  obtain ⟨E, eE⟩ : ∃ E : IVec S2x20000 1, (W V main_v68 : IVec S2x20000 1) = E := ⟨_, rfl⟩
  simp only [eE] at he ⊢
  have hz := RefIndex.count_zero E (constantI S_ 32 0#32) rfl i
  obtain ⟨K, eK⟩ : ∃ K : IVec S2 32, Host.reduce IntOp.addi (extui 32 E natLt_1_32) (constantI S_ 32 0#32) reducesTo_S2x20000_S2_d1 h_S_ = K := ⟨_, rfl⟩
  rw [eK] at hz ⊢
  have hz' : K (ix1 i) = 0#32 ↔ ¬ ∃ n, Spec.pos0 (anc A) (box B i) n := by
    refine hz.trans ?_
    refine not_congr (exists_congr fun n => ⟨fun h => ?_, (he n).1⟩)
    by_contra hn
    rw [(he n).2 hn] at h
    exact absurd h (by decide)
  have hs : (select (broadcastInDim S2x20000 ![0, 1] bcast_S2x1_S2x20000_0_1 (cmpi .eq (broadcastInDim S2x1 ![0] bcast_S2_S2x1_0 K)
      (broadcastInDim S2x1 ![] bcast_S_S2x1 (constantI S_ 32 0#32)))) G E : IVec S2x20000 1) (ix2 i n)
      = Scalar.select (IntOp.cmpi .eq (K (ix1 i)) 0#32) (G (ix2 i n)) (E (ix2 i n)) := by
    pointwise []
  rw [hs]
  exact choose_zero hz' hb (he n) (fun h => ite_left h) fun h => ite_right h

end Cert.RefValue

end
-- ==== Proof.Ref.Eqs2.lean ====
/- Equations of the reference, one per operation (third third): what its result buffer holds after the run, of what its operands hold. -/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Pipeline.Frame
public import proofs.«01_k».proof.Proof.Ref.Ops

@[expose] public section

noncomputable section

namespace Cert.RefEqs

open Cert.ReferenceIdeal Cert.ReferenceIdeal.Gen Idealize.ShloMosaic Idealize.ShloMosaic.TcCoe Idealize.SL.Sem Idealize.ShloMosaic.StableHlo

variable {F : FTy → Type} [FloatOps F]

variable (V : Valuation τ sig (Elt F))

set_option maxRecDepth 16384 in
theorem e_main_v147 : W V main_v147 = broadcastInDim S1x20000x2 ![1, 2] bcast_S20000x2_S1x20000x2_1_2 (W V main_v146) :=
  unary_eq (i := 200) writes_eq rfl (by decide) (by decide) V
set_option maxRecDepth 16384 in
theorem e_main_v148 : W V main_v148 = broadcastInDim S2x20000x2 ![0, 1, 2] bcast_S1x20000x2_S2x20000x2_0_1_2 (W V main_v147) :=
  unary_eq (i := 201) writes_eq rfl (by decide) (by decide) V
set_option maxRecDepth 16384 in
theorem e_main_v149 : W V main_v149 = subf (W V main_v145) (W V main_v148) :=
  binary_eq (i := 202) writes_eq rfl (by decide) (by decide) (by decide) V
set_option maxRecDepth 16384 in
theorem e_main_v150 : W V main_v150 = extractStridedSlice S20000x2 ![0, 2] (W V main_arg4) slices_S20000x4_S20000x2_0_2 :=
  unary_eq (i := 203) writes_eq rfl (by decide) (by decide) V
set_option maxRecDepth 16384 in
theorem e_main_v151 : W V main_v151 = broadcastInDim S1x20000x2 ![1, 2] bcast_S20000x2_S1x20000x2_1_2 (W V main_v150) :=
  unary_eq (i := 204) writes_eq rfl (by decide) (by decide) V
set_option maxRecDepth 16384 in
theorem e_main_v152 : W V main_v152 = broadcastInDim S2x20000x2 ![0, 1, 2] bcast_S1x20000x2_S2x20000x2_0_1_2 (W V main_v151) :=
  unary_eq (i := 205) writes_eq rfl (by decide) (by decide) V
set_option maxRecDepth 16384 in
theorem e_main_v153 : W V main_v153 = Host.divf (W V main_v149) (W V main_v152) :=
  binary_eq (i := 206) writes_eq rfl (by decide) (by decide) (by decide) V
set_option maxRecDepth 16384 in
theorem e_main_v154 : W V main_v154 = extractStridedSlice S2x20000x2 ![0, 0, 2] (W V main_v144) slices_S2x20000x4_S2x20000x2_0_0_2 :=
  unary_eq (i := 207) writes_eq rfl (by decide) (by decide) V
set_option maxRecDepth 16384 in
theorem e_main_v155 : W V main_v155 = extractStridedSlice S20000x2 ![0, 2] (W V main_arg4) slices_S20000x4_S20000x2_0_2 :=
  unary_eq (i := 208) writes_eq rfl (by decide) (by decide) V
set_option maxRecDepth 16384 in
theorem e_main_v156 : W V main_v156 = broadcastInDim S1x20000x2 ![1, 2] bcast_S20000x2_S1x20000x2_1_2 (W V main_v155) :=
  unary_eq (i := 209) writes_eq rfl (by decide) (by decide) V
set_option maxRecDepth 16384 in
theorem e_main_v157 : W V main_v157 = broadcastInDim S2x20000x2 ![0, 1, 2] bcast_S1x20000x2_S2x20000x2_0_1_2 (W V main_v156) :=
  unary_eq (i := 210) writes_eq rfl (by decide) (by decide) V
set_option maxRecDepth 16384 in
theorem e_main_v158 : W V main_v158 = Host.divf (W V main_v154) (W V main_v157) :=
  binary_eq (i := 211) writes_eq rfl (by decide) (by decide) (by decide) V
set_option maxRecDepth 16384 in
theorem e_main_v159 : W V main_v159 = Host.log (W V main_v158) :=
  unary_eq (i := 212) writes_eq rfl (by decide) (by decide) V
set_option maxRecDepth 16384 in
theorem e_main_v160 : W V main_v160 = concatenate S2x20000x4 2 [⟨S2x20000x2, (W V main_v153)⟩, ⟨S2x20000x2, (W V main_v159)⟩] concatenates_S2x20000x2_S2x20000x2_S2x20000x4_d2 :=
  binary_eq (i := 213) writes_eq rfl (by decide) (by decide) (by decide) V
set_option maxRecDepth 16384 in
theorem e_main_cst_27 : W V main_cst_27 = constant S_ .f32 0x00000000#32 :=
  nullary_eq (i := 214) writes_eq rfl (by decide) V
set_option maxRecDepth 16384 in
theorem e_main_v161 : W V main_v161 = broadcastInDim S2x20000 ![] bcast_S_S2x20000 (W V main_cst_27) :=
  unary_eq (i := 215) writes_eq rfl (by decide) (by decide) V
set_option maxRecDepth 16384 in
theorem e_main_v162 : W V main_v162 = cmpf .ogt (W V main_v120) (W V main_v161) :=
  binary_eq (i := 216) writes_eq rfl (by decide) (by decide) (by decide) V
set_option maxRecDepth 16384 in
theorem e_main_v163 : W V main_v163 = extui 32 (W V main_v162) natLt_1_32 :=
  unary_eq (i := 217) writes_eq rfl (by decide) (by decide) V
set_option maxRecDepth 16384 in
theorem e_main_c_28 : W V main_c_28 = constantI S_ 32 0#32 :=
  nullary_eq (i := 218) writes_eq rfl (by decide) V
set_option maxRecDepth 16384 in
theorem e_main_v164 : W V main_v164 = Host.reduce IntOp.addi (W V main_v163) (W V main_c_28) reducesTo_S2x20000_S_d0_1 h_S_ :=
  binary_eq (i := 219) writes_eq rfl (by decide) (by decide) (by decide) V
set_option maxRecDepth 16384 in
theorem e_main_v165 : W V main_v165 = sitofp .f32 (W V main_v164) :=
  unary_eq (i := 220) writes_eq rfl (by decide) (by decide) V
set_option maxRecDepth 16384 in
theorem e_main_cst_29 : W V main_cst_29 = constant S_ .f32 0x00000000#32 :=
  nullary_eq (i := 221) writes_eq rfl (by decide) V
set_option maxRecDepth 16384 in
theorem e_main_v166 : W V main_v166 = broadcastInDim S2x20000 ![] bcast_S_S2x20000 (W V main_cst_29) :=
  unary_eq (i := 222) writes_eq rfl (by decide) (by decide) V
set_option maxRecDepth 16384 in
theorem e_main_v167 : W V main_v167 = cmpf .oge (W V main_v120) (W V main_v166) :=
  binary_eq (i := 223) writes_eq rfl (by decide) (by decide) (by decide) V
set_option maxRecDepth 16384 in
theorem e_main_v168 : W V main_v168 = broadcastInDim S2x20000x1 ![0, 1] bcast_S2x20000_S2x20000x1_0_1 (W V main_v167) :=
  unary_eq (i := 224) writes_eq rfl (by decide) (by decide) V
set_option maxRecDepth 16384 in
theorem e_main_v169 : W V main_v169 = uitofp .f32 (W V main_v168) :=
  unary_eq (i := 225) writes_eq rfl (by decide) (by decide) V
set_option maxRecDepth 16384 in
theorem e_main_cst_30 : W V main_cst_30 = constant S_ .f32 0x00000000#32 :=
  nullary_eq (i := 226) writes_eq rfl (by decide) V
set_option maxRecDepth 16384 in
theorem e_main_v170 : W V main_v170 = broadcastInDim S2x20000 ![] bcast_S_S2x20000 (W V main_cst_30) :=
  unary_eq (i := 227) writes_eq rfl (by decide) (by decide) V
set_option maxRecDepth 16384 in
theorem e_main_v171 : W V main_v171 = cmpf .ogt (W V main_v120) (W V main_v170) :=
  binary_eq (i := 228) writes_eq rfl (by decide) (by decide) (by decide) V
set_option maxRecDepth 16384 in
theorem e_main_v172 : W V main_v172 = broadcastInDim S2x20000x1 ![0, 1] bcast_S2x20000_S2x20000x1_0_1 (W V main_v171) :=
  unary_eq (i := 229) writes_eq rfl (by decide) (by decide) V
set_option maxRecDepth 16384 in
theorem e_main_v173 : W V main_v173 = uitofp .f32 (W V main_v172) :=
  unary_eq (i := 230) writes_eq rfl (by decide) (by decide) V
set_option maxRecDepth 16384 in
theorem e_main_cst_31 : W V main_cst_31 = constant S_ .f32 0x3F800000#32 :=
  nullary_eq (i := 231) writes_eq rfl (by decide) V
set_option maxRecDepth 16384 in
theorem e_main_v174 : W V main_v174 = broadcastInDim S2x20000x80 ![] bcast_S_S2x20000x80 (W V main_cst_31) :=
  unary_eq (i := 232) writes_eq rfl (by decide) (by decide) V
set_option maxRecDepth 16384 in
theorem e_main_v175 : W V main_v175 = cmpf .oeq (W V main_v116) (W V main_v174) :=
  binary_eq (i := 233) writes_eq rfl (by decide) (by decide) (by decide) V
set_option maxRecDepth 16384 in
theorem e_main_cst_32 : W V main_cst_32 = constant S_ .f32 0x3E800000#32 :=
  nullary_eq (i := 234) writes_eq rfl (by decide) V
set_option maxRecDepth 16384 in
theorem e_main_cst_33 : W V main_cst_33 = constant S_ .f32 0x3F400000#32 :=
  nullary_eq (i := 235) writes_eq rfl (by decide) V
set_option maxRecDepth 16384 in
theorem e_main_call9_v0 : W V main_call9_v0 = broadcastInDim S2x20000x80 ![] bcast_S_S2x20000x80 (W V main_cst_32) :=
  unary_eq (i := 236) writes_eq rfl (by decide) (by decide) V
set_option maxRecDepth 16384 in
theorem e_main_call9_v1 : W V main_call9_v1 = broadcastInDim S2x20000x80 ![] bcast_S_S2x20000x80 (W V main_cst_33) :=
  unary_eq (i := 237) writes_eq rfl (by decide) (by decide) V
set_option maxRecDepth 16384 in
theorem e_main_v176 : W V main_v176 = select (W V main_v175) (W V main_call9_v0) (W V main_call9_v1) :=
  ternary_eq (i := 238) writes_eq rfl (by decide) (by decide) (by decide) (by decide) V
set_option maxRecDepth 16384 in
theorem e_main_cst_34 : W V main_cst_34 = constant S_ .f32 0x3F800000#32 :=
  nullary_eq (i := 239) writes_eq rfl (by decide) V
set_option maxRecDepth 16384 in
theorem e_main_v177 : W V main_v177 = broadcastInDim S2x20000x80 ![] bcast_S_S2x20000x80 (W V main_cst_34) :=
  unary_eq (i := 240) writes_eq rfl (by decide) (by decide) V
set_option maxRecDepth 16384 in
theorem e_main_v178 : W V main_v178 = cmpf .oeq (W V main_v116) (W V main_v177) :=
  binary_eq (i := 241) writes_eq rfl (by decide) (by decide) (by decide) V
set_option maxRecDepth 16384 in
theorem e_main_cst_35 : W V main_cst_35 = constant S_ .f32 0x3F800000#32 :=
  nullary_eq (i := 242) writes_eq rfl (by decide) V
set_option maxRecDepth 16384 in
theorem e_main_v179 : W V main_v179 = broadcastInDim S2x20000x80 ![] bcast_S_S2x20000x80 (W V main_cst_35) :=
  unary_eq (i := 243) writes_eq rfl (by decide) (by decide) V
set_option maxRecDepth 16384 in
theorem e_main_v180 : W V main_v180 = subf (W V main_v179) (W V main_arg0) :=
  binary_eq (i := 244) writes_eq rfl (by decide) (by decide) (by decide) V
set_option maxRecDepth 16384 in
theorem e_main_v181 : W V main_v181 = select (W V main_v178) (W V main_arg0) (W V main_v180) :=
  ternary_eq (i := 245) writes_eq rfl (by decide) (by decide) (by decide) (by decide) V
set_option maxRecDepth 16384 in
theorem e_main_v182 : W V main_v182 = Host.log (W V main_arg0) :=
  unary_eq (i := 246) writes_eq rfl (by decide) (by decide) V
set_option maxRecDepth 16384 in
theorem e_main_cst_36 : W V main_cst_36 = constant S_ .f32 0xC2C80000#32 :=
  nullary_eq (i := 247) writes_eq rfl (by decide) V
set_option maxRecDepth 16384 in
theorem e_main_call11_v0 : W V main_call11_v0 = id (W V main_cst_36) :=
  unary_eq (i := 248) writes_eq rfl (by decide) (by decide) V
set_option maxRecDepth 16384 in
theorem e_main_call11_v1 : W V main_call11_v1 = broadcastInDim S2x20000x80 ![] bcast_S_S2x20000x80 (W V main_call11_v0) :=
  unary_eq (i := 249) writes_eq rfl (by decide) (by decide) V
set_option maxRecDepth 16384 in
theorem e_main_v183 : W V main_v183 = maximumf (W V main_call11_v1) (W V main_v182) :=
  binary_eq (i := 250) writes_eq rfl (by decide) (by decide) (by decide) V
set_option maxRecDepth 16384 in
theorem e_main_cst_37 : W V main_cst_37 = constant S_ .f32 0x3F800000#32 :=
  nullary_eq (i := 251) writes_eq rfl (by decide) V
set_option maxRecDepth 16384 in
theorem e_main_v184 : W V main_v184 = broadcastInDim S2x20000x80 ![] bcast_S_S2x20000x80 (W V main_cst_37) :=
  unary_eq (i := 252) writes_eq rfl (by decide) (by decide) V
set_option maxRecDepth 16384 in
theorem e_main_v185 : W V main_v185 = subf (W V main_v184) (W V main_arg0) :=
  binary_eq (i := 253) writes_eq rfl (by decide) (by decide) (by decide) V
set_option maxRecDepth 16384 in
theorem e_main_v186 : W V main_v186 = Host.log (W V main_v185) :=
  unary_eq (i := 254) writes_eq rfl (by decide) (by decide) V
set_option maxRecDepth 16384 in
theorem e_main_cst_38 : W V main_cst_38 = constant S_ .f32 0xC2C80000#32 :=
  nullary_eq (i := 255) writes_eq rfl (by decide) V
set_option maxRecDepth 16384 in
theorem e_main_call12_v0 : W V main_call12_v0 = id (W V main_cst_38) :=
  unary_eq (i := 256) writes_eq rfl (by decide) (by decide) V
set_option maxRecDepth 16384 in
theorem e_main_call12_v1 : W V main_call12_v1 = broadcastInDim S2x20000x80 ![] bcast_S_S2x20000x80 (W V main_call12_v0) :=
  unary_eq (i := 257) writes_eq rfl (by decide) (by decide) V
set_option maxRecDepth 16384 in
theorem e_main_v187 : W V main_v187 = maximumf (W V main_call12_v1) (W V main_v186) :=
  binary_eq (i := 258) writes_eq rfl (by decide) (by decide) (by decide) V
set_option maxRecDepth 16384 in
theorem e_main_v188 : W V main_v188 = mulf (W V main_v116) (W V main_v183) :=
  binary_eq (i := 259) writes_eq rfl (by decide) (by decide) (by decide) V
set_option maxRecDepth 16384 in
theorem e_main_cst_39 : W V main_cst_39 = constant S_ .f32 0x3F800000#32 :=
  nullary_eq (i := 260) writes_eq rfl (by decide) V
set_option maxRecDepth 16384 in
theorem e_main_v189 : W V main_v189 = broadcastInDim S2x20000x80 ![] bcast_S_S2x20000x80 (W V main_cst_39) :=
  unary_eq (i := 261) writes_eq rfl (by decide) (by decide) V
set_option maxRecDepth 16384 in
theorem e_main_v190 : W V main_v190 = subf (W V main_v189) (W V main_v116) :=
  binary_eq (i := 262) writes_eq rfl (by decide) (by decide) (by decide) V
set_option maxRecDepth 16384 in
theorem e_main_v191 : W V main_v191 = mulf (W V main_v190) (W V main_v187) :=
  binary_eq (i := 263) writes_eq rfl (by decide) (by decide) (by decide) V
set_option maxRecDepth 16384 in
theorem e_main_v192 : W V main_v192 = addf (W V main_v188) (W V main_v191) :=
  binary_eq (i := 264) writes_eq rfl (by decide) (by decide) (by decide) V
set_option maxRecDepth 16384 in
theorem e_main_v193 : W V main_v193 = Host.negf (W V main_v192) :=
  unary_eq (i := 265) writes_eq rfl (by decide) (by decide) V
set_option maxRecDepth 16384 in
theorem e_main_cst_40 : W V main_cst_40 = constant S_ .f32 0x3F800000#32 :=
  nullary_eq (i := 266) writes_eq rfl (by decide) V
set_option maxRecDepth 16384 in
theorem e_main_v194 : W V main_v194 = broadcastInDim S2x20000x80 ![] bcast_S_S2x20000x80 (W V main_cst_40) :=
  unary_eq (i := 267) writes_eq rfl (by decide) (by decide) V
set_option maxRecDepth 16384 in
theorem e_main_v195 : W V main_v195 = subf (W V main_v194) (W V main_v181) :=
  binary_eq (i := 268) writes_eq rfl (by decide) (by decide) (by decide) V
set_option maxRecDepth 16384 in
theorem e_main_cst_41 : W V main_cst_41 = constant S_ .f32 0x40000000#32 :=
  nullary_eq (i := 269) writes_eq rfl (by decide) V
set_option maxRecDepth 16384 in
theorem e_main_v196 : W V main_v196 = broadcastInDim S2x20000x80 ![] bcast_S_S2x20000x80 (W V main_cst_41) :=
  unary_eq (i := 270) writes_eq rfl (by decide) (by decide) V
set_option maxRecDepth 16384 in
theorem e_main_v197 : W V main_v197 = Host.powf (W V main_v195) (W V main_v196) :=
  binary_eq (i := 271) writes_eq rfl (by decide) (by decide) (by decide) V
set_option maxRecDepth 16384 in
theorem e_main_v198 : W V main_v198 = id (W V main_v176) :=
  unary_eq (i := 272) writes_eq rfl (by decide) (by decide) V
set_option maxRecDepth 16384 in
theorem e_main_v199 : W V main_v199 = mulf (W V main_v198) (W V main_v197) :=
  binary_eq (i := 273) writes_eq rfl (by decide) (by decide) (by decide) V
set_option maxRecDepth 16384 in
theorem e_main_v200 : W V main_v200 = mulf (W V main_v199) (W V main_v193) :=
  binary_eq (i := 274) writes_eq rfl (by decide) (by decide) (by decide) V
set_option maxRecDepth 16384 in
theorem e_main_v201 : W V main_v201 = subf (W V main_arg1) (W V main_v160) :=
  binary_eq (i := 275) writes_eq rfl (by decide) (by decide) (by decide) V
set_option maxRecDepth 16384 in
theorem e_main_v202 : W V main_v202 = Host.absf (W V main_v201) :=
  unary_eq (i := 276) writes_eq rfl (by decide) (by decide) V
set_option maxRecDepth 16384 in
theorem e_main_cst_42 : W V main_cst_42 = constant S_ .f32 0x3DE38E39#32 :=
  nullary_eq (i := 277) writes_eq rfl (by decide) V
set_option maxRecDepth 16384 in
theorem e_main_v203 : W V main_v203 = broadcastInDim S2x20000x4 ![] bcast_S_S2x20000x4 (W V main_cst_42) :=
  unary_eq (i := 278) writes_eq rfl (by decide) (by decide) V
set_option maxRecDepth 16384 in
theorem e_main_v204 : W V main_v204 = cmpf .oge (W V main_v202) (W V main_v203) :=
  binary_eq (i := 279) writes_eq rfl (by decide) (by decide) (by decide) V
set_option maxRecDepth 16384 in
theorem e_main_cst_43 : W V main_cst_43 = constant S_ .f32 0x3D638E39#32 :=
  nullary_eq (i := 280) writes_eq rfl (by decide) V
set_option maxRecDepth 16384 in
theorem e_main_v205 : W V main_v205 = broadcastInDim S2x20000x4 ![] bcast_S_S2x20000x4 (W V main_cst_43) :=
  unary_eq (i := 281) writes_eq rfl (by decide) (by decide) V
set_option maxRecDepth 16384 in
theorem e_main_v206 : W V main_v206 = subf (W V main_v202) (W V main_v205) :=
  binary_eq (i := 282) writes_eq rfl (by decide) (by decide) (by decide) V
set_option maxRecDepth 16384 in
theorem e_main_v207 : W V main_v207 = mulf (W V main_v202) (W V main_v202) :=
  binary_eq (i := 283) writes_eq rfl (by decide) (by decide) (by decide) V
set_option maxRecDepth 16384 in
theorem e_main_cst_44 : W V main_cst_44 = constant S_ .f32 0x3F000000#32 :=
  nullary_eq (i := 284) writes_eq rfl (by decide) V
set_option maxRecDepth 16384 in
theorem e_main_v208 : W V main_v208 = broadcastInDim S2x20000x4 ![] bcast_S_S2x20000x4 (W V main_cst_44) :=
  unary_eq (i := 285) writes_eq rfl (by decide) (by decide) V
set_option maxRecDepth 16384 in
theorem e_main_v209 : W V main_v209 = mulf (W V main_v208) (W V main_v207) :=
  binary_eq (i := 286) writes_eq rfl (by decide) (by decide) (by decide) V
set_option maxRecDepth 16384 in
theorem e_main_cst_45 : W V main_cst_45 = constant S_ .f32 0x3DE38E39#32 :=
  nullary_eq (i := 287) writes_eq rfl (by decide) V
set_option maxRecDepth 16384 in
theorem e_main_v210 : W V main_v210 = broadcastInDim S2x20000x4 ![] bcast_S_S2x20000x4 (W V main_cst_45) :=
  unary_eq (i := 288) writes_eq rfl (by decide) (by decide) V
set_option maxRecDepth 16384 in
theorem e_main_v211 : W V main_v211 = Host.divf (W V main_v209) (W V main_v210) :=
  binary_eq (i := 289) writes_eq rfl (by decide) (by decide) (by decide) V
set_option maxRecDepth 16384 in
theorem e_main_v212 : W V main_v212 = select (W V main_v204) (W V main_v206) (W V main_v211) :=
  ternary_eq (i := 290) writes_eq rfl (by decide) (by decide) (by decide) (by decide) V
set_option maxRecDepth 16384 in
theorem e_main_v213 : W V main_v213 = broadcastInDim S2x20000x80 ![0, 1, 2] bcast_S2x20000x1_S2x20000x80_0_1_2 (W V main_v169) :=
  unary_eq (i := 291) writes_eq rfl (by decide) (by decide) V
set_option maxRecDepth 16384 in
theorem e_main_v214 : W V main_v214 = mulf (W V main_v200) (W V main_v213) :=
  binary_eq (i := 292) writes_eq rfl (by decide) (by decide) (by decide) V
set_option maxRecDepth 16384 in
theorem e_main_cst_46 : W V main_cst_46 = constant S_ .f32 0x00000000#32 :=
  nullary_eq (i := 293) writes_eq rfl (by decide) V
set_option maxRecDepth 16384 in
theorem e_main_v215 : W V main_v215 = Host.reduceAdd (W V main_v214) (W V main_cst_46) reducesTo_S2x20000x80_S_d0_1_2 h_S_ :=
  binary_eq (i := 294) writes_eq rfl (by decide) (by decide) (by decide) V
set_option maxRecDepth 16384 in
theorem e_main_v216 : W V main_v216 = Host.divf (W V main_v215) (W V main_v165) :=
  binary_eq (i := 295) writes_eq rfl (by decide) (by decide) (by decide) V
set_option maxRecDepth 16384 in
theorem e_main_v217 : W V main_v217 = broadcastInDim S2x20000x4 ![0, 1, 2] bcast_S2x20000x1_S2x20000x4_0_1_2 (W V main_v173) :=
  unary_eq (i := 296) writes_eq rfl (by decide) (by decide) V
set_option maxRecDepth 16384 in
theorem e_main_v218 : W V main_v218 = mulf (W V main_v212) (W V main_v217) :=
  binary_eq (i := 297) writes_eq rfl (by decide) (by decide) (by decide) V
set_option maxRecDepth 16384 in
theorem e_main_cst_47 : W V main_cst_47 = constant S_ .f32 0x00000000#32 :=
  nullary_eq (i := 298) writes_eq rfl (by decide) V
set_option maxRecDepth 16384 in
theorem e_main_v219 : W V main_v219 = Host.reduceAdd (W V main_v218) (W V main_cst_47) reducesTo_S2x20000x4_S_d0_1_2 h_S_ :=
  binary_eq (i := 299) writes_eq rfl (by decide) (by decide) (by decide) V
set_option maxRecDepth 16384 in
theorem e_main_v220 : W V main_v220 = Host.divf (W V main_v219) (W V main_v165) :=
  binary_eq (i := 300) writes_eq rfl (by decide) (by decide) (by decide) V
set_option maxRecDepth 16384 in
theorem e_main_v221 : W V main_v221 = addf (W V main_v216) (W V main_v220) :=
  binary_eq (i := 301) writes_eq rfl (by decide) (by decide) (by decide) V

end Cert.RefEqs

end
-- ==== Proof.Ref.Targets.lean ====
/- The reference's class targets: one, zero or minus one. -/
module

public import proofs.«01_k».proof.Proof.Ref.Masks
public import proofs.«01_k».proof.Proof.Ref.Eqs2

@[expose] public section

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.Pointwise
open Cert.RefEqs

variable (V : Valuation τ sig (Elt Ideal)) {A : FVec Ideal S20000x4 .f32} {B : FVec Ideal S2x32x4 .f32} {L : IVec S2x32 32}

/-- An anchor's class: one more than its box's label. -/
theorem label_eq (hA : (W V main_arg4 : FVec Ideal S20000x4 .f32) = A) (hB : (W V main_arg2 : FVec Ideal S2x32x4 .f32) = B)
    (hL : (W V main_arg3 : IVec S2x32 32) = L) (i : Fin 2) (n : Fin 20000) :
    (W V main_v109 : IVec S2x20000 32) (ix2 i n) = L (ix2 i (Spec.rarg (anc A) (box B i) n)) + 1#32 := by
  rw [e_main_v109, e_main_v108, e_main_c_16, e_main_v107, hL]
  exact congrArg (fun w : BitVec 32 => w + 1#32) (RefIndex.gather_box _ _ i n _ (pair_box V hA hB i n).1 (pair_box V hA hB i n).2)

/-- A choice under two bits. -/
theorem choose_two {P Q : Prop} {b d : BitVec 1} {x y z : EReal} (hb : (P → b = 1#1) ∧ (¬ P → b = 0#1)) (hd : (Q → d = 1#1) ∧ (¬ Q → d = 0#1)) :
    (P → Scalar.select b x (Scalar.select d y z) = x) ∧ (¬ P → Q → Scalar.select b x (Scalar.select d y z) = y)
    ∧ (¬ P → ¬ Q → Scalar.select b x (Scalar.select d y z) = z) := by
  refine ⟨fun p => ?_, fun p q => ?_, fun p q => ?_⟩
  · rw [hb.1 p]; rfl
  · rw [hb.2 p, hd.1 q]; rfl
  · rw [hb.2 p, hd.2 q]; rfl

theorem mark_eq (hA : (W V main_arg4 : FVec Ideal S20000x4 .f32) = A) (hB : (W V main_arg2 : FVec Ideal S2x32x4 .f32) = B) (i : Fin 2) (n : Fin 20000) :
    (Spec.pos (anc A) (box B i) n → (W V main_v120 : FVec Ideal S2x20000 .f32) (ix2 i n) = (1 : EReal))
    ∧ (¬ Spec.pos (anc A) (box B i) n → Spec.rmax (anc A) (box B i) n < Spec.c04 → (W V main_v120 : FVec Ideal S2x20000 .f32) (ix2 i n) = (0 : EReal))
    ∧ (¬ Spec.pos (anc A) (box B i) n → ¬ Spec.rmax (anc A) (box B i) n < Spec.c04 → (W V main_v120 : FVec Ideal S2x20000 .f32) (ix2 i n) = (-1 : EReal)) := by
  have hp := pos_eq V hA hB i n
  have hl := little_eq V hA hB i n
  rw [e_main_v120, e_main_call8_v1, e_main_call8_v0, e_main_cst_21, e_main_v119, e_main_call7_v1, e_main_call7_v0, e_main_cst_20, e_main_v118, e_main_v117, e_main_cst_19]
  obtain ⟨P, eP⟩ : ∃ P : IVec S2x20000 1, (W V main_v92 : IVec S2x20000 1) = P := ⟨_, rfl⟩
  simp only [eP] at hp ⊢
  obtain ⟨Q, eQ⟩ : ∃ Q : IVec S2x20000 1, (W V main_v66 : IVec S2x20000 1) = Q := ⟨_, rfl⟩
  simp only [eQ] at hl ⊢
  simp only [id_eq]
  pointwise [Spec.ofBits_one]
  exact choose_two hp hl

theorem one_bit (b : BitVec 1) : (FloatOps.uitofp (F := Ideal) .f32 b : EReal) = if b = 1#1 then 1 else 0 := by
  show ((((b.toNat : ℕ) : ℝ) : EReal)) = _
  rcases (by decide +revert : b = 0#1 ∨ b = 1#1) with rfl | rfl <;> simp

theorem bit_true {P : Prop} {_ : Decidable P} (h : P) : (if BitVec.ofBool (decide P) = 1#1 then (1 : EReal) else 0) = 1 := by
  rw [decide_eq_true h]; rfl
theorem bit_false {P : Prop} {_ : Decidable P} (h : ¬ P) : (if BitVec.ofBool (decide P) = 1#1 then (1 : EReal) else 0) = 0 := by
  rw [decide_eq_false h]; rfl

theorem not_le_neg : ¬ (0 : EReal) ≤ -1 := by
  rw [← EReal.coe_zero, ← EReal.coe_one, ← EReal.coe_neg, EReal.coe_le_coe_iff]; norm_num

/-- A mark is above zero exactly when it is one. -/
theorem above {P Q : Prop} {x y : EReal} {_ : Decidable (0 < x)} (h : (P → x = 1) ∧ (¬ P → Q → x = 0) ∧ (¬ P → ¬ Q → x = -1))
    (h1 : P → y = 1) (h0 : ¬ P → y = 0) : (if BitVec.ofBool (decide (0 < x)) = 1#1 then (1 : EReal) else 0) = y := by
  by_cases p : P
  · rw [h1 p]; exact bit_true (by rw [h.1 p]; exact zero_lt_one)
  · rw [h0 p]
    refine bit_false fun hx => ?_
    by_cases q : Q
    · rw [h.2.1 p q] at hx; exact lt_irrefl _ hx
    · rw [h.2.2 p q] at hx; exact not_le_neg hx.le

/-- A mark is not below zero exactly when it is zero or one. -/
theorem not_below {P Q : Prop} {x : EReal} {_ : Decidable (0 ≤ x)} (h : (P → x = 1) ∧ (¬ P → Q → x = 0) ∧ (¬ P → ¬ Q → x = -1)) :
    (P → (if BitVec.ofBool (decide (0 ≤ x)) = 1#1 then (1 : EReal) else 0) = 1)
    ∧ (¬ P → Q → (if BitVec.ofBool (decide (0 ≤ x)) = 1#1 then (1 : EReal) else 0) = 1)
    ∧ (¬ P → ¬ Q → (if BitVec.ofBool (decide (0 ≤ x)) = 1#1 then (1 : EReal) else 0) = 0) :=
  ⟨fun p => bit_true (by rw [h.1 p]; exact zero_le_one), fun p q => bit_true (by rw [h.2.1 p q]),
    fun p q => bit_false (by rw [h.2.2 p q]; exact not_le_neg)⟩

theorem onehot_bit (x y : BitVec 32) : (FloatOps.uitofp (F := Ideal) .f32 (IntOp.cmpi .eq x y) : EReal) = if x = y then 1 else 0 := by
  rw [one_bit, WordCmp.cmpi_eq_eq]
  by_cases h : x = y
  · rw [if_pos h]; exact bit_true h
  · rw [if_neg h]; exact bit_false h

theorem target_eq (hA : (W V main_arg4 : FVec Ideal S20000x4 .f32) = A) (hB : (W V main_arg2 : FVec Ideal S2x32x4 .f32) = B)
    (hL : (W V main_arg3 : IVec S2x32 32) = L) (i : Fin 2) (n : Fin 20000) (c : Fin 80) :
    (Spec.pos (anc A) (box B i) n → (W V main_v116 : FVec Ideal S2x20000x80 .f32) (ix3 i n c)
      = if L (ix2 i (Spec.rarg (anc A) (box B i) n)) + 1#32 = BitVec.ofNat 32 c then (1 : EReal) else 0)
    ∧ (¬ Spec.pos (anc A) (box B i) n → Spec.rmax (anc A) (box B i) n < Spec.c04 → (W V main_v116 : FVec Ideal S2x20000x80 .f32) (ix3 i n c) = (0 : EReal))
    ∧ (¬ Spec.pos (anc A) (box B i) n → ¬ Spec.rmax (anc A) (box B i) n < Spec.c04 → (W V main_v116 : FVec Ideal S2x20000x80 .f32) (ix3 i n c) = (-1 : EReal)) := by
  have hp := pos_eq V hA hB i n
  have hl := little_eq V hA hB i n
  have ht := label_eq V hA hB hL i n
  rw [e_main_v116, e_main_call6_v0, e_main_v115, e_main_v114, e_main_call5_v4, e_main_call5_v3, e_main_call5_v2, e_main_call5_v1, e_main_call5_v0, e_main_v113,
    e_main_call4_v2, e_main_call4_v1, e_main_call4_v0, e_main_cst_18, e_main_v112, e_main_v111, e_main_v110, e_main_cst_17]
  obtain ⟨P, eP⟩ : ∃ P : IVec S2x20000 1, (W V main_v92 : IVec S2x20000 1) = P := ⟨_, rfl⟩
  simp only [eP] at hp ⊢
  obtain ⟨Q, eQ⟩ : ∃ Q : IVec S2x20000 1, (W V main_v66 : IVec S2x20000 1) = Q := ⟨_, rfl⟩
  simp only [eQ] at hl ⊢
  obtain ⟨T, eT⟩ : ∃ T : IVec S2x20000 32, (W V main_v109 : IVec S2x20000 32) = T := ⟨_, rfl⟩
  simp only [eT] at ht ⊢
  simp only [id_eq]
  rw [← ht]
  pointwise [Spec.ofBits_one]
  rw [onehot_bit]
  exact choose_two hp hl

theorem posf_pos {a : Fin 20000 → Fin 4 → EReal} {b : Fin 32 → Fin 4 → EReal} {n : Fin 20000} (p : Spec.pos a b n) : Spec.posf a b n = 1 := by
  simp only [Spec.posf, p, if_true]
theorem posf_not {a : Fin 20000 → Fin 4 → EReal} {b : Fin 32 → Fin 4 → EReal} {n : Fin 20000} (p : ¬ Spec.pos a b n) : Spec.posf a b n = 0 := by
  unfold Spec.posf; exact if_neg p

/-- The marks above zero are counted. -/
theorem count_eq (hA : (W V main_arg4 : FVec Ideal S20000x4 .f32) = A) (hB : (W V main_arg2 : FVec Ideal S2x32x4 .f32) = B) :
    (W V main_v165 : FVec Ideal S_ .f32) ix0 = ∑ i : Fin 2, Spec.npos (anc A) (box B i) := by
  have hm := fun i n => mark_eq V hA hB i n
  rw [e_main_v165, e_main_v164, e_main_v163, e_main_v162, e_main_v161, e_main_cst_27, e_main_c_28]
  obtain ⟨M, eM⟩ : ∃ M : FVec Ideal S2x20000 .f32, (W V main_v120 : FVec Ideal S2x20000 .f32) = M := ⟨_, rfl⟩
  simp only [eM] at hm ⊢
  refine (RefIndex.count_all _ _ rfl ix0).trans ?_
  refine Finset.sum_congr rfl fun i _ => Finset.sum_congr rfl fun n _ => ?_
  have hb : (cmpf .ogt M (broadcastInDim S2x20000 ![] bcast_S_S2x20000 (constant S_ .f32 0x00000000#32)) : IVec S2x20000 1) (ix2 i n)
      = BitVec.ofBool (decide (0 < M (ix2 i n))) := by
    pointwise []
  rw [hb]
  exact above (hm i n) posf_pos posf_not

/-- The weights of the two sums. -/
theorem weight_eq (hA : (W V main_arg4 : FVec Ideal S20000x4 .f32) = A) (hB : (W V main_arg2 : FVec Ideal S2x32x4 .f32) = B) (i : Fin 2) (n : Fin 20000) :
    (W V main_v173 : FVec Ideal S2x20000x1 .f32) (ix3 i n 0) = Spec.posf (anc A) (box B i) n := by
  have hm := mark_eq V hA hB i n
  rw [e_main_v173, e_main_v172, e_main_v171, e_main_v170, e_main_cst_30]
  obtain ⟨M, eM⟩ : ∃ M : FVec Ideal S2x20000 .f32, (W V main_v120 : FVec Ideal S2x20000 .f32) = M := ⟨_, rfl⟩
  simp only [eM] at hm ⊢
  pointwise []
  rw [one_bit]
  exact above hm posf_pos posf_not

theorem mask_eq (hA : (W V main_arg4 : FVec Ideal S20000x4 .f32) = A) (hB : (W V main_arg2 : FVec Ideal S2x32x4 .f32) = B) (i : Fin 2) (n : Fin 20000) :
    (Spec.pos (anc A) (box B i) n → (W V main_v169 : FVec Ideal S2x20000x1 .f32) (ix3 i n 0) = (1 : EReal))
    ∧ (¬ Spec.pos (anc A) (box B i) n → Spec.rmax (anc A) (box B i) n < Spec.c04 → (W V main_v169 : FVec Ideal S2x20000x1 .f32) (ix3 i n 0) = (1 : EReal))
    ∧ (¬ Spec.pos (anc A) (box B i) n → ¬ Spec.rmax (anc A) (box B i) n < Spec.c04 → (W V main_v169 : FVec Ideal S2x20000x1 .f32) (ix3 i n 0) = (0 : EReal)) := by
  have hm := mark_eq V hA hB i n
  rw [e_main_v169, e_main_v168, e_main_v167, e_main_v166, e_main_cst_29]
  obtain ⟨M, eM⟩ : ∃ M : FVec Ideal S2x20000 .f32, (W V main_v120 : FVec Ideal S2x20000 .f32) = M := ⟨_, rfl⟩
  simp only [eM] at hm ⊢
  pointwise []
  rw [one_bit]
  exact not_below hm

end Cert.RefValue

end
-- ==== Proof.Ref.Coords.lean ====
/- The reference's regression targets are the plain mathematics of each image. -/
module

public import proofs.«01_k».proof.Proof.Ref.Masks
public import proofs.«01_k».proof.Proof.Ref.Eqs2

@[expose] public section

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.Pointwise
open Cert.RefEqs

variable (V : Valuation τ sig (Elt Ideal)) {A : FVec Ideal S20000x4 .f32} {B : FVec Ideal S2x32x4 .f32}

/-- The pairs under which an anchor's box corners are read. -/
theorem pair_corner (hA : (W V main_arg4 : FVec Ideal S20000x4 .f32) = A) (hB : (W V main_arg2 : FVec Ideal S2x32x4 .f32) = B) (i : Fin 2) (n : Fin 20000) :
    (W V main_v134 : IVec S2x20000x2 32) (ix3 i n 0) = BitVec.ofNat 32 (i : Fin 2)
    ∧ (W V main_v134 : IVec S2x20000x2 32) (ix3 i n 1) = BitVec.ofNat 32 (Spec.rarg (anc A) (box B i) n) := by
  have hi := image_eq V i
  have hc := rarg_eq V hA hB i n
  rw [e_main_v134, e_main_v133, e_main_v132, e_main_v131, e_main_v130, e_main_v129, e_main_v128, e_main_v127, e_main_v126, e_main_v125, e_main_v124, e_main_v123,
    e_main_v122, e_main_v121, e_main_c_22, e_main_c_23, e_main_c_24, e_main_c_25]
  obtain ⟨I, eI⟩ : ∃ I : IVec S2x1 32, (W V main_v12 : IVec S2x1 32) = I := ⟨_, rfl⟩
  rw [eI] at hi ⊢
  obtain ⟨C, eC⟩ : ∃ C : IVec S2x20000 32, (W V main_v64 : IVec S2x20000 32) = C := ⟨_, rfl⟩
  rw [eC] at hc ⊢
  constructor
  · pointwise []
    exact wrap_word hi (lt_trans i.isLt (by norm_num)) _
  · pointwise []
    exact wrap_word hc (lt_trans (Spec.rarg (anc A) (box B i) n).isLt (by norm_num)) _

theorem corner_eq (hA : (W V main_arg4 : FVec Ideal S20000x4 .f32) = A) (hB : (W V main_arg2 : FVec Ideal S2x32x4 .f32) = B) (i : Fin 2) (n : Fin 20000) (k : Fin 4) :
    (W V main_v135 : FVec Ideal S2x20000x4 .f32) (ix3 i n k) = box B i (Spec.rarg (anc A) (box B i) n) k := by
  rw [e_main_v135, hB]
  exact RefIndex.gather_corner _ _ i n k _ (pair_corner V hA hB i n).1 (pair_corner V hA hB i n).2

theorem gt_eq (hA : (W V main_arg4 : FVec Ideal S20000x4 .f32) = A) (hB : (W V main_arg2 : FVec Ideal S2x32x4 .f32) = B) (i : Fin 2) (n : Fin 20000) (k : Fin 4) :
    (W V main_v160 : FVec Ideal S2x20000x4 .f32) (ix3 i n k) = Spec.gt (anc A) (box B i) n k := by
  have hC := fun k => corner_eq V hA hB i n k
  rw [e_main_v160, e_main_v159, e_main_v158, e_main_v157, e_main_v156, e_main_v155, e_main_v154, e_main_v153, e_main_v152, e_main_v151, e_main_v150, e_main_v149,
    e_main_v148, e_main_v147, e_main_v146, e_main_v145, e_main_v144, e_main_v143, e_main_v142, e_main_v141, e_main_v140, e_main_v139, e_main_cst_26, e_main_v138,
    e_main_v137, e_main_v136, hA]
  obtain ⟨C, eC⟩ : ∃ C : FVec Ideal S2x20000x4 .f32, (W V main_v135 : FVec Ideal S2x20000x4 .f32) = C := ⟨_, rfl⟩
  have h0 := hC 0
  have h1 := hC 1
  have h2 := hC 2
  have h3 := hC 3
  rw [eC] at h0 h1 h2 h3 ⊢
  match k with
  | 0 =>
    show _ = Ideal.div ((box B i (Spec.rarg (anc A) (box B i) n) 0 + box B i (Spec.rarg (anc A) (box B i) n) 2) * Spec.half - anc A n 0) (anc A n 2)
    rw [← h0, ← h2]
    unfold anc
    pointwise []
    rw [Spec.ofBits_two, div_two]
  | 1 =>
    show _ = Ideal.div ((box B i (Spec.rarg (anc A) (box B i) n) 1 + box B i (Spec.rarg (anc A) (box B i) n) 3) * Spec.half - anc A n 1) (anc A n 3)
    rw [← h1, ← h3]
    unfold anc
    pointwise []
    rw [Spec.ofBits_two, div_two]
  | 2 =>
    show _ = Ideal.log (Ideal.div (box B i (Spec.rarg (anc A) (box B i) n) 2 - box B i (Spec.rarg (anc A) (box B i) n) 0) (anc A n 2))
    rw [← h0, ← h2]
    unfold anc
    pointwise []
  | 3 =>
    show _ = Ideal.log (Ideal.div (box B i (Spec.rarg (anc A) (box B i) n) 3 - box B i (Spec.rarg (anc A) (box B i) n) 1) (anc A n 3))
    rw [← h1, ← h3]
    unfold anc
    pointwise []

end Cert.RefValue

end
-- ==== Proof.Ref.Terms.lean ====
/- The reference's two sums are the images' classification and regression sums. -/
module

public import proofs.«01_k».proof.Proof.Ref.Targets
public import proofs.«01_k».proof.Proof.Ref.Coords

@[expose] public section

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.Pointwise
open Cert.RefEqs

/-! ## One term of the classification sum -/

open scoped Classical in
/-- The focal term under a target. -/
def term (t p : EReal) : EReal :=
  (if t = 1 then Ideal.ofBits .f32 0x3E800000#32 else Ideal.ofBits .f32 0x3F400000#32)
    * Ideal.pow (1 - if t = 1 then p else 1 - p) (Ideal.ofBits .f32 0x40000000#32)
    * -(t * max (Ideal.ofBits .f32 0xC2C80000#32) (Ideal.log p) + (1 - t) * max (Ideal.ofBits .f32 0xC2C80000#32) (Ideal.log (1 - p)))

theorem pow_two (r : ℝ) : Ideal.pow (r : EReal) ((2 : ℝ) : EReal) = ((r * r : ℝ) : EReal) := by
  show ((Real.rpow r 2 : ℝ) : EReal) = _
  exact congrArg _ ((Real.rpow_two r).trans (sq r))

theorem one_sub (r : ℝ) : (1 : EReal) - (r : EReal) = ((1 - r : ℝ) : EReal) := by
  rw [EReal.coe_sub, EReal.coe_one]

theorem term_one (r : ℝ) : term 1 (r : EReal) = Spec.fpos (r : EReal) := by
  obtain ⟨u, hu⟩ := Spec.log_clip r
  obtain ⟨v, hv⟩ := Spec.log_clip' r
  unfold term Spec.fpos
  rw [if_pos rfl, if_pos rfl, Spec.ofBits_m100, max_comm Spec.m100, max_comm Spec.m100, hu, hv, Spec.ofBits_two, one_sub, pow_two, Spec.ofBits_quarter, Spec.quarter,
    ← EReal.coe_one, ← EReal.coe_zero]
  simp only [← EReal.coe_sub, ← EReal.coe_mul, ← EReal.coe_add, ← EReal.coe_neg]
  congr 1
  ring

theorem term_zero (r : ℝ) : term 0 (r : EReal) = Spec.fneg (r : EReal) := by
  obtain ⟨u, hu⟩ := Spec.log_clip r
  obtain ⟨v, hv⟩ := Spec.log_clip' r
  unfold term Spec.fneg
  rw [if_neg zero_ne_one, if_neg zero_ne_one, Spec.ofBits_m100, max_comm Spec.m100, max_comm Spec.m100, hu, hv, Spec.ofBits_two, one_sub, one_sub, pow_two,
    Spec.ofBits_threeQuarters, Spec.threeQuarters, ← EReal.coe_one, ← EReal.coe_zero]
  simp only [← EReal.coe_sub, ← EReal.coe_mul, ← EReal.coe_add, ← EReal.coe_neg]
  congr 1
  ring

/-! ## One row of the classification sum -/

theorem word_class {k : ℕ} (hk : k < 80) (c : Fin 80) : BitVec.ofNat 32 k = BitVec.ofNat 32 (c : ℕ) ↔ (c : ℕ) = k := by
  have hc := c.isLt
  constructor
  · intro h
    have := congrArg BitVec.toNat h
    rw [BitVec.toNat_ofNat, BitVec.toNat_ofNat] at this
    omega
  · intro h
    rw [h]

/-- One of two values under equivalent conditions. -/
theorem pick {Q R : Prop} {_ : Decidable Q} {_ : Decidable R} {f : EReal → EReal} {x y : EReal} (h : Q ↔ R) (h1 : f 1 = x) (h0 : f 0 = y) :
    f (if Q then 1 else 0) = if R then x else y := by
  by_cases r : R
  · rw [if_pos r, if_pos (h.mpr r), h1]
  · rw [if_neg r, if_neg fun q => r (h.mp q), h0]

variable {a : Fin 20000 → Fin 4 → EReal} {b : Fin 32 → Fin 4 → EReal} {p : Fin 20000 → Fin 80 → EReal} {l : Fin 32 → ℕ} {n : Fin 20000}

theorem row_pos (h : Spec.pos a b n) :
    Spec.clsRow a b p l n = ∑ c : Fin 80, if (c : ℕ) = l (Spec.rarg a b n) then Spec.fpos (p n c) else Spec.fneg (p n c) := by
  simp only [Spec.clsRow, h, if_true]

theorem row_neg (h : ¬ Spec.pos a b n) (h' : Spec.rmax a b n < Spec.c04) : Spec.clsRow a b p l n = ∑ c : Fin 80, Spec.fneg (p n c) := by
  have hn : Spec.neg a b n := ⟨h', h⟩
  simp only [Spec.clsRow, h, hn, if_true, if_false]

theorem row_rest (h : ¬ Spec.pos a b n) (h' : ¬ Spec.rmax a b n < Spec.c04) : Spec.clsRow a b p l n = 0 := by
  have hn : ¬ Spec.neg a b n := fun q => h' q.1
  simp only [Spec.clsRow, h, hn, if_false]

attribute [local irreducible] Spec.pos in
theorem row_eq (t : Fin 80 → EReal) (k : EReal) (hp : ∀ c, ∃ r : ℝ, p n c = (r : EReal)) (hl : ∀ j, l j < 80)
    (ht : ∀ c : Fin 80, (Spec.pos a b n → t c = if BitVec.ofNat 32 (l (Spec.rarg a b n)) = BitVec.ofNat 32 (c : ℕ) then (1 : EReal) else 0)
      ∧ (¬ Spec.pos a b n → Spec.rmax a b n < Spec.c04 → t c = (0 : EReal)) ∧ (¬ Spec.pos a b n → ¬ Spec.rmax a b n < Spec.c04 → t c = (-1 : EReal)))
    (hk : (Spec.pos a b n → k = (1 : EReal)) ∧ (¬ Spec.pos a b n → Spec.rmax a b n < Spec.c04 → k = (1 : EReal))
      ∧ (¬ Spec.pos a b n → ¬ Spec.rmax a b n < Spec.c04 → k = (0 : EReal))) :
    (∑ c : Fin 80, term (t c) (p n c) * k) = Spec.clsRow a b p l n := by
  by_cases h : Spec.pos a b n
  · rw [row_pos h, hk.1 h]
    refine Finset.sum_congr rfl fun c _ => ?_
    rw [(ht c).1 h, mul_one]
    obtain ⟨r, hr⟩ := hp c
    rw [hr]
    exact pick (f := fun t => term t (r : EReal)) (word_class (hl _) c) (term_one r) (term_zero r)
  · by_cases h' : Spec.rmax a b n < Spec.c04
    · rw [row_neg h h', hk.2.1 h h']
      refine Finset.sum_congr rfl fun c _ => ?_
      obtain ⟨r, hr⟩ := hp c
      rw [(ht c).2.1 h h', mul_one, hr, term_zero]
    · rw [row_rest h h', hk.2.2 h h']
      exact Finset.sum_eq_zero fun c _ => mul_zero _

/-! ## The sums -/

variable (V : Valuation τ sig (Elt Ideal)) {P : FVec Ideal S2x20000x80 .f32} {X : FVec Ideal S2x20000x4 .f32}

theorem cls_terms (hP : (W V main_arg0 : FVec Ideal S2x20000x80 .f32) = P) {T : FVec Ideal S2x20000x80 .f32} {K : FVec Ideal S2x20000x1 .f32}
    (hT : (W V main_v116 : FVec Ideal S2x20000x80 .f32) = T) (hK : (W V main_v169 : FVec Ideal S2x20000x1 .f32) = K) :
    @Eq EReal ((W V main_v215 : FVec Ideal S_ .f32) ix0) (∑ i : Fin 2, ∑ n : Fin 20000, ∑ c : Fin 80, term (T (ix3 i n c)) (P (ix3 i n c)) * K (ix3 i n 0)) := by
  rw [e_main_v215, e_main_cst_46, e_main_v214, e_main_v213, e_main_v200, e_main_v199, e_main_v198, e_main_v197, e_main_v196, e_main_cst_41, e_main_v195, e_main_v194,
    e_main_cst_40, e_main_v193, e_main_v192, e_main_v191, e_main_v190, e_main_v189, e_main_cst_39, e_main_v188, e_main_v187, e_main_call12_v1, e_main_call12_v0, e_main_cst_38,
    e_main_v186, e_main_v185, e_main_v184, e_main_cst_37, e_main_v183, e_main_call11_v1, e_main_call11_v0, e_main_cst_36, e_main_v182, e_main_v181, e_main_v180, e_main_v179,
    e_main_cst_35, e_main_v178, e_main_v177, e_main_cst_34, e_main_v176, e_main_call9_v1, e_main_call9_v0, e_main_cst_33, e_main_cst_32, e_main_v175, e_main_v174, e_main_cst_31,
    hP, hT, hK]
  simp only [id_eq]
  pointwise []
  refine Finset.sum_congr rfl fun i _ => Finset.sum_congr rfl fun n _ => Finset.sum_congr rfl fun c _ => congrArg (fun z => z * K (ix3 i n 0)) ?_
  generalize T (ix3 i n c) = t
  generalize P (ix3 i n c) = q
  unfold term
  by_cases h : t = 1
  · simp only [h, if_true]
  · simp only [h, if_false]

/-- A term of the regression sum. -/
theorem smooth (x : EReal) {_ : Decidable (Ideal.ofBits .f32 0x3DE38E39#32 ≤ x)} :
    (if Ideal.ofBits .f32 0x3DE38E39#32 ≤ x then x - Ideal.ofBits .f32 0x3D638E39#32
      else Ideal.div (Ideal.ofBits .f32 0x3F000000#32 * (x * x)) (Ideal.ofBits .f32 0x3DE38E39#32)) = Spec.sl1 x := by
  have hd : ∀ y : EReal, Ideal.div (Ideal.ofBits .f32 0x3F000000#32 * y) (Ideal.ofBits .f32 0x3DE38E39#32) = Spec.fourHalf * y := fun y => by
    have e : Ideal.ofBits .f32 0x3DE38E39#32 = ((14913081 / 134217728 : ℝ) : EReal) := Spec.ninth_eq
    have hn : ((14913081 / 134217728 : ℝ) : EReal) ≠ 0 := by
      rw [← EReal.coe_zero]; exact fun h => by have := EReal.coe_injective h; norm_num at this
    rw [e, Spec.ofBits_half]
    unfold Ideal.div
    rw [if_neg hn, ← EReal.coe_inv, mul_right_comm, Spec.half, ← EReal.coe_mul, Spec.fourHalf]
    norm_num
  rw [hd]
  unfold Spec.sl1 Spec.ninth Spec.eighteenth
  by_cases h : Ideal.ofBits .f32 0x3DE38E39#32 ≤ x
  · simp only [h, if_true]
  · simp only [h, if_false]

theorem loc_terms (hX : (W V main_arg1 : FVec Ideal S2x20000x4 .f32) = X) {G : FVec Ideal S2x20000x4 .f32} {K : FVec Ideal S2x20000x1 .f32}
    (hG : (W V main_v160 : FVec Ideal S2x20000x4 .f32) = G) (hK : (W V main_v173 : FVec Ideal S2x20000x1 .f32) = K) :
    @Eq EReal ((W V main_v219 : FVec Ideal S_ .f32) ix0) (∑ i : Fin 2, ∑ n : Fin 20000, ∑ k : Fin 4,
      Spec.sl1 (max (X (ix3 i n k) - G (ix3 i n k)) (-(X (ix3 i n k) - G (ix3 i n k)))) * K (ix3 i n 0)) := by
  rw [e_main_v219, e_main_cst_47, e_main_v218, e_main_v217, e_main_v212, e_main_v211, e_main_v210, e_main_cst_45, e_main_v209, e_main_v208, e_main_cst_44, e_main_v207,
    e_main_v206, e_main_v205, e_main_cst_43, e_main_v204, e_main_v203, e_main_cst_42, e_main_v202, e_main_v201, hX, hG, hK]
  pointwise []
  refine Finset.sum_congr rfl fun i _ => Finset.sum_congr rfl fun n _ => Finset.sum_congr rfl fun c _ => congrArg (fun z => z * K (ix3 i n 0)) ?_
  exact smooth (max (X (ix3 i n c) - G (ix3 i n c)) (-(X (ix3 i n c) - G (ix3 i n c))))

variable {A : FVec Ideal S20000x4 .f32} {B : FVec Ideal S2x32x4 .f32} {L : IVec S2x32 32}

/-- The reference's classification sum. -/
theorem cls_eq (hP : (W V main_arg0 : FVec Ideal S2x20000x80 .f32) = P) (hA : (W V main_arg4 : FVec Ideal S20000x4 .f32) = A)
    (hB : (W V main_arg2 : FVec Ideal S2x32x4 .f32) = B) (hL : (W V main_arg3 : IVec S2x32 32) = L) (l : Fin 2 → Fin 32 → ℕ)
    (hp : ∀ i n c, ∃ r : ℝ, P (ix3 i n c) = (r : EReal)) (hl : ∀ i j, l i j < 80) (hw : ∀ i j, L (ix2 i j) + 1#32 = BitVec.ofNat 32 (l i j)) :
    @Eq EReal ((W V main_v215 : FVec Ideal S_ .f32) ix0) (∑ i : Fin 2, Spec.cls (anc A) (box B i) (fun n c => P (ix3 i n c)) (l i)) := by
  rw [cls_terms V hP rfl rfl]
  refine Finset.sum_congr rfl fun i _ => Finset.sum_congr rfl fun n _ => ?_
  refine row_eq (p := fun n c => P (ix3 i n c)) _ _ (hp i n) (hl i) (fun c => ?_) (mask_eq V hA hB i n)
  have h := target_eq V hA hB hL i n c
  rw [hw] at h
  exact h

/-- The reference's regression sum. -/
theorem loc_eq (hX : (W V main_arg1 : FVec Ideal S2x20000x4 .f32) = X) (hA : (W V main_arg4 : FVec Ideal S20000x4 .f32) = A)
    (hB : (W V main_arg2 : FVec Ideal S2x32x4 .f32) = B) :
    @Eq EReal ((W V main_v219 : FVec Ideal S_ .f32) ix0) (∑ i : Fin 2, Spec.loc (anc A) (box B i) (fun n k => X (ix3 i n k))) := by
  rw [loc_terms V hX rfl rfl]
  refine Finset.sum_congr rfl fun i _ => Finset.sum_congr rfl fun n _ => Finset.sum_congr rfl fun k _ => ?_
  rw [gt_eq V hA hB i n k, weight_eq V hA hB i n]

end Cert.RefValue

end
-- ==== Proof.Domain.lean ====
/- What the precondition says: the predicted probabilities are real numbers, and a label plus one is a class, 0 to 79. -/
module

public import proofs.«01_k».proof.Proof.Gen.Pre_ok
public import Idealize.ShloMosaic.Lib.ReduceAll
public import Idealize.ShloMosaic.Lib.Affine
public import Idealize.ShloMosaic.Lib.Pointwise
public import Idealize.ShloMosaic.PureOps.Ideal.Laws

@[expose] public section

noncomputable section

namespace Cert.Domain

open Idealize.ShloMosaic
open Cert.Pre_ok Cert.Pre_ok.Gen

variable {P : FVec Ideal S2x20000x80 .f32} {X : FVec Ideal S2x20000x4 .f32} {B : FVec Ideal S2x32x4 .f32} {L : IVec S2x32 32} {A : FVec Ideal S20000x4 .f32}

instance : Subsingleton S_.Idx := ⟨fun a b => funext fun k => k.elim0⟩

theorem bit_one {Q : Prop} {_ : Decidable Q} (h : BitVec.ofBool (decide Q) = 1#1) : Q := by
  by_contra q
  rw [decide_eq_false q] at h
  exact absurd h (by decide)

theorem real_of {x : EReal} (h : ⊥ < x) (h' : x < ⊤) : ∃ r : ℝ, x = (r : EReal) :=
  ⟨x.toReal, (EReal.coe_toReal h'.ne h.ne').symm⟩

theorem ofBits_negInf : Ideal.ofBits .f32 0xFF800000#32 = ⊥ := by
  simp [Ideal.ofBits, Ideal.ieee]
theorem ofBits_posInf : Ideal.ofBits .f32 0x7F800000#32 = ⊤ := by
  simp [Ideal.ofBits, Ideal.ieee]

theorem label_of {w : BitVec 32} (h : (4294967295#32).toInt ≤ w.toInt) (h' : w.toInt < (79#32).toInt) :
    (w + 1#32).toNat < 80 ∧ w.toInt = ((w + 1#32).toNat : ℤ) - 1 := by
  have e0 : (4294967295#32).toInt = -1 := by decide
  have e1 : (79#32).toInt = 79 := by decide
  rw [e0] at h
  rw [e1] at h'
  rw [BitVec.toInt_eq_toNat_cond] at h h' ⊢
  rw [BitVec.toNat_add, BitVec.toNat_ofNat]
  have := w.isLt
  split_ifs at h h' ⊢ <;> omega

theorem reads (h : Cert.Pre_ok.fn (F := Ideal) P X B L A = fun _ => 1#1) :
    (∀ i n c, ∃ r : ℝ, P (ix3 i n c) = (r : EReal)) ∧ ∀ i j, (L (ix2 i j) + 1#32).toNat < 80 ∧ (L (ix2 i j)).toInt = ((L (ix2 i j) + 1#32).toNat : ℤ) - 1 := by
  have h0 := congrFun h ix0
  unfold Cert.Pre_ok.fn at h0
  obtain ⟨hp, hl⟩ := IntOp.andi_eq_one.mp h0
  constructor
  · intro i n c
    obtain ⟨h1, h2⟩ := IntOp.andi_eq_one.mp (Host.reduce_andi_all _ _ _ _ _ hp (ix3 i n c))
    have h1' : BitVec.ofBool (decide (Ideal.ofBits .f32 0xFF800000#32 < P (ix3 i n c))) = 1#1 := h1
    have h2' : BitVec.ofBool (decide (P (ix3 i n c) < Ideal.ofBits .f32 0x7F800000#32)) = 1#1 := h2
    have k1 := bit_one h1'
    have k2 := bit_one h2'
    rw [ofBits_negInf] at k1
    rw [ofBits_posInf] at k2
    exact real_of k1 k2
  · intro i j
    obtain ⟨h1, h2⟩ := IntOp.andi_eq_one.mp (Host.reduce_andi_all _ _ _ _ _ hl (ix2 i j))
    have h1' : BitVec.ofBool (decide ((4294967295#32).toInt ≤ (L (ix2 i j)).toInt)) = 1#1 := h1
    have h2' : BitVec.ofBool (decide ((L (ix2 i j)).toInt < (79#32).toInt)) = 1#1 := h2
    exact label_of (bit_one h1') (bit_one h2')

end Cert.Domain

end
-- ==== Proof.Value.lean ====
/- The value claim: over the extended reals the kernel's three results are the reference's. -/
module

public import proofs.«01_k».proof.Defs
public import proofs.«01_k».proof.Proof.Kernel.Totals
public import proofs.«01_k».proof.Proof.Ref.Terms
public import proofs.«01_k».proof.Proof.Domain

@[expose] public section

noncomputable section

namespace Cert.Proof.Value

open Idealize.ShloMosaic Idealize.ShloMosaic.TcCoe Idealize.SL.Sem Idealize.ShloMosaic.StableHlo
open Idealize.ShloMosaic.Pointwise

/-- A one-element array as a scalar. -/
theorem scalar_eq {x : FVec Ideal Cert.ReferenceIdeal.S_ .f32} {y : FVec Ideal Cert.KernelIdeal.S1x1 .f32}
    (h : Cert.KernelIdeal.S1x1.ShapeCasts Cert.KernelIdeal.S_) {s : EReal} (hx : @Eq EReal (x ix0) s) (hy : @Eq EReal (y (ix2 0 0)) s) :
    x = shapeCast Cert.KernelIdeal.S_ y h := by
  funext j
  obtain rfl : j = ix0 := funext fun k => k.elim0
  have e : shapeCast Cert.KernelIdeal.S_ y h ix0 = y (ix2 0 0) := by
    pointwise []
  rw [e]
  exact hx.trans hy.symm

/-- The reference's three results from equal arguments. -/
theorem results (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    {P : FVec Ideal Cert.KernelIdeal.S2x20000x80 .f32} {X : FVec Ideal Cert.KernelIdeal.S2x20000x4 .f32} {B : FVec Ideal Cert.KernelIdeal.S2x32x4 .f32}
    {L : IVec Cert.KernelIdeal.S2x32 32} {A : FVec Ideal Cert.KernelIdeal.S20000x4 .f32}
    (kP : (m ((c : Thread Cert.KernelIdeal.nD Cert.KernelIdeal.τ).loc Cert.KernelIdeal.main_arg0) : FVec Ideal Cert.KernelIdeal.S2x20000x80 .f32) = P)
    (kX : (m ((c : Thread Cert.KernelIdeal.nD Cert.KernelIdeal.τ).loc Cert.KernelIdeal.main_arg1) : FVec Ideal Cert.KernelIdeal.S2x20000x4 .f32) = X)
    (kB : (m ((c : Thread Cert.KernelIdeal.nD Cert.KernelIdeal.τ).loc Cert.KernelIdeal.main_arg2) : FVec Ideal Cert.KernelIdeal.S2x32x4 .f32) = B)
    (kL : (m ((c : Thread Cert.KernelIdeal.nD Cert.KernelIdeal.τ).loc Cert.KernelIdeal.main_arg3) : IVec Cert.KernelIdeal.S2x32 32) = L)
    (kA : (m ((c : Thread Cert.KernelIdeal.nD Cert.KernelIdeal.τ).loc Cert.KernelIdeal.main_arg4) : FVec Ideal Cert.KernelIdeal.S20000x4 .f32) = A)
    (rP : (Cert.RefEqs.W V Cert.ReferenceIdeal.main_arg0 : FVec Ideal Cert.ReferenceIdeal.S2x20000x80 .f32) = P)
    (rX : (Cert.RefEqs.W V Cert.ReferenceIdeal.main_arg1 : FVec Ideal Cert.ReferenceIdeal.S2x20000x4 .f32) = X)
    (rB : (Cert.RefEqs.W V Cert.ReferenceIdeal.main_arg2 : FVec Ideal Cert.ReferenceIdeal.S2x32x4 .f32) = B)
    (rL : (Cert.RefEqs.W V Cert.ReferenceIdeal.main_arg3 : IVec Cert.ReferenceIdeal.S2x32 32) = L)
    (rA : (Cert.RefEqs.W V Cert.ReferenceIdeal.main_arg4 : FVec Ideal Cert.ReferenceIdeal.S20000x4 .f32) = A)
    (hok : Cert.Pre_ok.fn (F := Ideal) P X B L A = fun _ => 1#1) (h : Cert.KernelIdeal.S1x1.ShapeCasts Cert.KernelIdeal.S_) :
    (Cert.RefEqs.W V Cert.ReferenceIdeal.main_v215 : FVec Ideal Cert.ReferenceIdeal.S_ .f32) = shapeCast Cert.KernelIdeal.S_ (Cert.KernelIdeal.Value.clsAll m c) h
    ∧ (Cert.RefEqs.W V Cert.ReferenceIdeal.main_v219 : FVec Ideal Cert.ReferenceIdeal.S_ .f32) = shapeCast Cert.KernelIdeal.S_ (Cert.KernelIdeal.Value.locAll m c) h
    ∧ (Cert.RefEqs.W V Cert.ReferenceIdeal.main_v165 : FVec Ideal Cert.ReferenceIdeal.S_ .f32) = shapeCast Cert.KernelIdeal.S_ (Cert.KernelIdeal.Value.nposAll m c) h := by
  obtain ⟨hp, hl⟩ := Cert.Domain.reads hok
  refine ⟨scalar_eq h ?_ (Cert.KernelIdeal.Value.cls_total m c kP kB kL kA (fun i j => (L (ix2 i j) + 1#32).toNat) hp (fun i j => (hl i j).1) fun i j => ?_),
    scalar_eq h ?_ (Cert.KernelIdeal.Value.loc_total m c kX kB kA), scalar_eq h ?_ (Cert.KernelIdeal.Value.npos_total m c kB kA)⟩
  · refine Cert.RefValue.cls_eq V rP rA rB rL (fun i j => (L (ix2 i j) + 1#32).toNat) hp (fun i j => (hl i j).1) fun i j => ?_
    rw [BitVec.ofNat_toNat, BitVec.setWidth_eq]
  · rw [(hl i j).2, Int.cast_sub, Int.cast_natCast, Int.cast_one]
  · exact Cert.RefValue.loc_eq V rX rA rB
  · exact Cert.RefValue.count_eq V rA rB

theorem algebraic : Cert.algebraic_KernelIdeal_ReferenceIdeal_pre_ok := by
  intro m g m' g' hpre hagree
  refine ⟨_, _, _, Cert.KernelIdeal.Value.run m g, ?_⟩
  refine (θ_run Cert.ReferenceIdeal.defs _ _).mono (fun r h c => ?_) (Cert.RefEqs.run (F := Ideal) m' g')
  obtain ⟨h0, h1, h2, h3, h4⟩ := hagree c
  have a0 := Cert.RefEqs.W_arg (F := Ideal) (launchContents m' c) Cert.ReferenceIdeal.main_arg0 (by decide)
  have a1 := Cert.RefEqs.W_arg (F := Ideal) (launchContents m' c) Cert.ReferenceIdeal.main_arg1 (by decide)
  have a2 := Cert.RefEqs.W_arg (F := Ideal) (launchContents m' c) Cert.ReferenceIdeal.main_arg2 (by decide)
  have a3 := Cert.RefEqs.W_arg (F := Ideal) (launchContents m' c) Cert.ReferenceIdeal.main_arg3 (by decide)
  have a4 := Cert.RefEqs.W_arg (F := Ideal) (launchContents m' c) Cert.ReferenceIdeal.main_arg4 (by decide)
  obtain ⟨e1, e2, e3⟩ := results m c (launchContents m' c) rfl rfl rfl rfl rfl (a0.trans h0) (a1.trans h1) (a2.trans h2) (a3.trans h3) (a4.trans h4) (hpre c)
    Cert.KernelIdeal.Facts₀.shapeCasts_S1x1_S_
  have q1 := (Cert.RefEqs.e_main_v216 (F := Ideal) (launchContents m' c)).trans (congrArg₂ Host.divf e1 e3)
  have q2 := (Cert.RefEqs.e_main_v220 (F := Ideal) (launchContents m' c)).trans (congrArg₂ Host.divf e2 e3)
  have q0 := (Cert.RefEqs.e_main_v221 (F := Ideal) (launchContents m' c)).trans (congrArg₂ addf q1 q2)
  exact ⟨(h c _).trans q0, (h c _).trans q1, (h c _).trans q2, (h c _).trans a0, (h c _).trans a1, (h c _).trans a2, (h c _).trans a3, (h c _).trans a4⟩

end Cert.Proof.Value

end
-- ==== Proof.lean ====
/- The proof of the claims stated in `Defs.lean`. -/
module

public import proofs.«01_k».proof.Defs
public import proofs.«01_k».proof.Proof.Frames
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_ok.Gen.facts, Frames.frame_p, Frames.frame_pi, Frames.frame_pi_ok, Frames.frame_ri, Frames.frame_ri_ok, Frames.preserves, Value.algebraic⟩

end Cert.Proof

end
